-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = Layout.block ⟨3, ![2, 256, 768]⟩ ⟨3, ![2, 1024, 768]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 768]⟩ ⟨3, ![2, 1024, 768]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S2x256x768 : Shape := ⟨3, ![2, 256, 768]⟩
abbrev S768x256 : Shape := ⟨2, ![768, 256]⟩
abbrev S256x768 : Shape := ⟨2, ![256, 768]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_

variable [Facts]

def fn {F : FTy → Type} [FloatOps F] (main_arg0 : FVec F S2x256x768 .f32) (main_arg1 : FVec F S768x256 .f32) (main_arg2 : FVec F S768x256 .f32) (main_arg3 : FVec F S768x256 .f32) (main_arg4 : FVec F S256x768 .f32) : IVec S_ 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  main_v13
-- ==== Pre_finite_inputs_ReferenceIdeal.lean ====
abbrev S2x1024x768 : Shape := ⟨3, ![2, 1024, 768]⟩
abbrev S768x256 : Shape := ⟨2, ![768, 256]⟩
abbrev S256x768 : Shape := ⟨2, ![256, 768]⟩
abbrev S_ : Shape := ⟨0, ![]⟩

class Facts : Prop where
  bcast_S_S2x1024x768 : S_.BroadcastsInDim S2x1024x768 (![] : Fin 0 → Fin S2x1024x768.rank)
  reducesTo_S2x1024x768_S_d0_1_2 : S2x1024x768.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_

variable [Facts]

def fn {F : FTy → Type} [FloatOps F] (main_arg0 : FVec F S2x1024x768 .f32) (main_arg1 : FVec F S768x256 .f32) (main_arg2 : FVec F S768x256 .f32) (main_arg3 : FVec F S768x256 .f32) (main_arg4 : FVec F S256x768 .f32) : IVec S_ 1 :=
  let main_v0 : FVec F S2x1024x768 .f32 := Host.absf main_arg0
  let main_cst : FVec F S_ .f32 := constant S_ .f32 0x7F800000#32
  let main_v1 : FVec F S2x1024x768 .f32 := broadcastInDim S2x1024x768 ![] bcast_S_S2x1024x768 main_cst
  let main_v2 : IVec S2x1024x768 1 := cmpf .olt main_v0 main_v1
  let main_c : IVec S_ 1 := constantI S_ 1 1#1
  let main_v3 : IVec S_ 1 := (fun x v => Host.reduce IntOp.andi x v reducesTo_S2x1024x768_S_d0_1_2 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  main_v13
-- ==== Kernel.lean ====
abbrev S2x256x768 : Shape := ⟨3, ![2, 256, 768]⟩
abbrev S768x256 : Shape := ⟨2, ![768, 256]⟩
abbrev S256x768 : Shape := ⟨2, ![256, 768]⟩
abbrev S4x1024x256 : Shape := ⟨3, ![4, 1024, 256]⟩
abbrev S4 : Shape := ⟨1, ![4]⟩
abbrev S_ : Shape := ⟨0, ![]⟩
abbrev S256x256 : Shape := ⟨2, ![256, 256]⟩
abbrev S1x256x768 : Shape := ⟨3, ![1, 256, 768]⟩
abbrev S1x256x256 : Shape := ⟨3, ![1, 256, 256]⟩
abbrev S1 : Shape := ⟨1, ![1]⟩
abbrev S4x256x256 : Shape := ⟨3, ![4, 256, 256]⟩
abbrev S256x1 : Shape := ⟨2, ![256, 1]⟩
abbrev S256x64 : Shape := ⟨2, ![256, 64]⟩
abbrev S1x256x64 : Shape := ⟨3, ![1, 256, 64]⟩
abbrev S256 : Shape := ⟨1, ![256]⟩
abbrev S2x256x256 : Shape := ⟨3, ![2, 256, 256]⟩

abbrev nBuf : Space → Nat
  | .hbm => 6
  | .vmem => 7
  | .smem => 0
  | _ => 0

abbrev bufTy : (tb : Table) → Fin (tcTables nBuf tb) → BufTy
  | .hbm, ⟨0, _⟩ => ⟨S2x256x768, .f32⟩
  | .hbm, ⟨1, _⟩ => ⟨S768x256, .f32⟩
  | .hbm, ⟨2, _⟩ => ⟨S768x256, .f32⟩
  | .hbm, ⟨3, _⟩ => ⟨S768x256, .f32⟩
  | .hbm, ⟨4, _⟩ => ⟨S256x768, .f32⟩
  | .hbm, ⟨5, _⟩ => ⟨S2x256x768, .f32⟩
  | .local _ .vmem, ⟨0, _⟩ => ⟨S2x256x768, .f32⟩
  | .local _ .vmem, ⟨1, _⟩ => ⟨S768x256, .f32⟩
  | .local _ .vmem, ⟨2, _⟩ => ⟨S768x256, .f32⟩
  | .local _ .vmem, ⟨3, _⟩ => ⟨S768x256, .f32⟩
  | .local _ .vmem, ⟨4, _⟩ => ⟨S256x768, .f32⟩
  | .local _ .vmem, ⟨5, _⟩ => ⟨S2x256x768, .f32⟩
  | .local _ .vmem, ⟨6, _⟩ => ⟨S4x1024x256, .f32⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_off1 (d0 : Dev nD) : Fin 3 → Nat :=
  let c0_54 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_53 : BitVec 32 := 256#32
  let v136 : BitVec 32 := Scalar.muli v2 c256_i32_53
  let v137 : Index := Scalar.indexCast v136
  let c0_55 : Index := 0#32
  ![0, v137.toNat, 0]
def k0_off2 (d0 : Dev nD) : Fin 3 → Nat :=
  let c2 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_59 : BitVec 32 := 256#32
  let v144 : BitVec 32 := Scalar.muli v2 c256_i32_59
  let v145 : Index := Scalar.indexCast v144
  let c0_60 : Index := 0#32
  ![2, v145.toNat, 0]
def k0_off3 (d0 : Dev nD) : Fin 3 → Nat :=
  let c1_68 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_67 : BitVec 32 := 256#32
  let v158 : BitVec 32 := Scalar.muli v2 c256_i32_67
  let v159 : Index := Scalar.indexCast v158
  let c0_69 : Index := 0#32
  ![1, v159.toNat, 0]
def k0_off4 (d0 : Dev nD) : Fin 3 → Nat :=
  let c3 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_73 : BitVec 32 := 256#32
  let v166 : BitVec 32 := Scalar.muli v2 c256_i32_73
  let v167 : Index := Scalar.indexCast v166
  let c0_74 : Index := 0#32
  ![3, v167.toNat, 0]
def k0_off5 (d0 : Dev nD) : Fin 3 → Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_76 : BitVec 32 := 256#32
  let v172 : BitVec 32 := Scalar.muli v2 c256_i32_76
  let c0_i32_84 : BitVec 32 := 0#32
  ![0, v172.toNat, 0]
def k0_dev3 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_81 : BitVec 32 := 1#32
  let v175 : BitVec 32 := Scalar.muli v7 c1_i32_81
  let v176 : BitVec 32 := Scalar.addi c0_i32_82 v175
  v176.toNat
def k0_dev4 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_89 : BitVec 32 := 1#32
  let v183 : BitVec 32 := Scalar.muli v5 c1_i32_89
  let v184 : BitVec 32 := Scalar.addi c0_i32_90 v183
  v184.toNat
def k0_off6 (d0 : Dev nD) : Fin 3 → Nat :=
  let c0_113 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_112 : BitVec 32 := 256#32
  let v213 : BitVec 32 := Scalar.muli v2 c256_i32_112
  let v214 : Index := Scalar.indexCast v213
  let c0_114 : Index := 0#32
  ![0, v214.toNat, 0]
def k0_off7 (d0 : Dev nD) : Fin 3 → Nat :=
  let c2_116 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_115 : BitVec 32 := 256#32
  let v217 : BitVec 32 := Scalar.muli v2 c256_i32_115
  let v218 : Index := Scalar.indexCast v217
  let c0_117 : Index := 0#32
  ![2, v218.toNat, 0]
def k0_off8 (d0 : Dev nD) : Fin 3 → Nat :=
  let c0_124 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_123 : BitVec 32 := 256#32
  let v241 : BitVec 32 := Scalar.muli v2 c256_i32_123
  let v242 : Index := Scalar.indexCast v241
  let c64 : Index := 64#32
  ![0, v242.toNat, 64]
def k0_off9 (d0 : Dev nD) : Fin 3 → Nat :=
  let c2_126 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_125 : BitVec 32 := 256#32
  let v245 : BitVec 32 := Scalar.muli v2 c256_i32_125
  let v246 : Index := Scalar.indexCast v245
  let c64_127 : Index := 64#32
  ![2, v246.toNat, 64]
def k0_off10 (d0 : Dev nD) : Fin 3 → Nat :=
  let c0_134 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_133 : BitVec 32 := 256#32
  let v269 : BitVec 32 := Scalar.muli v2 c256_i32_133
  let v270 : Index := Scalar.indexCast v269
  let c128 : Index := 128#32
  ![0, v270.toNat, 128]
def k0_off11 (d0 : Dev nD) : Fin 3 → Nat :=
  let c2_136 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_135 : BitVec 32 := 256#32
  let v273 : BitVec 32 := Scalar.muli v2 c256_i32_135
  let v274 : Index := Scalar.indexCast v273
  let c128_137 : Index := 128#32
  ![2, v274.toNat, 128]
def k0_off12 (d0 : Dev nD) : Fin 3 → Nat :=
  let c0_144 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_143 : BitVec 32 := 256#32
  let v297 : BitVec 32 := Scalar.muli v2 c256_i32_143
  let v298 : Index := Scalar.indexCast v297
  let c192 : Index := 192#32
  ![0, v298.toNat, 192]
def k0_off13 (d0 : Dev nD) : Fin 3 → Nat :=
  let c2_146 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_145 : BitVec 32 := 256#32
  let v301 : BitVec 32 := Scalar.muli v2 c256_i32_145
  let v302 : Index := Scalar.indexCast v301
  let c192_147 : Index := 192#32
  ![2, v302.toNat, 192]
def k0_off14 (d0 : Dev nD) : Fin 3 → Nat :=
  let c1_154 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_153 : BitVec 32 := 256#32
  let v325 : BitVec 32 := Scalar.muli v2 c256_i32_153
  let v326 : Index := Scalar.indexCast v325
  let c0_155 : Index := 0#32
  ![1, v326.toNat, 0]
def k0_off15 (d0 : Dev nD) : Fin 3 → Nat :=
  let c3_157 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_156 : BitVec 32 := 256#32
  let v329 : BitVec 32 := Scalar.muli v2 c256_i32_156
  let v330 : Index := Scalar.indexCast v329
  let c0_158 : Index := 0#32
  ![3, v330.toNat, 0]
def k0_off16 (d0 : Dev nD) : Fin 3 → Nat :=
  let c1_165 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_164 : BitVec 32 := 256#32
  let v353 : BitVec 32 := Scalar.muli v2 c256_i32_164
  let v354 : Index := Scalar.indexCast v353
  let c64_166 : Index := 64#32
  ![1, v354.toNat, 64]
def k0_off17 (d0 : Dev nD) : Fin 3 → Nat :=
  let c3_168 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_167 : BitVec 32 := 256#32
  let v357 : BitVec 32 := Scalar.muli v2 c256_i32_167
  let v358 : Index := Scalar.indexCast v357
  let c64_169 : Index := 64#32
  ![3, v358.toNat, 64]
def k0_off18 (d0 : Dev nD) : Fin 3 → Nat :=
  let c1_176 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_175 : BitVec 32 := 256#32
  let v381 : BitVec 32 := Scalar.muli v2 c256_i32_175
  let v382 : Index := Scalar.indexCast v381
  let c128_177 : Index := 128#32
  ![1, v382.toNat, 128]
def k0_off19 (d0 : Dev nD) : Fin 3 → Nat :=
  let c3_179 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_178 : BitVec 32 := 256#32
  let v385 : BitVec 32 := Scalar.muli v2 c256_i32_178
  let v386 : Index := Scalar.indexCast v385
  let c128_180 : Index := 128#32
  ![3, v386.toNat, 128]
def k0_off20 (d0 : Dev nD) : Fin 3 → Nat :=
  let c1_187 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_186 : BitVec 32 := 256#32
  let v409 : BitVec 32 := Scalar.muli v2 c256_i32_186
  let v410 : Index := Scalar.indexCast v409
  let c192_188 : Index := 192#32
  ![1, v410.toNat, 192]
def k0_off21 (d0 : Dev nD) : Fin 3 → Nat :=
  let c3_190 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_189 : BitVec 32 := 256#32
  let v413 : BitVec 32 := Scalar.muli v2 c256_i32_189
  let v414 : Index := Scalar.indexCast v413
  let c192_191 : Index := 192#32
  ![3, v414.toNat, 192]
def k0_off22 (d0 : Dev nD) : Fin 3 → Nat :=
  let c0_i32_211 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_206 : BitVec 32 := 256#32
  let v443 : BitVec 32 := Scalar.muli v5 c256_i32_206
  let c0_i32_212 : BitVec 32 := 0#32
  ![0, v443.toNat, 0]
def k0_dev5 (d0 : Dev nD) : Nat :=
  let c0_i32_210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_209 : BitVec 32 := 1#32
  let v444 : BitVec 32 := Scalar.muli v7 c1_i32_209
  let v445 : BitVec 32 := Scalar.addi c0_i32_210 v444
  v445.toNat
def k0_off23 (d0 : Dev nD) : Fin 3 → Nat :=
  let c0_216 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_215 : BitVec 32 := 256#32
  let v453 : BitVec 32 := Scalar.muli v5 c256_i32_215
  let v454 : Index := Scalar.indexCast v453
  let c0_217 : Index := 0#32
  ![0, v454.toNat, 0]
def k0_off24 (d0 : Dev nD) : Fin 3 → Nat :=
  let c2_219 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_218 : BitVec 32 := 256#32
  let v457 : BitVec 32 := Scalar.muli v5 c256_i32_218
  let v458 : Index := Scalar.indexCast v457
  let c0_220 : Index := 0#32
  ![2, v458.toNat, 0]
def k0_off25 (d0 : Dev nD) : Fin 3 → Nat :=
  let c0_227 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_226 : BitVec 32 := 256#32
  let v481 : BitVec 32 := Scalar.muli v5 c256_i32_226
  let v482 : Index := Scalar.indexCast v481
  let c64_228 : Index := 64#32
  ![0, v482.toNat, 64]
def k0_off26 (d0 : Dev nD) : Fin 3 → Nat :=
  let c2_230 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_229 : BitVec 32 := 256#32
  let v485 : BitVec 32 := Scalar.muli v5 c256_i32_229
  let v486 : Index := Scalar.indexCast v485
  let c64_231 : Index := 64#32
  ![2, v486.toNat, 64]
def k0_off27 (d0 : Dev nD) : Fin 3 → Nat :=
  let c0_238 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_237 : BitVec 32 := 256#32
  let v509 : BitVec 32 := Scalar.muli v5 c256_i32_237
  let v510 : Index := Scalar.indexCast v509
  let c128_239 : Index := 128#32
  ![0, v510.toNat, 128]
def k0_off28 (d0 : Dev nD) : Fin 3 → Nat :=
  let c2_241 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_240 : BitVec 32 := 256#32
  let v513 : BitVec 32 := Scalar.muli v5 c256_i32_240
  let v514 : Index := Scalar.indexCast v513
  let c128_242 : Index := 128#32
  ![2, v514.toNat, 128]
def k0_off29 (d0 : Dev nD) : Fin 3 → Nat :=
  let c0_249 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_248 : BitVec 32 := 256#32
  let v537 : BitVec 32 := Scalar.muli v5 c256_i32_248
  let v538 : Index := Scalar.indexCast v537
  let c192_250 : Index := 192#32
  ![0, v538.toNat, 192]
def k0_off30 (d0 : Dev nD) : Fin 3 → Nat :=
  let c2_252 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_251 : BitVec 32 := 256#32
  let v541 : BitVec 32 := Scalar.muli v5 c256_i32_251
  let v542 : Index := Scalar.indexCast v541
  let c192_253 : Index := 192#32
  ![2, v542.toNat, 192]
def k0_off31 (d0 : Dev nD) : Fin 3 → Nat :=
  let c1_260 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_259 : BitVec 32 := 256#32
  let v565 : BitVec 32 := Scalar.muli v5 c256_i32_259
  let v566 : Index := Scalar.indexCast v565
  let c0_261 : Index := 0#32
  ![1, v566.toNat, 0]
def k0_off32 (d0 : Dev nD) : Fin 3 → Nat :=
  let c3_263 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_262 : BitVec 32 := 256#32
  let v569 : BitVec 32 := Scalar.muli v5 c256_i32_262
  let v570 : Index := Scalar.indexCast v569
  let c0_264 : Index := 0#32
  ![3, v570.toNat, 0]
def k0_off33 (d0 : Dev nD) : Fin 3 → Nat :=
  let c1_271 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_270 : BitVec 32 := 256#32
  let v593 : BitVec 32 := Scalar.muli v5 c256_i32_270
  let v594 : Index := Scalar.indexCast v593
  let c64_272 : Index := 64#32
  ![1, v594.toNat, 64]
def k0_off34 (d0 : Dev nD) : Fin 3 → Nat :=
  let c3_274 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_273 : BitVec 32 := 256#32
  let v597 : BitVec 32 := Scalar.muli v5 c256_i32_273
  let v598 : Index := Scalar.indexCast v597
  let c64_275 : Index := 64#32
  ![3, v598.toNat, 64]
def k0_off35 (d0 : Dev nD) : Fin 3 → Nat :=
  let c1_282 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_281 : BitVec 32 := 256#32
  let v621 : BitVec 32 := Scalar.muli v5 c256_i32_281
  let v622 : Index := Scalar.indexCast v621
  let c128_283 : Index := 128#32
  ![1, v622.toNat, 128]
def k0_off36 (d0 : Dev nD) : Fin 3 → Nat :=
  let c3_285 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_284 : BitVec 32 := 256#32
  let v625 : BitVec 32 := Scalar.muli v5 c256_i32_284
  let v626 : Index := Scalar.indexCast v625
  let c128_286 : Index := 128#32
  ![3, v626.toNat, 128]
def k0_off37 (d0 : Dev nD) : Fin 3 → Nat :=
  let c1_293 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_292 : BitVec 32 := 256#32
  let v649 : BitVec 32 := Scalar.muli v5 c256_i32_292
  let v650 : Index := Scalar.indexCast v649
  let c192_294 : Index := 192#32
  ![1, v650.toNat, 192]
def k0_off38 (d0 : Dev nD) : Fin 3 → Nat :=
  let c3_296 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_295 : BitVec 32 := 256#32
  let v653 : BitVec 32 := Scalar.muli v5 c256_i32_295
  let v654 : Index := Scalar.indexCast v653
  let c192_297 : Index := 192#32
  ![3, v654.toNat, 192]
def k0_off39 (d0 : Dev nD) : Fin 3 → Nat :=
  let c2_i32_316 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c256_i32_312 : BitVec 32 := 256#32
  let v683 : BitVec 32 := Scalar.muli v7 c256_i32_312
  let c0_i32_317 : BitVec 32 := 0#32
  ![2, v683.toNat, 0]
def k0_dev6 (d0 : Dev nD) : Nat :=
  let c0_i32_315 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_314 : BitVec 32 := 1#32
  let v684 : BitVec 32 := Scalar.muli v5 c1_i32_314
  let v685 : BitVec 32 := Scalar.addi c0_i32_315 v684
  v685.toNat
def k0_off40 (d0 : Dev nD) (c1_i32_3 : BitVec 32) : Fin 3 → Nat :=
  let c0_321 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_320 : BitVec 32 := 256#32
  let v693 : BitVec 32 := Scalar.muli v7 c256_i32_320
  let v694 : Index := Scalar.indexCast v693
  let c0_322 : Index := 0#32
  ![0, v694.toNat, 0]
def k0_off41 (d0 : Dev nD) (c1_i32_3 : BitVec 32) : Fin 3 → Nat :=
  let c2_324 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_323 : BitVec 32 := 256#32
  let v697 : BitVec 32 := Scalar.muli v7 c256_i32_323
  let v698 : Index := Scalar.indexCast v697
  let c0_325 : Index := 0#32
  ![2, v698.toNat, 0]
def k0_off42 (d0 : Dev nD) (c1_i32_3 : BitVec 32) : Fin 3 → Nat :=
  let c0_332 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_331 : BitVec 32 := 256#32
  let v721 : BitVec 32 := Scalar.muli v7 c256_i32_331
  let v722 : Index := Scalar.indexCast v721
  let c64_333 : Index := 64#32
  ![0, v722.toNat, 64]
def k0_off43 (d0 : Dev nD) (c1_i32_3 : BitVec 32) : Fin 3 → Nat :=
  let c2_335 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_334 : BitVec 32 := 256#32
  let v725 : BitVec 32 := Scalar.muli v7 c256_i32_334
  let v726 : Index := Scalar.indexCast v725
  let c64_336 : Index := 64#32
  ![2, v726.toNat, 64]
def k0_off44 (d0 : Dev nD) (c1_i32_3 : BitVec 32) : Fin 3 → Nat :=
  let c0_343 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_342 : BitVec 32 := 256#32
  let v749 : BitVec 32 := Scalar.muli v7 c256_i32_342
  let v750 : Index := Scalar.indexCast v749
  let c128_344 : Index := 128#32
  ![0, v750.toNat, 128]
def k0_off45 (d0 : Dev nD) (c1_i32_3 : BitVec 32) : Fin 3 → Nat :=
  let c2_346 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_345 : BitVec 32 := 256#32
  let v753 : BitVec 32 := Scalar.muli v7 c256_i32_345
  let v754 : Index := Scalar.indexCast v753
  let c128_347 : Index := 128#32
  ![2, v754.toNat, 128]
def k0_off46 (d0 : Dev nD) (c1_i32_3 : BitVec 32) : Fin 3 → Nat :=
  let c0_354 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_353 : BitVec 32 := 256#32
  let v777 : BitVec 32 := Scalar.muli v7 c256_i32_353
  let v778 : Index := Scalar.indexCast v777
  let c192_355 : Index := 192#32
  ![0, v778.toNat, 192]
def k0_off47 (d0 : Dev nD) (c1_i32_3 : BitVec 32) : Fin 3 → Nat :=
  let c2_357 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_356 : BitVec 32 := 256#32
  let v781 : BitVec 32 := Scalar.muli v7 c256_i32_356
  let v782 : Index := Scalar.indexCast v781
  let c192_358 : Index := 192#32
  ![2, v782.toNat, 192]
def k0_off48 (d0 : Dev nD) (c1_i32_3 : BitVec 32) : Fin 3 → Nat :=
  let c1_365 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_364 : BitVec 32 := 256#32
  let v805 : BitVec 32 := Scalar.muli v7 c256_i32_364
  let v806 : Index := Scalar.indexCast v805
  let c0_366 : Index := 0#32
  ![1, v806.toNat, 0]
def k0_off49 (d0 : Dev nD) (c1_i32_3 : BitVec 32) : Fin 3 → Nat :=
  let c3_368 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_367 : BitVec 32 := 256#32
  let v809 : BitVec 32 := Scalar.muli v7 c256_i32_367
  let v810 : Index := Scalar.indexCast v809
  let c0_369 : Index := 0#32
  ![3, v810.toNat, 0]
def k0_off50 (d0 : Dev nD) (c1_i32_3 : BitVec 32) : Fin 3 → Nat :=
  let c1_376 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_375 : BitVec 32 := 256#32
  let v833 : BitVec 32 := Scalar.muli v7 c256_i32_375
  let v834 : Index := Scalar.indexCast v833
  let c64_377 : Index := 64#32
  ![1, v834.toNat, 64]
def k0_off51 (d0 : Dev nD) (c1_i32_3 : BitVec 32) : Fin 3 → Nat :=
  let c3_379 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_378 : BitVec 32 := 256#32
  let v837 : BitVec 32 := Scalar.muli v7 c256_i32_378
  let v838 : Index := Scalar.indexCast v837
  let c64_380 : Index := 64#32
  ![3, v838.toNat, 64]
def k0_off52 (d0 : Dev nD) (c1_i32_3 : BitVec 32) : Fin 3 → Nat :=
  let c1_387 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_386 : BitVec 32 := 256#32
  let v861 : BitVec 32 := Scalar.muli v7 c256_i32_386
  let v862 : Index := Scalar.indexCast v861
  let c128_388 : Index := 128#32
  ![1, v862.toNat, 128]
def k0_off53 (d0 : Dev nD) (c1_i32_3 : BitVec 32) : Fin 3 → Nat :=
  let c3_390 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_389 : BitVec 32 := 256#32
  let v865 : BitVec 32 := Scalar.muli v7 c256_i32_389
  let v866 : Index := Scalar.indexCast v865
  let c128_391 : Index := 128#32
  ![3, v866.toNat, 128]
def k0_off54 (d0 : Dev nD) (c1_i32_3 : BitVec 32) : Fin 3 → Nat :=
  let c1_398 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_397 : BitVec 32 := 256#32
  let v889 : BitVec 32 := Scalar.muli v7 c256_i32_397
  let v890 : Index := Scalar.indexCast v889
  let c192_399 : Index := 192#32
  ![1, v890.toNat, 192]
def k0_off55 (d0 : Dev nD) (c1_i32_3 : BitVec 32) : Fin 3 → Nat :=
  let c3_401 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_400 : BitVec 32 := 256#32
  let v893 : BitVec 32 := Scalar.muli v7 c256_i32_400
  let v894 : Index := Scalar.indexCast v893
  let c192_402 : Index := 192#32
  ![3, v894.toNat, 192]
abbrev stage0_0 : Fin 1 → Memref sig .tc .vmem S2x256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x1024x768 : Shape := ⟨3, ![2, 1024, 768]⟩
abbrev S768x256 : Shape := ⟨2, ![768, 256]⟩
abbrev S256x768 : Shape := ⟨2, ![256, 768]⟩
abbrev S32 : Shape := ⟨1, ![32]⟩
abbrev S_ : Shape := ⟨0, ![]⟩
abbrev S1024 : Shape := ⟨1, ![1024]⟩
abbrev S1024x1 : Shape := ⟨2, ![1024, 1]⟩
abbrev S1x32 : Shape := ⟨2, ![1, 32]⟩
abbrev S1024x32 : Shape := ⟨2, ![1024, 32]⟩
abbrev S1024x32x2 : Shape := ⟨3, ![1024, 32, 2]⟩
abbrev S1024x64 : Shape := ⟨2, ![1024, 64]⟩
abbrev S2x1024x256 : Shape := ⟨3, ![2, 1024, 256]⟩
abbrev S2x1024x4x64 : Shape := ⟨4, ![2, 1024, 4, 64]⟩
abbrev S2x1024x4x32x2 : Shape := ⟨5, ![2, 1024, 4, 32, 2]⟩
abbrev S2x1024x4x32x1 : Shape := ⟨5, ![2, 1024, 4, 32, 1]⟩
abbrev S2x1024x4x32 : Shape := ⟨4, ![2, 1024, 4, 32]⟩
abbrev S1x1024x1x64 : Shape := ⟨4, ![1, 1024, 1, 64]⟩
abbrev S2x4x1024x1024 : Shape := ⟨4, ![2, 4, 1024, 1024]⟩
abbrev S2x4x1024 : Shape := ⟨3, ![2, 4, 1024]⟩
abbrev S2x4x1024x1 : Shape := ⟨4, ![2, 4, 1024, 1]⟩
abbrev S2x4x64x1024 : Shape := ⟨4, ![2, 4, 64, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S768x256, .f32⟩
  | .hbm, ⟨2, _⟩ => ⟨S768x256, .f32⟩
  | .hbm, ⟨3, _⟩ => ⟨S768x256, .f32⟩
  | .hbm, ⟨4, _⟩ => ⟨S256x768, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S1024, .i32⟩
  | .hbm, ⟨23, _⟩ => ⟨S1024x1, .i32⟩
  | .hbm, ⟨24, _⟩ => ⟨S1x32, .f32⟩
  | .hbm, ⟨25, _⟩ => ⟨S1024x1, .f32⟩
  | .hbm, ⟨26, _⟩ => ⟨S1024x32, .f32⟩
  | .hbm, ⟨27, _⟩ => ⟨S1024x32, .f32⟩
  | .hbm, ⟨28, _⟩ => ⟨S1024x32, .f32⟩
  | .hbm, ⟨29, _⟩ => ⟨S1024x32, .f32⟩
  | .hbm, ⟨30, _⟩ => ⟨S1024x32x2, .f32⟩
  | .hbm, ⟨31, _⟩ => ⟨S1024x64, .f32⟩
  | .hbm, ⟨32, _⟩ => ⟨S1024x32, .f32⟩
  | .hbm, ⟨33, _⟩ => ⟨S1024x32x2, .f32⟩
  | .hbm, ⟨34, _⟩ => ⟨S1024x64, .f32⟩
  | .hbm, ⟨35, _⟩ => ⟨S2x1024x256, .f32⟩
  | .hbm, ⟨36, _⟩ => ⟨S2x1024x4x64, .f32⟩
  | .hbm, ⟨37, _⟩ => ⟨S2x1024x4x32x2, .f32⟩
  | .hbm, ⟨38, _⟩ => ⟨S2x1024x4x32x1, .f32⟩
  | .hbm, ⟨39, _⟩ => ⟨S2x1024x4x32, .f32⟩
  | .hbm, ⟨40, _⟩ => ⟨S2x1024x4x32, .f32⟩
  | .hbm, ⟨41, _⟩ => ⟨S2x1024x4x32x1, .f32⟩
  | .hbm, ⟨42, _⟩ => ⟨S2x1024x4x32, .f32⟩
  | .hbm, ⟨43, _⟩ => ⟨S2x1024x4x32x1, .f32⟩
  | .hbm, ⟨44, _⟩ => ⟨S2x1024x4x32x1, .f32⟩
  | .hbm, ⟨45, _⟩ => ⟨S2x1024x4x32x2, .f32⟩
  | .hbm, ⟨46, _⟩ => ⟨S2x1024x4x64, .f32⟩
  | .hbm, ⟨47, _⟩ => ⟨S1x1024x1x64, .f32⟩
  | .hbm, ⟨48, _⟩ => ⟨S2x1024x4x64, .f32⟩
  | .hbm, ⟨49, _⟩ => ⟨S2x1024x4x64, .f32⟩
  | .hbm, ⟨50, _⟩ => ⟨S1x1024x1x64, .f32⟩
  | .hbm, ⟨51, _⟩ => ⟨S2x1024x4x64, .f32⟩
  | .hbm, ⟨52, _⟩ => ⟨S2x1024x4x64, .f32⟩
  | .hbm, ⟨53, _⟩ => ⟨S2x1024x4x64, .f32⟩
  | .hbm, ⟨54, _⟩ => ⟨S2x1024x256, .f32⟩
  | .hbm, ⟨55, _⟩ => ⟨S2x1024x4x64, .f32⟩
  | .hbm, ⟨56, _⟩ => ⟨S2x1024x4x32x2, .f32⟩
  | .hbm, ⟨57, _⟩ => ⟨S2x1024x4x32x1, .f32⟩
  | .hbm, ⟨58, _⟩ => ⟨S2x1024x4x32, .f32⟩
  | .hbm, ⟨59, _⟩ => ⟨S2x1024x4x32, .f32⟩
  | .hbm, ⟨60, _⟩ => ⟨S2x1024x4x32x1, .f32⟩
  | .hbm, ⟨61, _⟩ => ⟨S2x1024x4x32, .f32⟩
  | .hbm, ⟨62, _⟩ => ⟨S2x1024x4x32x1, .f32⟩
  | .hbm, ⟨63, _⟩ => ⟨S2x1024x4x32x1, .f32⟩
  | .hbm, ⟨64, _⟩ => ⟨S2x1024x4x32x2, .f32⟩
  | .hbm, ⟨65, _⟩ => ⟨S2x1024x4x64, .f32⟩
  | .hbm, ⟨66, _⟩ => ⟨S1x1024x1x64, .f32⟩
  | .hbm, ⟨67, _⟩ => ⟨S2x1024x4x64, .f32⟩
  | .hbm, ⟨68, _⟩ => ⟨S2x1024x4x64, .f32⟩
  | .hbm, ⟨69, _⟩ => ⟨S1x1024x1x64, .f32⟩
  | .hbm, ⟨70, _⟩ => ⟨S2x1024x4x64, .f32⟩
  | .hbm, ⟨71, _⟩ => ⟨S2x1024x4x64, .f32⟩
  | .hbm, ⟨72, _⟩ => ⟨S2x1024x4x64, .f32⟩
  | .hbm, ⟨73, _⟩ => ⟨S2x1024x256, .f32⟩
  | .hbm, ⟨74, _⟩ => ⟨S2x1024x4x64, .f32⟩
  | .hbm, ⟨75, _⟩ => ⟨S2x4x1024x1024, .f32⟩
  | .hbm, ⟨76, _⟩ => ⟨S_, .f32⟩
  | .hbm, ⟨77, _⟩ => ⟨S2x4x1024x1024, .f32⟩
  | .hbm, ⟨78, _⟩ => ⟨S2x4x1024x1024, .f32⟩
  | .hbm, ⟨79, _⟩ => ⟨S_, .f32⟩
  | .hbm, ⟨80, _⟩ => ⟨S2x4x1024, .f32⟩
  | .hbm, ⟨81, _⟩ => ⟨S2x4x1024x1, .f32⟩
  | .hbm, ⟨82, _⟩ => ⟨S2x4x1024x1024, .f32⟩
  | .hbm, ⟨83, _⟩ => ⟨S2x4x1024x1024, .f32⟩
  | .hbm, ⟨84, _⟩ => ⟨S2x4x1024x1024, .f32⟩
  | .hbm, ⟨85, _⟩ => ⟨S_, .f32⟩
  | .hbm, ⟨86, _⟩ => ⟨S2x4x1024, .f32⟩
  | .hbm, ⟨87, _⟩ => ⟨S2x4x1024x1, .f32⟩
  | .hbm, ⟨88, _⟩ => ⟨S2x4x1024x1024, .f32⟩
  | .hbm, ⟨89, _⟩ => ⟨S2x4x1024x1024, .f32⟩
  | .hbm, ⟨90, _⟩ => ⟨S2x4x64x1024, .f32⟩
  | .hbm, ⟨91, _⟩ => ⟨S2x1024x4x64, .f32⟩
  | .hbm, ⟨92, _⟩ => ⟨S2x1024x256, .f32⟩
  | .hbm, ⟨93, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.Contents.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pointwise

/-!
# The contents of the run

What each device's buffers hold, as functions of the memory `m` at launch and the device `c`: its staged operands, its
own keys and values (`kvBlk`), the gathered scratch `kvAll` (THE SAME array on every device: rows `256·o …` hold device
`o`'s keys and values), the attention's running maximum, sum and accumulator after every step (`vN`, numbered as the
kernel's own values), and the two planes of the result.
-/

@[expose] public section

set_option maxRecDepth 16384

noncomputable section

namespace Cert.RingAttn

open Cert.KernelIdeal Cert.KernelIdeal.Gen
open Idealize.ShloMosaic Idealize.ShloMosaic.TcCoe

variable {F : FTy → Type} [FloatOps F]

/-- A memory of the mesh. -/
abbrev Mem (F : FTy → Type) : Type := (ℓ : Loc nD τ sig) → Buf (Elt F) ℓ

/-! ## The staged operands -/

/-- Device `c`'s block of `x`, staged. -/
def xS (m : Mem F) (c : Dev nD) : (cc0_stg0_0 : Ref sig .tc).ty.Contents (Elt F) :=
  (win0_0.blk (0 : Fin 1)).view.read (Elt F) (m ((c : Thread nD τ).loc main_arg0))

/-- Device `c`'s copy of `Wq`, staged. -/
def wqS (m : Mem F) (c : Dev nD) : (cc0_stg1_0 : Ref sig .tc).ty.Contents (Elt F) :=
  (win0_1.blk (0 : Fin 1)).view.read (Elt F) (m ((c : Thread nD τ).loc main_arg1))

/-- Device `c`'s copy of `Wk`, staged. -/
def wkS (m : Mem F) (c : Dev nD) : (cc0_stg2_0 : Ref sig .tc).ty.Contents (Elt F) :=
  (win0_2.blk (0 : Fin 1)).view.read (Elt F) (m ((c : Thread nD τ).loc main_arg2))

/-- Device `c`'s copy of `Wv`, staged. -/
def wvS (m : Mem F) (c : Dev nD) : (cc0_stg3_0 : Ref sig .tc).ty.Contents (Elt F) :=
  (win0_3.blk (0 : Fin 1)).view.read (Elt F) (m ((c : Thread nD τ).loc main_arg3))

/-- Device `c`'s copy of `Wo`, staged. -/
def woS (m : Mem F) (c : Dev nD) : (cc0_stg4_0 : Ref sig .tc).ty.Contents (Elt F) :=
  (win0_4.blk (0 : Fin 1)).view.read (Elt F) (m ((c : Thread nD τ).loc main_arg4))

/-- Plane 0 of device `c`'s block of `x`. -/
def x0 (m : Mem F) (c : Dev nD) : Vec F S1x256x768 .f32 :=
  (Memref.whole cc0_stg0_0 : Memref sig .tc .vmem S2x256x768 .f32).view.readAt (Elt F)
    (Rect.unit (s := S2x256x768) ![0, 0, 0] S1x256x768.size inb_S2x256x768_S1x256x768_0_0_0).toLoadRect (xS m c)

/-- Plane 1 of device `c`'s block of `x`. -/
def x1 (m : Mem F) (c : Dev nD) : Vec F S1x256x768 .f32 :=
  (Memref.whole cc0_stg0_0 : Memref sig .tc .vmem S2x256x768 .f32).view.readAt (Elt F)
    (Rect.unit (s := S2x256x768) ![1, 0, 0] S1x256x768.size inb_S2x256x768_S1x256x768_1_0_0).toLoadRect (xS m c)

def wqW (m : Mem F) (c : Dev nD) : Vec F S768x256 .f32 :=
  (Memref.whole cc0_stg1_0 : Memref sig .tc .vmem S768x256 .f32).view.readAt (Elt F)
    (Rect.unit (s := S768x256) ![0, 0] S768x256.size inb_S768x256_S768x256_0_0).toLoadRect (wqS m c)

def wkW (m : Mem F) (c : Dev nD) : Vec F S768x256 .f32 :=
  (Memref.whole cc0_stg2_0 : Memref sig .tc .vmem S768x256 .f32).view.readAt (Elt F)
    (Rect.unit (s := S768x256) ![0, 0] S768x256.size inb_S768x256_S768x256_0_0).toLoadRect (wkS m c)

def wvW (m : Mem F) (c : Dev nD) : Vec F S768x256 .f32 :=
  (Memref.whole cc0_stg3_0 : Memref sig .tc .vmem S768x256 .f32).view.readAt (Elt F)
    (Rect.unit (s := S768x256) ![0, 0] S768x256.size inb_S768x256_S768x256_0_0).toLoadRect (wvS m c)

def woW (m : Mem F) (c : Dev nD) : Vec F S256x768 .f32 :=
  (Memref.whole cc0_stg4_0 : Memref sig .tc .vmem S256x768 .f32).view.readAt (Elt F)
    (Rect.unit (s := S256x768) ![0, 0] S256x768.size inb_S256x768_S256x768_0_0).toLoadRect (woS m c)

/-! ## The rotation tables and the own keys and values -/

def v0 (m : Mem F) (c : Dev nD) : BitVec 32 := Dev.word c
def v1 (m : Mem F) (c : Dev nD) : BitVec 32 := Scalar.divsi (v0 m c) 1#32
def v2 (m : Mem F) (c : Dev nD) : BitVec 32 := Scalar.remsi (v1 m c) 4#32
def v3 (m : Mem F) (c : Dev nD) : BitVec 32 := Scalar.addi (v2 m c) 4#32
def v4 (m : Mem F) (c : Dev nD) : BitVec 32 := Scalar.subi (v3 m c) 1#32
def v5 (m : Mem F) (c : Dev nD) : BitVec 32 := Scalar.remsi (v4 m c) 4#32
def v6 (m : Mem F) (c : Dev nD) : BitVec 32 := Scalar.addi (v2 m c) 1#32
def v7 (m : Mem F) (c : Dev nD) : BitVec 32 := Scalar.remsi (v6 m c) 4#32
def v8 (m : Mem F) (c : Dev nD) : BitVec 32 := Scalar.addi (v2 m c) 2#32
def v9 (m : Mem F) (c : Dev nD) : BitVec 32 := Scalar.remsi (v8 m c) 4#32
def v21 (m : Mem F) (c : Dev nD) : BitVec 1 := Scalar.cmpi .eq 64#32 0#32
def v22 (m : Mem F) (c : Dev nD) : BitVec 32 := Scalar.select (v21 m c) 1#32 64#32
def v19 (m : Mem F) (c : Dev nD) : FVec F S256x256 .f32 := k0_pay1 (F := F) c
def v24 (m : Mem F) (c : Dev nD) : IVec S256x256 32 := k0_pay2
def v26 (m : Mem F) (c : Dev nD) : IVec S256x256 1 := k0_pay3
def v28 (m : Mem F) (c : Dev nD) : IVec S256x256 1 := k0_pay4
def v31 (m : Mem F) (c : Dev nD) : IVec S256x256 1 := k0_pay5
def v74 (m : Mem F) (c : Dev nD) : IVec S256x256 32 := iota .tc S256x256 32 [0] iota_S256x256_d0_w32
def v75 (m : Mem F) (c : Dev nD) : IVec S256x256 32 := iota .tc S256x256 32 [1] iota_S256x256_d1_w32
def v76 (m : Mem F) (c : Dev nD) : BitVec 1 := Scalar.cmpi .eq 2#32 0#32
def v77 (m : Mem F) (c : Dev nD) : BitVec 32 := Scalar.select (v76 m c) 1#32 2#32
def v72 (m : Mem F) (c : Dev nD) : FVec F S256x256 .f32 := k0_pay7 (v19 m c) (v22 m c) (v24 m c) (v26 m c) (v28 m c) (v31 m c)
def v73 (m : Mem F) (c : Dev nD) : FVec F S256x256 .f32 := k0_pay8 (v19 m c) (v22 m c) (v24 m c) (v26 m c) (v28 m c) (v31 m c)
def v100 (m : Mem F) (c : Dev nD) : FVec F S256x256 .f32 := k0_pay9 (F := F) (v74 m c) (v75 m c) (v77 m c)
def v122 (m : Mem F) (c : Dev nD) : IVec S256x256 1 := k0_pay10 (v74 m c) (v75 m c)
def v126 (m : Mem F) (c : Dev nD) : FVec F S256x256 .f32 := k0_pay11 (v100 m c) (v122 m c)
def v150 (m : Mem F) (c : Dev nD) : FVec F S256x768 .f32 := k0_pay15 (x1 m c)
def v154 (m : Mem F) (c : Dev nD) : FVec F S256x256 .f32 := k0_pay17 (v72 m c) (x1 m c) (wkW m c)
def v155 (m : Mem F) (c : Dev nD) : FVec F S256x256 .f32 := k0_pay18 (v100 m c) (v122 m c) (x1 m c) (wkW m c)
/-- Device `c`'s rotated keys, batch 0. -/
def kA (m : Mem F) (c : Dev nD) : Vec F S1x256x256 .f32 := k0_pay13 (v72 m c) (v73 m c) (v100 m c) (v122 m c) (x0 m c) (wkW m c)
/-- Device `c`'s values, batch 0. -/
def vA (m : Mem F) (c : Dev nD) : Vec F S1x256x256 .f32 := k0_pay14 (x0 m c) (wvW m c)
/-- Device `c`'s rotated keys, batch 1. -/
def kB (m : Mem F) (c : Dev nD) : Vec F S1x256x256 .f32 := k0_pay19 (v73 m c) (v154 m c) (v155 m c)
/-- Device `c`'s values, batch 1. -/
def vB (m : Mem F) (c : Dev nD) : Vec F S1x256x256 .f32 := k0_pay20 (v150 m c) (wvW m c)

/-- Device `c`'s plane `p` of the scratch: keys of batch 0 and 1, then values of batch 0 and 1. -/
def kvBlk (m : Mem F) (c : Dev nD) : Fin 4 → Vec F S1x256x256 .f32
  | 0 => kA m c | 1 => kB m c | 2 => vA m c | 3 => vB m c

/-- The gathered scratch: row `r` of plane `p` is row `r % 256` of device `r / 256`'s plane `p`. -/
def kvAll (m : Mem F) : (cc0_scratch0 : Ref sig .tc).ty.Contents (Elt F) := fun (i : S4x1024x256.Idx) =>
  kvBlk m (⟨(i 1).val / 256, Nat.div_lt_of_lt_mul (i 1).isLt⟩ : Dev nD) (i 0)
    (ix3 (0 : Fin 1) (⟨(i 1).val % 256, Nat.mod_lt _ (by decide)⟩ : Fin 256) (i 2))

/-- A head's keys or values of one device, read from the gathered scratch. -/
def ld (m : Mem F) (off : Fin S4x1024x256.rank → Nat) (inb : ∀ a, off a + S1x256x64.size a ≤ S4x1024x256.size a) : Vec F S1x256x64 .f32 :=
  (Memref.whole cc0_scratch0 : Memref sig .tc .vmem S4x1024x256 .f32).view.readAt (Elt F)
    (Rect.unit (s := S4x1024x256) off S1x256x64.size inb).toLoadRect (kvAll m)

/-! ## The attention -/

def v199 (m : Mem F) (c : Dev nD) : FVec F S256x256 .f32 := k0_pay21 (v72 m c) (v73 m c) (v126 m c) (x0 m c) (wqW m c)
def v208 (m : Mem F) (c : Dev nD) : FVec F S256x256 .f32 := k0_pay22 (v72 m c) (v73 m c) (v126 m c) (x1 m c) (wqW m c)
def v209 (m : Mem F) (c : Dev nD) : FVec F S256x1 .f32 := k0_pay23 (F := F)
def v210 (m : Mem F) (c : Dev nD) : FVec F S256x1 .f32 := k0_pay24 (F := F)
def v211 (m : Mem F) (c : Dev nD) : FVec F S256x64 .f32 := k0_pay25 (F := F)
def v212 (m : Mem F) (c : Dev nD) : FVec F S256x64 .f32 := k0_pay26 (v72 m c) (v73 m c) (v126 m c) (x0 m c) (wqW m c)
def v216 (m : Mem F) (c : Dev nD) : FVec F S256x64 .f32 := k0_pay27 (ld m (k0_off6 c) (k0_off6_inb c))
def v219 (m : Mem F) (c : Dev nD) : Vec F S1x256x64 .f32 := (ld m (k0_off7 c) (k0_off7_inb c))
def v226 (m : Mem F) (c : Dev nD) : FVec F S256x1 .f32 := k0_pay29 (v209 m c) (v212 m c) (v216 m c)
def v235 (m : Mem F) (c : Dev nD) : FVec F S256x1 .f32 := k0_pay32 (v209 m c) (v210 m c) (v212 m c) (v216 m c)
def v239 (m : Mem F) (c : Dev nD) : FVec F S256x64 .f32 := k0_pay33 (v209 m c) (v211 m c) (v212 m c) (v216 m c) (v219 m c)
def v248 (m : Mem F) (c : Dev nD) : FVec F S256x64 .f32 := k0_pay34 (ld m (k0_off9 c) (k0_off9_inb c))
def v254 (m : Mem F) (c : Dev nD) : FVec F S256x1 .f32 := k0_pay36 (v199 m c) (v209 m c) (ld m (k0_off8 c) (k0_off8_inb c))
def v259 (m : Mem F) (c : Dev nD) : FVec F S256x256 .f32 := k0_pay38 (v199 m c) (v209 m c) (ld m (k0_off8 c) (k0_off8_inb c))
def v263 (m : Mem F) (c : Dev nD) : FVec F S256x1 .f32 := k0_pay39 (v199 m c) (v209 m c) (v210 m c) (ld m (k0_off8 c) (k0_off8_inb c))
def v264 (m : Mem F) (c : Dev nD) : FVec F S256x64 .f32 := k0_pay40 (v199 m c) (v209 m c) (ld m (k0_off8 c) (k0_off8_inb c))
def v267 (m : Mem F) (c : Dev nD) : FVec F S256x64 .f32 := k0_pay41 (v211 m c) (v248 m c) (v259 m c) (v264 m c)
def v282 (m : Mem F) (c : Dev nD) : FVec F S256x1 .f32 := k0_pay43 (v199 m c) (v209 m c) (ld m (k0_off10 c) (k0_off10_inb c))
def v291 (m : Mem F) (c : Dev nD) : FVec F S256x1 .f32 := k0_pay46 (v199 m c) (v209 m c) (v210 m c) (ld m (k0_off10 c) (k0_off10_inb c))
def v295 (m : Mem F) (c : Dev nD) : FVec F S256x64 .f32 := k0_pay47 (v199 m c) (v209 m c) (v211 m c) (ld m (k0_off10 c) (k0_off10_inb c)) (ld m (k0_off11 c) (k0_off11_inb c))
def v304 (m : Mem F) (c : Dev nD) : FVec F S256x64 .f32 := k0_pay48 (ld m (k0_off13 c) (k0_off13_inb c))
def v305 (m : Mem F) (c : Dev nD) : FVec F S256x256 .f32 := k0_pay49 (v199 m c) (ld m (k0_off12 c) (k0_off12_inb c))
def v310 (m : Mem F) (c : Dev nD) : FVec F S256x1 .f32 := k0_pay51 (v209 m c) (v305 m c)
def v319 (m : Mem F) (c : Dev nD) : FVec F S256x1 .f32 := k0_pay54 (v209 m c) (v210 m c) (v305 m c)
def v323 (m : Mem F) (c : Dev nD) : FVec F S256x64 .f32 := k0_pay55 (v209 m c) (v211 m c) (v304 m c) (v305 m c)
def v338 (m : Mem F) (c : Dev nD) : FVec F S256x1 .f32 := k0_pay57 (v208 m c) (v209 m c) (ld m (k0_off14 c) (k0_off14_inb c))
def v347 (m : Mem F) (c : Dev nD) : FVec F S256x1 .f32 := k0_pay60 (v208 m c) (v209 m c) (v210 m c) (ld m (k0_off14 c) (k0_off14_inb c))
def v349 (m : Mem F) (c : Dev nD) : FVec F S256x64 .f32 := k0_pay61 (v208 m c) (v209 m c) (v211 m c) (ld m (k0_off14 c) (k0_off14_inb c))
def v350 (m : Mem F) (c : Dev nD) : FVec F S256x64 .f32 := k0_pay62 (v208 m c) (v209 m c) (ld m (k0_off14 c) (k0_off14_inb c)) (ld m (k0_off15 c) (k0_off15_inb c))
def v351 (m : Mem F) (c : Dev nD) : FVec F S256x64 .f32 := k0_pay63 (v349 m c) (v350 m c)
def v366 (m : Mem F) (c : Dev nD) : FVec F S256x1 .f32 := k0_pay65 (v208 m c) (v209 m c) (ld m (k0_off16 c) (k0_off16_inb c))
def v375 (m : Mem F) (c : Dev nD) : FVec F S256x1 .f32 := k0_pay68 (v208 m c) (v209 m c) (v210 m c) (ld m (k0_off16 c) (k0_off16_inb c))
def v379 (m : Mem F) (c : Dev nD) : FVec F S256x64 .f32 := k0_pay69 (v208 m c) (v209 m c) (v211 m c) (ld m (k0_off16 c) (k0_off16_inb c)) (ld m (k0_off17 c) (k0_off17_inb c))
def v388 (m : Mem F) (c : Dev nD) : FVec F S256x64 .f32 := k0_pay70 (ld m (k0_off19 c) (k0_off19_inb c))
def v391 (m : Mem F) (c : Dev nD) : FVec F S256x256 .f32 := k0_pay71 (v208 m c) (ld m (k0_off18 c) (k0_off18_inb c))
def v394 (m : Mem F) (c : Dev nD) : FVec F S256x1 .f32 := k0_pay72 (v209 m c) (v391 m c)
def v403 (m : Mem F) (c : Dev nD) : FVec F S256x1 .f32 := k0_pay75 (v209 m c) (v210 m c) (v391 m c)
def v407 (m : Mem F) (c : Dev nD) : FVec F S256x64 .f32 := k0_pay76 (v209 m c) (v211 m c) (v388 m c) (v391 m c)
def v422 (m : Mem F) (c : Dev nD) : FVec F S256x1 .f32 := k0_pay78 (v208 m c) (v209 m c) (ld m (k0_off20 c) (k0_off20_inb c))
def v431 (m : Mem F) (c : Dev nD) : FVec F S256x1 .f32 := k0_pay81 (v208 m c) (v209 m c) (v210 m c) (ld m (k0_off20 c) (k0_off20_inb c))
def v435 (m : Mem F) (c : Dev nD) : FVec F S256x64 .f32 := k0_pay82 (v208 m c) (v209 m c) (v211 m c) (ld m (k0_off20 c) (k0_off20_inb c)) (ld m (k0_off21 c) (k0_off21_inb c))
def v460 (m : Mem F) (c : Dev nD) : FVec F S256x64 .f32 := k0_pay83 (ld m (k0_off24 c) (k0_off24_inb c))
def v463 (m : Mem F) (c : Dev nD) : FVec F S256x256 .f32 := k0_pay84 (v199 m c) (ld m (k0_off23 c) (k0_off23_inb c))
def v466 (m : Mem F) (c : Dev nD) : FVec F S256x1 .f32 := k0_pay85 (v199 m c) (v226 m c) (ld m (k0_off23 c) (k0_off23_inb c))
def v468 (m : Mem F) (c : Dev nD) : FVec F S256x1 .f32 := k0_pay86 (v199 m c) (v226 m c) (ld m (k0_off23 c) (k0_off23_inb c))
def v475 (m : Mem F) (c : Dev nD) : FVec F S256x1 .f32 := k0_pay88 (v235 m c) (v463 m c) (v466 m c) (v468 m c)
def v479 (m : Mem F) (c : Dev nD) : FVec F S256x64 .f32 := k0_pay89 (v239 m c) (v460 m c) (v463 m c) (v466 m c) (v468 m c)
def v494 (m : Mem F) (c : Dev nD) : FVec F S256x1 .f32 := k0_pay91 (v199 m c) (v254 m c) (ld m (k0_off25 c) (k0_off25_inb c))
def v503 (m : Mem F) (c : Dev nD) : FVec F S256x1 .f32 := k0_pay94 (v199 m c) (v254 m c) (v263 m c) (ld m (k0_off25 c) (k0_off25_inb c))
def v507 (m : Mem F) (c : Dev nD) : FVec F S256x64 .f32 := k0_pay95 (v199 m c) (v254 m c) (v267 m c) (ld m (k0_off25 c) (k0_off25_inb c)) (ld m (k0_off26 c) (k0_off26_inb c))
def v508 (m : Mem F) (c : Dev nD) : FVec F S256x64 .f32 := k0_pay96 (v199 m c)
def v512 (m : Mem F) (c : Dev nD) : FVec F S256x64 .f32 := k0_pay97 (ld m (k0_off27 c) (k0_off27_inb c))
def v522 (m : Mem F) (c : Dev nD) : FVec F S256x1 .f32 := k0_pay99 (v282 m c) (v508 m c) (v512 m c)
def v531 (m : Mem F) (c : Dev nD) : FVec F S256x1 .f32 := k0_pay102 (v282 m c) (v291 m c) (v508 m c) (v512 m c)
def v535 (m : Mem F) (c : Dev nD) : FVec F S256x64 .f32 := k0_pay103 (v282 m c) (v295 m c) (v508 m c) (v512 m c) (ld m (k0_off28 c) (k0_off28_inb c))
def v544 (m : Mem F) (c : Dev nD) : FVec F S256x64 .f32 := k0_pay104 (ld m (k0_off30 c) (k0_off30_inb c))
def v550 (m : Mem F) (c : Dev nD) : FVec F S256x1 .f32 := k0_pay106 (v199 m c) (v310 m c) (ld m (k0_off29 c) (k0_off29_inb c))
def v552 (m : Mem F) (c : Dev nD) : FVec F S256x1 .f32 := k0_pay107 (v199 m c) (v310 m c) (ld m (k0_off29 c) (k0_off29_inb c))
def v555 (m : Mem F) (c : Dev nD) : FVec F S256x256 .f32 := k0_pay108 (v199 m c) (v310 m c) (ld m (k0_off29 c) (k0_off29_inb c))
def v597 (m : Mem F) (c : Dev nD) : BitVec 32 := Scalar.muli (v5 m c) 256#32
def v559 (m : Mem F) (c : Dev nD) : FVec F S256x1 .f32 := k0_pay109 (v319 m c) (v552 m c) (v555 m c)
def v563 (m : Mem F) (c : Dev nD) : FVec F S256x64 .f32 := k0_pay110 (v323 m c) (v544 m c) (v552 m c) (v555 m c)
def v578 (m : Mem F) (c : Dev nD) : FVec F S256x1 .f32 := k0_pay112 (v208 m c) (v338 m c) (ld m (k0_off31 c) (k0_off31_inb c))
def v587 (m : Mem F) (c : Dev nD) : FVec F S256x1 .f32 := k0_pay115 (v208 m c) (v338 m c) (v347 m c) (ld m (k0_off31 c) (k0_off31_inb c))
def v591 (m : Mem F) (c : Dev nD) : FVec F S256x64 .f32 := k0_pay116 (v208 m c) (v338 m c) (v351 m c) (ld m (k0_off31 c) (k0_off31_inb c)) (ld m (k0_off32 c) (k0_off32_inb c))
def v592 (m : Mem F) (c : Dev nD) : FVec F S256x64 .f32 := k0_pay117 (v208 m c)
def v596 (m : Mem F) (c : Dev nD) : FVec F S256x64 .f32 := k0_pay118 (ld m (k0_off33 c) (k0_off33_inb c))
def v606 (m : Mem F) (c : Dev nD) : FVec F S256x1 .f32 := k0_pay120 (v366 m c) (v592 m c) (v596 m c)
def v615 (m : Mem F) (c : Dev nD) : FVec F S256x1 .f32 := k0_pay123 (v366 m c) (v375 m c) (v592 m c) (v596 m c)
def v619 (m : Mem F) (c : Dev nD) : FVec F S256x64 .f32 := k0_pay124 (v366 m c) (v379 m c) (v592 m c) (v596 m c) (ld m (k0_off34 c) (k0_off34_inb c))
def v628 (m : Mem F) (c : Dev nD) : FVec F S256x64 .f32 := k0_pay125 (ld m (k0_off36 c) (k0_off36_inb c))
def v634 (m : Mem F) (c : Dev nD) : FVec F S256x1 .f32 := k0_pay127 (v208 m c) (v394 m c) (ld m (k0_off35 c) (k0_off35_inb c))
def v636 (m : Mem F) (c : Dev nD) : FVec F S256x1 .f32 := k0_pay128 (v208 m c) (v394 m c) (ld m (k0_off35 c) (k0_off35_inb c))
def v639 (m : Mem F) (c : Dev nD) : FVec F S256x256 .f32 := k0_pay129 (v208 m c) (v394 m c) (ld m (k0_off35 c) (k0_off35_inb c))
def v640 (m : Mem F) (c : Dev nD) : FVec F S256x1 .f32 := k0_pay130 (v208 m c) (v394 m c) (v403 m c) (ld m (k0_off35 c) (k0_off35_inb c))
def v641 (m : Mem F) (c : Dev nD) : FVec F S256 .f32 := k0_pay131 (v208 m c) (v394 m c) (ld m (k0_off35 c) (k0_off35_inb c))
def v643 (m : Mem F) (c : Dev nD) : FVec F S256x1 .f32 := k0_pay132 (v640 m c) (v641 m c)
def v647 (m : Mem F) (c : Dev nD) : FVec F S256x64 .f32 := k0_pay133 (v407 m c) (v628 m c) (v636 m c) (v639 m c)
def v662 (m : Mem F) (c : Dev nD) : FVec F S256x1 .f32 := k0_pay135 (v208 m c) (v422 m c) (ld m (k0_off37 c) (k0_off37_inb c))
def v671 (m : Mem F) (c : Dev nD) : FVec F S256x1 .f32 := k0_pay138 (v208 m c) (v422 m c) (v431 m c) (ld m (k0_off37 c) (k0_off37_inb c))
def v675 (m : Mem F) (c : Dev nD) : FVec F S256x64 .f32 := k0_pay139 (v208 m c) (v422 m c) (v435 m c) (ld m (k0_off37 c) (k0_off37_inb c)) (ld m (k0_off38 c) (k0_off38_inb c))
def v706 (m : Mem F) (c : Dev nD) : FVec F S256x1 .f32 := k0_pay141 (v199 m c) (v466 m c) (ld m (k0_off40 c 1#32) (k0_off40_inb c 0))
def v715 (m : Mem F) (c : Dev nD) : FVec F S256x1 .f32 := k0_pay144 (v199 m c) (v466 m c) (v475 m c) (ld m (k0_off40 c 1#32) (k0_off40_inb c 0))
def v717 (m : Mem F) (c : Dev nD) : FVec F S256x64 .f32 := k0_pay145 (v199 m c) (v466 m c) (v479 m c) (ld m (k0_off40 c 1#32) (k0_off40_inb c 0))
def v718 (m : Mem F) (c : Dev nD) : FVec F S256x64 .f32 := k0_pay146 (v199 m c) (v466 m c) (ld m (k0_off40 c 1#32) (k0_off40_inb c 0)) (ld m (k0_off41 c 1#32) (k0_off41_inb c 0))
def v719 (m : Mem F) (c : Dev nD) : FVec F S256x64 .f32 := k0_pay147 (v717 m c) (v718 m c)
def v734 (m : Mem F) (c : Dev nD) : FVec F S256x1 .f32 := k0_pay149 (v199 m c) (v494 m c) (ld m (k0_off42 c 1#32) (k0_off42_inb c 0))
def v743 (m : Mem F) (c : Dev nD) : FVec F S256x1 .f32 := k0_pay152 (v199 m c) (v494 m c) (v503 m c) (ld m (k0_off42 c 1#32) (k0_off42_inb c 0))
def v747 (m : Mem F) (c : Dev nD) : FVec F S256x64 .f32 := k0_pay153 (v199 m c) (v494 m c) (v507 m c) (ld m (k0_off42 c 1#32) (k0_off42_inb c 0)) (ld m (k0_off43 c 1#32) (k0_off43_inb c 0))
def v756 (m : Mem F) (c : Dev nD) : FVec F S256x64 .f32 := k0_pay154 (ld m (k0_off45 c 1#32) (k0_off45_inb c 0))
def v759 (m : Mem F) (c : Dev nD) : FVec F S256x256 .f32 := k0_pay155 (v199 m c) (ld m (k0_off44 c 1#32) (k0_off44_inb c 0))
def v762 (m : Mem F) (c : Dev nD) : FVec F S256x1 .f32 := k0_pay156 (v522 m c) (v759 m c)
def v771 (m : Mem F) (c : Dev nD) : FVec F S256x1 .f32 := k0_pay159 (v522 m c) (v531 m c) (v759 m c)
def v775 (m : Mem F) (c : Dev nD) : FVec F S256x64 .f32 := k0_pay160 (v522 m c) (v535 m c) (v756 m c) (v759 m c)
def v790 (m : Mem F) (c : Dev nD) : FVec F S256x1 .f32 := k0_pay162 (v199 m c) (v550 m c) (ld m (k0_off46 c 1#32) (k0_off46_inb c 0))
def v799 (m : Mem F) (c : Dev nD) : FVec F S256x1 .f32 := k0_pay165 (v199 m c) (v550 m c) (v559 m c) (ld m (k0_off46 c 1#32) (k0_off46_inb c 0))
def v803 (m : Mem F) (c : Dev nD) : FVec F S256x64 .f32 := k0_pay166 (v199 m c) (v550 m c) (v563 m c) (ld m (k0_off46 c 1#32) (k0_off46_inb c 0)) (ld m (k0_off47 c 1#32) (k0_off47_inb c 0))
def v804 (m : Mem F) (c : Dev nD) : FVec F S256x64 .f32 := k0_pay167 (v208 m c)
def c256_i32_364 (m : Mem F) (c : Dev nD) : BitVec 32 := 256#32
def v818 (m : Mem F) (c : Dev nD) : FVec F S256x1 .f32 := k0_pay169 (v578 m c) (v804 m c) (ld m (k0_off48 c 1#32) (k0_off48_inb c 0))
def v827 (m : Mem F) (c : Dev nD) : FVec F S256x1 .f32 := k0_pay172 (v578 m c) (v587 m c) (v804 m c) (ld m (k0_off48 c 1#32) (k0_off48_inb c 0))
def v831 (m : Mem F) (c : Dev nD) : FVec F S256x64 .f32 := k0_pay173 (v578 m c) (v591 m c) (v804 m c) (ld m (k0_off48 c 1#32) (k0_off48_inb c 0)) (ld m (k0_off49 c 1#32) (k0_off49_inb c 0))
def v840 (m : Mem F) (c : Dev nD) : FVec F S256x64 .f32 := k0_pay174 (ld m (k0_off51 c 1#32) (k0_off51_inb c 0))
def v843 (m : Mem F) (c : Dev nD) : FVec F S256x256 .f32 := k0_pay175 (v208 m c) (ld m (k0_off50 c 1#32) (k0_off50_inb c 0))
def v845 (m : Mem F) (c : Dev nD) : FVec F S256x1 .f32 := k0_pay176 (v208 m c) (ld m (k0_off50 c 1#32) (k0_off50_inb c 0))
def v846 (m : Mem F) (c : Dev nD) : FVec F S256x1 .f32 := k0_pay177 (v606 m c) (v845 m c)
def v855 (m : Mem F) (c : Dev nD) : FVec F S256x1 .f32 := k0_pay180 (v606 m c) (v615 m c) (v843 m c) (v845 m c)
def v859 (m : Mem F) (c : Dev nD) : FVec F S256x64 .f32 := k0_pay181 (v606 m c) (v619 m c) (v840 m c) (v843 m c) (v845 m c)
def v874 (m : Mem F) (c : Dev nD) : FVec F S256x1 .f32 := k0_pay183 (v208 m c) (v634 m c) (ld m (k0_off52 c 1#32) (k0_off52_inb c 0))
def v883 (m : Mem F) (c : Dev nD) : FVec F S256x1 .f32 := k0_pay186 (v208 m c) (v634 m c) (v643 m c) (ld m (k0_off52 c 1#32) (k0_off52_inb c 0))
def v887 (m : Mem F) (c : Dev nD) : FVec F S256x64 .f32 := k0_pay187 (v208 m c) (v634 m c) (v647 m c) (ld m (k0_off52 c 1#32) (k0_off52_inb c 0)) (ld m (k0_off53 c 1#32) (k0_off53_inb c 0))
def v888 (m : Mem F) (c : Dev nD) : FVec F S256x64 .f32 := k0_pay188 (v208 m c)
def v902 (m : Mem F) (c : Dev nD) : FVec F S256x1 .f32 := k0_pay190 (v662 m c) (v888 m c) (ld m (k0_off54 c 1#32) (k0_off54_inb c 0))
def v911 (m : Mem F) (c : Dev nD) : FVec F S256x1 .f32 := k0_pay193 (v662 m c) (v671 m c) (v888 m c) (ld m (k0_off54 c 1#32) (k0_off54_inb c 0))
def v915 (m : Mem F) (c : Dev nD) : FVec F S256x64 .f32 := k0_pay194 (v662 m c) (v675 m c) (v888 m c) (ld m (k0_off54 c 1#32) (k0_off54_inb c 0)) (ld m (k0_off55 c 1#32) (k0_off55_inb c 0))
def v951 (m : Mem F) (c : Dev nD) : FVec F S256x1 .f32 := k0_pay199 (v199 m c) (v706 m c) (v715 m c) (ld m (k0_off40 c 2#32) (k0_off40_inb c 1))
def v955 (m : Mem F) (c : Dev nD) : FVec F S256x64 .f32 := k0_pay200 (v199 m c) (v706 m c) (v719 m c) (ld m (k0_off40 c 2#32) (k0_off40_inb c 1)) (ld m (k0_off41 c 2#32) (k0_off41_inb c 1))
def v964 (m : Mem F) (c : Dev nD) : FVec F S256x64 .f32 := k0_pay201 (ld m (k0_off43 c 2#32) (k0_off43_inb c 1))
def v965 (m : Mem F) (c : Dev nD) : FVec F S256x256 .f32 := k0_pay202 (v199 m c) (ld m (k0_off42 c 2#32) (k0_off42_inb c 1))
def v979 (m : Mem F) (c : Dev nD) : FVec F S256x1 .f32 := k0_pay207 (v734 m c) (v743 m c) (v965 m c)
def v983 (m : Mem F) (c : Dev nD) : FVec F S256x64 .f32 := k0_pay208 (v734 m c) (v747 m c) (v964 m c) (v965 m c)
def v1007 (m : Mem F) (c : Dev nD) : FVec F S256x1 .f32 := k0_pay213 (v199 m c) (v762 m c) (v771 m c) (ld m (k0_off44 c 2#32) (k0_off44_inb c 1))
def v1009 (m : Mem F) (c : Dev nD) : FVec F S256x64 .f32 := k0_pay214 (v199 m c) (v762 m c) (v775 m c) (ld m (k0_off44 c 2#32) (k0_off44_inb c 1))
def v1010 (m : Mem F) (c : Dev nD) : FVec F S256x64 .f32 := k0_pay215 (v199 m c) (v762 m c) (ld m (k0_off44 c 2#32) (k0_off44_inb c 1)) (ld m (k0_off45 c 2#32) (k0_off45_inb c 1))
def v1011 (m : Mem F) (c : Dev nD) : FVec F S256x64 .f32 := k0_pay216 (v1009 m c) (v1010 m c)
def v1035 (m : Mem F) (c : Dev nD) : FVec F S256x1 .f32 := k0_pay221 (v199 m c) (v790 m c) (v799 m c) (ld m (k0_off46 c 2#32) (k0_off46_inb c 1))
def v1039 (m : Mem F) (c : Dev nD) : FVec F S256x64 .f32 := k0_pay222 (v199 m c) (v790 m c) (v803 m c) (ld m (k0_off46 c 2#32) (k0_off46_inb c 1)) (ld m (k0_off47 c 2#32) (k0_off47_inb c 1))
def v1048 (m : Mem F) (c : Dev nD) : FVec F S256x64 .f32 := k0_pay223 (ld m (k0_off49 c 2#32) (k0_off49_inb c 1))
def v1051 (m : Mem F) (c : Dev nD) : FVec F S256x256 .f32 := k0_pay224 (v208 m c) (ld m (k0_off48 c 2#32) (k0_off48_inb c 1))
def v1063 (m : Mem F) (c : Dev nD) : FVec F S256x1 .f32 := k0_pay228 (v818 m c) (v827 m c) (v1051 m c)
def v1067 (m : Mem F) (c : Dev nD) : FVec F S256x64 .f32 := k0_pay229 (v818 m c) (v831 m c) (v1048 m c) (v1051 m c)
def v1091 (m : Mem F) (c : Dev nD) : FVec F S256x1 .f32 := k0_pay234 (v208 m c) (v846 m c) (v855 m c) (ld m (k0_off50 c 2#32) (k0_off50_inb c 1))
def v1095 (m : Mem F) (c : Dev nD) : FVec F S256x64 .f32 := k0_pay235 (v208 m c) (v846 m c) (v859 m c) (ld m (k0_off50 c 2#32) (k0_off50_inb c 1)) (ld m (k0_off51 c 2#32) (k0_off51_inb c 1))
def v1096 (m : Mem F) (c : Dev nD) : FVec F S256x64 .f32 := k0_pay236 (v208 m c)
def c256_i32_490 (m : Mem F) (c : Dev nD) : BitVec 32 := 256#32
def v1119 (m : Mem F) (c : Dev nD) : FVec F S256x1 .f32 := k0_pay241 (v874 m c) (v883 m c) (v1096 m c) (ld m (k0_off52 c 2#32) (k0_off52_inb c 1))
def v1123 (m : Mem F) (c : Dev nD) : FVec F S256x64 .f32 := k0_pay242 (v874 m c) (v887 m c) (v1096 m c) (ld m (k0_off52 c 2#32) (k0_off52_inb c 1)) (ld m (k0_off53 c 2#32) (k0_off53_inb c 1))
def v1132 (m : Mem F) (c : Dev nD) : FVec F S256x64 .f32 := k0_pay243 (ld m (k0_off55 c 2#32) (k0_off55_inb c 1))
def v1135 (m : Mem F) (c : Dev nD) : FVec F S256x256 .f32 := k0_pay244 (v208 m c) (ld m (k0_off54 c 2#32) (k0_off54_inb c 1))
def v1137 (m : Mem F) (c : Dev nD) : FVec F S256x1 .f32 := k0_pay245 (v208 m c) (ld m (k0_off54 c 2#32) (k0_off54_inb c 1))

/-- The two planes of the result. -/
def oA (m : Mem F) (c : Dev nD) : Vec F S1x256x768 .f32 := k0_pay246 (v951 m c) (v955 m c) (v979 m c) (v983 m c) (v1007 m c) (v1011 m c) (v1035 m c) (v1039 m c) (woW m c)
def oB (m : Mem F) (c : Dev nD) : Vec F S1x256x768 .f32 := k0_pay247 (v902 m c) (v911 m c) (v915 m c) (v1063 m c) (v1067 m c) (v1091 m c) (v1095 m c) (v1119 m c) (v1123 m c) (v1132 m c) (v1135 m c) (v1137 m c) (woW m c)

/-- The result's staging buffer after the two stores. -/
def outAt (m : Mem F) (c : Dev nD) : (cc0_stg5_0 : Ref sig .tc).ty.Contents (Elt F) := fun (i : S2x256x768.Idx) =>
  if (i 0).val = 0 then oA m c (ix3 (0 : Fin 1) (i 1) (i 2)) else oB m c (ix3 (0 : Fin 1) (i 1) (i 2))

end Cert.RingAttn

end
-- ==== Proof.Geom.lean ====
module

public import proofs.«01_k».proof.Proof.Contents
public import Idealize.ShloMosaic.Lib.Pipeline.ValueKit.Geometry
public import Idealize.ShloMosaic.Lib.ViewIndex

/-!
# The regions of the gathered scratch

The scratch `[4, 1024, 256]` is cut into blocks `reg lo hi o`: planes `lo` up to `hi` of device `o`'s 256 rows. `seg o` is
all four planes, `segK o` the key planes (0 and 1), `segV o` the value planes (2 and 3). Every rectangle the kernel
addresses is one of these or lies in one.
-/

@[expose] public section

set_option maxRecDepth 16384

noncomputable section

namespace Cert.RingAttn

open Cert.KernelIdeal Cert.KernelIdeal.Gen
open Idealize.ShloMosaic Idealize.ShloMosaic.TcCoe
open Idealize.ShloMosaic.Pipeline

variable {F : FTy → Type} [FloatOps F]

/-- The scratch. -/
abbrev kvM : Memref sig .tc .vmem S4x1024x256 .f32 := Memref.whole cc0_scratch0

/-! ## Neighbours -/

set_option backward.proofsInPublic true in
def lft (c : Dev nD) : Dev nD := ⟨(c.val + 3) % 4, Nat.mod_lt _ (by decide)⟩
set_option backward.proofsInPublic true in
def rgt (c : Dev nD) : Dev nD := ⟨(c.val + 1) % 4, Nat.mod_lt _ (by decide)⟩
set_option backward.proofsInPublic true in
def dia (c : Dev nD) : Dev nD := ⟨(c.val + 2) % 4, Nat.mod_lt _ (by decide)⟩

theorem lft_rgt (c : Dev nD) : lft (rgt c) = c := by revert c; decide
theorem rgt_lft (c : Dev nD) : rgt (lft c) = c := by revert c; decide
theorem lft_lft (c : Dev nD) : lft (lft c) = dia c := by revert c; decide
theorem rgt_rgt (c : Dev nD) : rgt (rgt c) = dia c := by revert c; decide
theorem dia_lft (c : Dev nD) : dia (lft c) = rgt c := by revert c; decide
theorem dia_rgt (c : Dev nD) : dia (rgt c) = lft c := by revert c; decide

theorem dev1_eq (c : Dev nD) : (⟨k0_dev1 c, k0_dev1_lt c⟩ : Dev nD) = lft c := Fin.ext (k0_dev1_eq c)
theorem dev2_eq (c : Dev nD) : (⟨k0_dev2 c, k0_dev2_lt c⟩ : Dev nD) = rgt c := Fin.ext (k0_dev2_eq c)
theorem dev3_eq (c : Dev nD) : (⟨k0_dev3 c, k0_dev3_lt c⟩ : Dev nD) = rgt c := Fin.ext (k0_dev3_eq c)
theorem dev4_eq (c : Dev nD) : (⟨k0_dev4 c, k0_dev4_lt c⟩ : Dev nD) = lft c := Fin.ext (k0_dev4_eq c)
theorem dev5_eq (c : Dev nD) : (⟨k0_dev5 c, k0_dev5_lt c⟩ : Dev nD) = rgt c := Fin.ext (k0_dev5_eq c)
theorem dev6_eq (c : Dev nD) : (⟨k0_dev6 c, k0_dev6_lt c⟩ : Dev nD) = lft c := Fin.ext (k0_dev6_eq c)

/-! ## The regions -/

/-- Planes `lo` up to `hi` of device `o`'s rows. -/
def reg (lo hi : ℕ) (o : Dev nD) : Finset S4x1024x256.Idx :=
  Finset.univ.filter fun i => (i 1).val / 256 = o.val ∧ lo ≤ (i 0).val ∧ (i 0).val < hi

theorem mem_reg {lo hi : ℕ} {o : Dev nD} {i : S4x1024x256.Idx} :
    i ∈ reg lo hi o ↔ (i 1).val / 256 = o.val ∧ lo ≤ (i 0).val ∧ (i 0).val < hi := by
  unfold reg; rw [Finset.mem_filter]; exact and_iff_right (Finset.mem_univ _)

abbrev seg (o : Dev nD) : Finset S4x1024x256.Idx := reg 0 4 o
abbrev segK (o : Dev nD) : Finset S4x1024x256.Idx := reg 0 2 o
abbrev segV (o : Dev nD) : Finset S4x1024x256.Idx := reg 2 4 o

theorem seg_eq (o : Dev nD) : segK o ∪ segV o = seg o := by
  ext i; have : (i 0).val < 4 := (i 0).isLt
  rw [Finset.mem_union, mem_reg, mem_reg, mem_reg]; omega

theorem seg_disj (o : Dev nD) : Disjoint (segK o) (segV o) := by
  rw [Finset.disjoint_left]; intro i h h'
  rw [mem_reg] at h h'; omega

theorem reg_disj {lo hi lo' hi' : ℕ} {o o' : Dev nD} (h : o ≠ o') : Disjoint (reg lo hi o) (reg lo' hi' o') := by
  rw [Finset.disjoint_left]; intro i h1 h2
  rw [mem_reg] at h1 h2; exact h (Fin.ext (h1.1.symm.trans h2.1))

/-- The four devices' blocks are the whole scratch. -/
theorem segs_univ (c : Dev nD) : seg c ∪ (seg (lft c) ∪ (seg (rgt c) ∪ seg (dia c))) = Finset.univ := by
  ext i
  have h0 : (i 0).val < 4 := (i 0).isLt
  have h1 : (i 1).val < 1024 := (i 1).isLt
  have hc : c.val < 4 := c.isLt
  simp only [Finset.mem_union, mem_reg, Finset.mem_univ, iff_true]
  have e1 : (lft c).val = (c.val + 3) % 4 := rfl
  have e2 : (rgt c).val = (c.val + 1) % 4 := rfl
  have e3 : (dia c).val = (c.val + 2) % 4 := rfl
  rw [e1, e2, e3]; omega

theorem c_ne_lft (c : Dev nD) : c ≠ lft c := by revert c; decide
theorem c_ne_rgt (c : Dev nD) : c ≠ rgt c := by revert c; decide
theorem c_ne_dia (c : Dev nD) : c ≠ dia c := by revert c; decide
theorem lft_ne_rgt (c : Dev nD) : lft c ≠ rgt c := by revert c; decide
theorem lft_ne_dia (c : Dev nD) : lft c ≠ dia c := by revert c; decide
theorem rgt_ne_dia (c : Dev nD) : rgt c ≠ dia c := by revert c; decide

/-! ## The rectangles -/

/-- A rectangle of `n` planes, 256 rows and `w` columns. -/
theorem mem_rect {off sz : Fin 3 → ℕ} {p n o q w : ℕ} (h : off = ![p, 256 * o, q]) (hs : sz = ![n, 256, w])
    (inb : ∀ a, off a + sz a ≤ S4x1024x256.size a) (i : S4x1024x256.Idx) :
    i ∈ (Rect.unit (s := S4x1024x256) off sz inb).set
      ↔ (p ≤ (i 0).val ∧ (i 0).val < p + n) ∧ (256 * o ≤ (i 1).val ∧ (i 1).val < 256 * o + 256) ∧ (q ≤ (i 2).val ∧ (i 2).val < q + w) := by
  subst h; subst hs
  rw [Rect.mem_set_unit]
  constructor
  · intro h; exact ⟨h 0, h 1, h 2⟩
  · rintro ⟨h0, h1, h2⟩ a
    match a with
    | ⟨0, _⟩ => exact h0
    | ⟨1, _⟩ => exact h1
    | ⟨2, _⟩ => exact h2

/-- A rectangle of full rows is a region. -/
theorem rect_eq {off sz : Fin 3 → ℕ} {p n : ℕ} {o : Dev nD} (h : off = ![p, 256 * o.val, 0]) (hs : sz = ![n, 256, 256])
    (inb : ∀ a, off a + sz a ≤ S4x1024x256.size a) :
    (kvM.access (Rect.unit (s := S4x1024x256) off sz inb) : View sig .tc _ _ _).set = reg p (p + n) o := by
  refine Finset.ext fun i => (ValueKit.mem_set_slice_whole_iff cc0_scratch0 _ i (mem_rect h hs inb i)).trans ?_
  have h2 : (i 2).val < 256 := (i 2).isLt
  rw [mem_reg]; omega

/-- A rectangle of some columns lies in its rows' region. -/
theorem rect_sub {off sz : Fin 3 → ℕ} {p n q w lo hi : ℕ} {o : Dev nD} (h : off = ![p, 256 * o.val, q]) (hs : sz = ![n, 256, w])
    (hlo : lo ≤ p) (hhi : p + n ≤ hi) (inb : ∀ a, off a + sz a ≤ S4x1024x256.size a) :
    (kvM.access (Rect.unit (s := S4x1024x256) off sz inb) : View sig .tc _ _ _).set ⊆ reg lo hi o := by
  intro i hi'
  have := (ValueKit.mem_set_slice_whole_iff cc0_scratch0 _ i (mem_rect h hs inb i)).mp hi'
  rw [mem_reg]; omega

/-! ## Writes -/

/-- What a transfer of a rectangle of `kvAll` onto the same rectangle leaves there: `kvAll`. -/
theorem landed {off sz : Fin 3 → ℕ} (inb : ∀ a, off a + sz a ≤ S4x1024x256.size a) (m : Mem F)
    (fd : (cc0_scratch0 : Ref sig .tc).ty.Contents (Elt F)) (i : S4x1024x256.Idx)
    (hi : i ∈ (kvM.access (Rect.unit (s := S4x1024x256) off sz inb) : View sig .tc _ _ _).set) :
    (kvM.access (Rect.unit (s := S4x1024x256) off sz inb) : View sig .tc _ _ _).write (Elt F) fd
      ((kvM.access (Rect.unit (s := S4x1024x256) off sz inb) : View sig .tc _ _ _).read (Elt F) (kvAll m)) Finset.univ i = kvAll m i := by
  rw [View.write_read_eq_piecewise]
  exact Finset.piecewise_eq_of_mem _ _ _ hi

/-- A store of device `c`'s plane `p` at its rows: `kvAll` there, the old contents elsewhere. -/
theorem stored {off : Fin 3 → ℕ} {c : Dev nD} {p : Fin 4} (h : off = ![p.val, 256 * c.val, 0])
    (inb : ∀ a, off a + S1x256x256.size a ≤ S4x1024x256.size a) (m : Mem F)
    (f : (cc0_scratch0 : Ref sig .tc).ty.Contents (Elt F)) (i : S4x1024x256.Idx) (hi : i ∈ seg c) :
    (kvM.access (Rect.unit (s := S4x1024x256) off S1x256x256.size inb) : View sig .tc _ _ _).write (Elt F) f (kvBlk m c p) Finset.univ i
      = if (i 0).val = p.val then kvAll m i else f i := by
  have hmem := (ValueKit.mem_set_slice_whole_iff cc0_scratch0 _ i (mem_rect h (rfl : S1x256x256.size = ![1, 256, 256]) inb i))
  rw [mem_reg] at hi
  have h2 : (i 2).val < 256 := (i 2).isLt
  by_cases hp : (i 0).val = p.val
  · rw [if_pos hp]
    obtain ⟨j, -, hj⟩ := Finset.mem_map.mp (hmem.mpr (by omega))
    have e := fun a => ValueKit.view_emb_slice_whole_unit_val cc0_scratch0 off S1x256x256.size inb j a
    rw [← hj]
    refine (View.write_emb_of_mem _ _ (Finset.mem_univ j)).trans ?_
    rw [hj]
    show kvBlk m c p j = kvAll m i
    unfold kvAll
    have e0 : i 0 = p := Fin.ext hp
    have e1 : (⟨(i 1).val / 256, Nat.div_lt_of_lt_mul (i 1).isLt⟩ : Dev nD) = c := Fin.ext hi.1
    rw [e0, e1]
    congr 1
    have o1 : off 1 = 256 * c.val := congrFun h 1
    have o2 : off 2 = 0 := congrFun h 2
    have i1 : (i 1).val = off 1 + (j 1).val := by rw [← hj]; exact e 1
    have i2 : (i 2).val = off 2 + (j 2).val := by rw [← hj]; exact e 2
    have j1 : (j 1).val < 256 := (j 1).isLt
    have j0 : (j 0).val < 1 := (j 0).isLt
    rw [eq_ix3 (n0 := 1) (n1 := 256) (n2 := 256) j]
    congr 1
    · exact Fin.ext (by show (j 0).val = 0; omega)
    · exact Fin.ext (by show (j 1).val = (i 1).val % 256; omega)
    · exact Fin.ext (by show (j 2).val = (i 2).val; omega)
  · rw [if_neg hp]
    exact View.write_of_not_mem _ _ _ (fun hm => by rw [View.setOn_univ] at hm; have := hmem.mp hm; omega)

/-! ## The result's staging buffer -/

abbrev outM : Memref sig .tc .vmem S2x256x768 .f32 := Memref.whole cc0_stg5_0

theorem mem_plane {p : ℕ} {off : Fin 3 → ℕ} (h : off = ![p, 0, 0]) (inb : ∀ a, off a + S1x256x768.size a ≤ S2x256x768.size a) (i : S2x256x768.Idx) :
    i ∈ (Rect.unit (s := S2x256x768) off S1x256x768.size inb).set ↔ (i 0).val = p := by
  subst h
  rw [Rect.mem_set_unit]
  constructor
  · intro h; have h0 : p ≤ (i 0).val ∧ (i 0).val < p + 1 := h 0; omega
  · intro h a
    match a with
    | ⟨0, _⟩ => exact (show p ≤ (i 0).val ∧ (i 0).val < p + 1 by omega)
    | ⟨1, _⟩ => exact (show 0 ≤ (i 1).val ∧ (i 1).val < 0 + 256 from ⟨Nat.zero_le _, by have : (i 1).val < 256 := (i 1).isLt; omega⟩)
    | ⟨2, _⟩ => exact (show 0 ≤ (i 2).val ∧ (i 2).val < 0 + 768 from ⟨Nat.zero_le _, by have : (i 2).val < 768 := (i 2).isLt; omega⟩)

/-- A store of one plane of the result. -/
theorem out_stored {p : ℕ} {off : Fin 3 → ℕ} (h : off = ![p, 0, 0]) (inb : ∀ a, off a + S1x256x768.size a ≤ S2x256x768.size a)
    (f : (cc0_stg5_0 : Ref sig .tc).ty.Contents (Elt F)) (w : Vec F S1x256x768 .f32) (i : S2x256x768.Idx) :
    (outM.access (Rect.unit (s := S2x256x768) off S1x256x768.size inb) : View sig .tc _ _ _).write (Elt F) f w Finset.univ i
      = if (i 0).val = p then w (ix3 (0 : Fin 1) (i 1) (i 2)) else f i := by
  have hmem := (ValueKit.mem_set_slice_whole_iff cc0_stg5_0 _ i (mem_plane h inb i))
  by_cases hp : (i 0).val = p
  · rw [if_pos hp]
    obtain ⟨j, -, hj⟩ := Finset.mem_map.mp (hmem.mpr hp)
    have e := fun a => ValueKit.view_emb_slice_whole_unit_val cc0_stg5_0 off S1x256x768.size inb j a
    rw [← hj]
    refine (View.write_emb_of_mem _ _ (Finset.mem_univ j)).trans ?_
    rw [hj]
    show w j = _
    have o1 : off 1 = 0 := congrFun h 1
    have o2 : off 2 = 0 := congrFun h 2
    have i1 : (i 1).val = off 1 + (j 1).val := by rw [← hj]; exact e 1
    have i2 : (i 2).val = off 2 + (j 2).val := by rw [← hj]; exact e 2
    have j0 : (j 0).val < 1 := (j 0).isLt
    rw [eq_ix3 (n0 := 1) (n1 := 256) (n2 := 768) j]
    congr 1
    congr 1
    · exact Fin.ext (by show (j 0).val = 0; omega)
    · exact Fin.ext (by show (j 1).val = (i 1).val; omega)
    · exact Fin.ext (by show (j 2).val = (i 2).val; omega)
  · rw [if_neg hp]
    exact View.write_of_not_mem _ _ _ (fun hm => by rw [View.setOn_univ] at hm; exact hp (hmem.mp hm))

/-- The two stores leave the result. -/
theorem out_written (m : Mem F) (c : Dev nD) (f : (cc0_stg5_0 : Ref sig .tc).ty.Contents (Elt F)) :
    (outM.access (Rect.unit (s := S2x256x768) ![1, 0, 0] S1x256x768.size inb_S2x256x768_S1x256x768_1_0_0) : View sig .tc _ _ _).write (Elt F)
      ((outM.access (Rect.unit (s := S2x256x768) ![0, 0, 0] S1x256x768.size inb_S2x256x768_S1x256x768_0_0_0) : View sig .tc _ _ _).write (Elt F) f
        (oA m c) Finset.univ) (oB m c) Finset.univ = outAt m c := by
  funext (i : S2x256x768.Idx)
  have h0 : (i 0).val < 2 := (i 0).isLt
  rw [out_stored rfl, out_stored rfl]
  unfold outAt
  by_cases h : (i 0).val = 0
  · rw [if_neg (by omega), if_pos h, if_pos h]
  · rw [if_pos (by omega), if_neg h]

end Cert.RingAttn

end
-- ==== Proof.Sched.lean ====
module

public import proofs.«01_k».proof.Proof.Geom
public import Idealize.ShloMosaic.Lib.Pipeline.Launch
public import Idealize.ShloMosaic.Lib.Pipeline.Kit
public import Idealize.ShloMosaic.Lib.Tactic

/-!
# The protocol

Nine cells a device: the barrier, four send and four receive semaphores, one round each.

* The barrier of `c` gets one unit from each neighbour. The left neighbour's hands `c` that neighbour's landing blocks for
  `c`'s two transfers to the left (its rows of `c`, and the value planes of its rows of `c`'s right neighbour); the right
  neighbour's hands the landing blocks for the two transfers to the right (its rows of `c`, and the key planes of its rows
  of `c`'s left neighbour).
* Receive cells 0 and 1 hand `c` the left and the right neighbour's rows, 2 and 3 the key and the value planes of the
  diagonal device's rows, all holding `kvAll`.
* A send cell hands back the share of the source that the transfer held.

-/

@[expose] public section

set_option maxRecDepth 16384

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The resource algebra: the staging protocol's rounds and this protocol's -/

abbrev UB : Type := URounds (GSem nD τ sig) Bool
abbrev UU : Type := UR sig nD τ × UB

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The barrier semaphore, not scoped to the launch. -/
abbrev barS : Sem sig := (SemArray.scalar (sig.barrier 0 rfl) : Sems sig S_).sem
abbrev snd0 : DmaSem sig := (((cc0_scratch1 : DmaSems sig S4).slice (Rect.unit (s := S4) ![0] S1.size inb_S4_S1_0)).squeeze S_ squeezes_S1_S_).sem
abbrev snd1 : DmaSem sig := (((cc0_scratch1 : DmaSems sig S4).slice (Rect.unit (s := S4) ![1] S1.size inb_S4_S1_1)).squeeze S_ squeezes_S1_S_).sem
abbrev snd2 : DmaSem sig := (((cc0_scratch1 : DmaSems sig S4).slice (Rect.unit (s := S4) ![2] S1.size inb_S4_S1_2)).squeeze S_ squeezes_S1_S_).sem
abbrev snd3 : DmaSem sig := (((cc0_scratch1 : DmaSems sig S4).slice (Rect.unit (s := S4) ![3] S1.size inb_S4_S1_3)).squeeze S_ squeezes_S1_S_).sem
abbrev rcv0 : DmaSem sig := (((cc0_scratch2 : DmaSems sig S4).slice (Rect.unit (s := S4) ![0] S1.size inb_S4_S1_0)).squeeze S_ squeezes_S1_S_).sem
abbrev rcv1 : DmaSem sig := (((cc0_scratch2 : DmaSems sig S4).slice (Rect.unit (s := S4) ![1] S1.size inb_S4_S1_1)).squeeze S_ squeezes_S1_S_).sem
abbrev rcv2 : DmaSem sig := (((cc0_scratch2 : DmaSems sig S4).slice (Rect.unit (s := S4) ![2] S1.size inb_S4_S1_2)).squeeze S_ squeezes_S1_S_).sem
abbrev rcv3 : DmaSem sig := (((cc0_scratch2 : DmaSems sig S4).slice (Rect.unit (s := S4) ![3] S1.size inb_S4_S1_3)).squeeze S_ squeezes_S1_S_).sem

/-- The kernel's own semaphores: four send, four receive. -/
abbrev osem : Fin 8 → SemLoc sig := fun
  | 0 => .dma snd0 | 1 => .dma snd1 | 2 => .dma snd2 | 3 => .dma snd3
  | 4 => .dma rcv0 | 5 => .dma rcv1 | 6 => .dma rcv2 | 7 => .dma rcv3
/-- All nine of the protocol: the barrier, four send, four receive. -/
abbrev csem : Fin 9 → SemLoc sig := fun
  | 0 => .reg barS
  | 1 => .dma snd0 | 2 => .dma snd1 | 3 => .dma snd2 | 4 => .dma snd3
  | 5 => .dma rcv0 | 6 => .dma rcv1 | 7 => .dma rcv2 | 8 => .dma rcv3
abbrev kcell (ck : Dev nD × Fin 9) : GSem nD τ sig := ((ck.1 : Thread nD τ), csem ck.2)

/-- Which of the nine a semaphore is. -/
def kindOf (sm : SemLoc sig) : Option (Fin 9) := (List.finRange 9).find? fun k => csem k = sm

theorem kindOf_csem : ∀ k : Fin 9, kindOf (csem k) = some k := by decide

theorem csem_injective : Function.Injective csem := fun a b h =>
  Option.some.inj ((kindOf_csem a).symm.trans ((congrArg kindOf h).trans (kindOf_csem b)))

/-- The credit of a transfer of four planes, and of two. -/
abbrev N4 : ℕ := (kvM.slice (Rect.unit (s := S4x1024x256) (k0_off5 0) S4x256x256.size (k0_off5_inb 0)) (fun _ => rfl) : Memref sig .tc .vmem S4x256x256 .f32).view.dmaCredit
abbrev N2 : ℕ := (kvM.slice (Rect.unit (s := S4x1024x256) (k0_off22 0) S2x256x256.size (k0_off22_inb 0)) (fun _ => rfl) : Memref sig .tc .vmem S2x256x256 .f32).view.dmaCredit
theorem N4_pos : 0 < N4 := View.dmaCredit_pos _ (by decide)
theorem N2_pos : 0 < N2 := View.dmaCredit_pos _ (by decide)

/-! ## The pieces -/

/-- Device `c`'s scratch on `S`, at share `q`, holding `f`. -/
abbrev kvF (c : Dev nD) (S : Finset S4x1024x256.Idx) (q : PosShare TreeShare) (f : (cc0_scratch0 : Ref sig .tc).ty.Contents (Elt F)) : sProp 𝕄 :=
  (kvM.view.loc (c : Thread nD τ)) ↦[S]{q} f
/-- The same at the gathered contents. -/
abbrev kvP (m : Mem F) (c : Dev nD) (S : Finset S4x1024x256.Idx) (q : PosShare TreeShare) : sProp 𝕄 := kvF c S q (kvAll m)

/-- The three shares of a device's own rows: the two transfers' and the one kept. -/
abbrev qA : PosShare TreeShare := fullShare.left
abbrev qB : PosShare TreeShare := fullShare.right.left
abbrev qC : PosShare TreeShare := fullShare.right.right

/-- What the cell `k` of device `c` hands over (`false`: the only duty, at the barrier the left neighbour's; `true`: the right
    neighbour's). -/
def pay (m : Mem F) (c : Dev nD) : Fin 9 → Bool → sProp 𝕄
  | 0, false => iprop((∃ f, kvF (lft c) (seg c) fullShare f) ∗ (∃ f, kvF (lft c) (segV (rgt c)) fullShare f)
      ∗ reached ER (kcell (lft c, 6)) 0 ∗ reached ER (kcell (lft c, 8)) 0)
  | 0, true => iprop((∃ f, kvF (rgt c) (seg c) fullShare f) ∗ (∃ f, kvF (rgt c) (segK (lft c)) fullShare f)
      ∗ reached ER (kcell (rgt c, 5)) 0 ∗ reached ER (kcell (rgt c, 7)) 0)
  | 1, _ => kvP m c (seg c) qA
  | 2, _ => kvP m c (seg c) qB
  | 3, _ => kvP m c (segK (lft c)) fullShare.left
  | 4, _ => kvP m c (segV (rgt c)) fullShare.left
  | 5, _ => kvP m c (seg (lft c)) fullShare
  | 6, _ => kvP m c (seg (rgt c)) fullShare
  | 7, _ => kvP m c (segK (dia c)) fullShare
  | 8, _ => kvP m c (segV (dia c)) fullShare

instance pay_storable (m : Mem F) (c : Dev nD) (k : Fin 9) (d : Bool) : BI.Storable (upEmb : UEmb _ 𝕄) (pay m c k d) := by
  fin_cases k <;> cases d <;> (unfold pay; infer_instance)

def amt : Fin 9 → ℕ
  | 0 => 1 | 1 => N4 | 2 => N4 | 3 => N2 | 4 => N2 | 5 => N4 | 6 => N4 | 7 => N2 | 8 => N2
theorem amt_pos (k : Fin 9) : 0 < amt k := by
  fin_cases k
  · exact Nat.one_pos
  · exact N4_pos
  · exact N4_pos
  · exact N2_pos
  · exact N2_pos
  · exact N4_pos
  · exact N4_pos
  · exact N2_pos
  · exact N2_pos

/-- The duties of a cell's round. -/
def dut : Fin 9 → Finset Bool := fun k => if k = 0 then Finset.univ else {false}

/-- One round: the barrier has two duties of one unit, every other cell one duty of its transfer's credit. -/
def ringRd (m : Mem F) : Rounds.Schedule (GSem nD τ sig) Bool 𝕄 where
  duties g r := if r = 0 ∧ g.1.2 = .tc then (kindOf g.2).elim ∅ dut else ∅
  unitless _ := False
  amount g _ _ := (kindOf g.2).elim 1 amt
  payload g _ d := (kindOf g.2).elim iprop(emp) fun k => pay m g.1.1 k d
  amount_pos g _ _ _ := by
    cases h : kindOf g.2 with
    | none => exact Nat.one_pos
    | some k => exact amt_pos k

instance ringRd_payload_storable (m : Mem F) (g : GSem nD τ sig) (r : ℕ) (d : Bool) :
    BI.Storable (upEmb : UEmb _ 𝕄) ((ringRd (F := F) m).payload g r d) := by
  show BI.Storable upEmb ((kindOf g.2).elim iprop(emp) fun k => pay m g.1.1 k d)
  cases kindOf g.2 with
  | none => show BI.Storable upEmb iprop(emp); infer_instance
  | some k => show BI.Storable upEmb (pay m g.1.1 k d); infer_instance

section Facts
variable (m : Mem F) (c : Dev nD)

theorem duties_at (k : Fin 9) : (ringRd m).duties (kcell (c, k)) 0 = dut k := by
  dsimp only [ringRd]
  refine (if_pos (⟨rfl, rfl⟩ : (0 : ℕ) = 0 ∧ (kcell (c, k)).1.2 = .tc)).trans ?_
  show (kindOf (csem k)).elim ∅ dut = dut k
  rw [kindOf_csem]; rfl
theorem duties_later (g : GSem nD τ sig) : ∀ r, 1 ≤ r → (ringRd m).duties g r = ∅ :=
  fun r hr => if_neg fun h => by omega
theorem amount_at (k : Fin 9) (d : Bool) : (ringRd m).amount (kcell (c, k)) 0 d = amt k := by
  show (kindOf (csem k)).elim 1 amt = amt k
  rw [kindOf_csem]; rfl
theorem payload_at (k : Fin 9) (d : Bool) : (ringRd m).payload (kcell (c, k)) 0 d = pay m c k d := by
  show (kindOf (csem k)).elim iprop(emp) (fun k => pay m c k d) = pay m c k d
  rw [kindOf_csem]; rfl
theorem expect_bar : (ringRd m).expect (kcell (c, 0)) 0 = 2 := by
  unfold Schedule.expect Schedule.amountOf
  rw [duties_at, Finset.sum_congr rfl fun d _ => amount_at m c 0 d]; rfl
theorem expect_xfer {k : Fin 9} (hk : k ≠ 0) : (ringRd m).expect (kcell (c, k)) 0 = amt k := by
  unfold Schedule.expect Schedule.amountOf
  rw [duties_at, Finset.sum_congr rfl fun d _ => amount_at m c k d, dut, if_neg hk, Finset.sum_singleton]
theorem rest_bar : bigSep ((ringRd m).duties (kcell (c, 0)) 0 \ ∅) (fun d => (ringRd m).payload (kcell (c, 0)) 0 d)
    = iprop(pay m c 0 false ∗ pay m c 0 true) := by
  rw [Finset.sdiff_empty, duties_at, show dut 0 = Finset.univ from rfl, bigSep_univ_eq_bigSepL [false, true] (by decide) (by decide),
    bigSepL_cons_cons, bigSepL_singleton, payload_at, payload_at]
  rfl
theorem rest_xfer {k : Fin 9} (hk : k ≠ 0) : bigSep ((ringRd m).duties (kcell (c, k)) 0 \ ∅) (fun d => (ringRd m).payload (kcell (c, k)) 0 d)
    = pay m c k false := by
  rw [Finset.sdiff_empty, duties_at, dut, if_neg hk, bigSep_singleton, payload_at]
theorem mem_dut_bar (d : Bool) : d ∈ (ringRd m).duties (kcell (c, 0)) 0 := by rw [duties_at]; exact Finset.mem_univ d
theorem mem_dut {k : Fin 9} (hk : k ≠ 0) : false ∈ (ringRd m).duties (kcell (c, k)) 0 := by
  rw [duties_at, dut, if_neg hk]; exact Finset.mem_singleton_self _

end Facts

/-! ## What each core owes at launch; the levels -/

/-- What device `c` still owes: before its fourth transfer, its third, its second, its first, its second signal, its first. -/
def OD (c : Dev nD) : CellTallies nD τ sig Unit := tallyAt (kcell (lft c, 8)) () N2
def OC (c : Dev nD) : CellTallies nD τ sig Unit := OD c + tallyAt (kcell (rgt c, 7)) () N2
def OB (c : Dev nD) : CellTallies nD τ sig Unit := OC c + tallyAt (kcell (lft c, 6)) () N4
def OA (c : Dev nD) : CellTallies nD τ sig Unit := OB c + tallyAt (kcell (rgt c, 5)) () N4
def O₁ (c : Dev nD) : CellTallies nD τ sig Unit := OA c + tallyAt (kcell (rgt c, 0)) () 1
def O₀ (c : Dev nD) : CellTallies nD τ sig Unit := O₁ c + tallyAt (kcell (lft c, 0)) () 1

def L (g : GSem nD τ sig) : Finset Unit := if g.1.2 = .tc then {()} else ∅
def lvk : Fin 9 → ℕ | 0 => 1 | 5 => 2 | 6 => 2 | 7 => 3 | 8 => 3 | _ => 0
/-- Barrier cells at 1, the first two receive cells at 2, the others at 3, everything else at 0. -/
def lv (g : GSem nD τ sig) (_ : Unit) : ℕ := (kindOf g.2).elim 0 lvk

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Fin 9) : lv (kcell (c, k)) () = lvk k := by
  show (kindOf (csem k)).elim 0 lvk = lvk k
  rw [kindOf_csem]; rfl

/-- A tally owed to device cells of levels above `n` only. -/
def Above (n : ℕ) (O : CellTallies nD τ sig Unit) : Prop := ∀ g u, 0 < O g u → ∃ d : Dev nD, ∃ k : Fin 9, g = kcell (d, k) ∧ n < lvk k

theorem Above.tally {n : ℕ} (d : Dev nD) (k : Fin 9) (N : ℕ) (h : n < lvk k) : Above n (tallyAt (kcell (d, k)) () N) := fun g u hg => by
  rw [tallyAt_apply] at hg
  by_cases h' : g = kcell (d, k) ∧ u = ()
  · exact ⟨d, k, h'.1, h⟩
  · rw [if_neg h'] at hg; exact absurd hg (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · rw [h0, Nat.zero_add] at hg; exact h' g u hg
  · exact h g u h0

theorem above_D (c : Dev nD) : Above 2 (OD c) := .tally _ 8 _ (by decide)
theorem above_C (c : Dev nD) : Above 2 (OC c) := (above_D c).add (.tally _ 7 _ (by decide))
theorem above_A (c : Dev nD) : Above 1 (OA c) :=
  ((((Above.tally _ 8 _ (by decide) : Above 1 (OD c)).add (.tally _ 7 _ (by decide))).add (.tally _ 6 _ (by decide))).add (.tally _ 5 _ (by decide)))
theorem above_0 (c : Dev nD) : Above 0 (O₀ c) :=
  ((((((Above.tally _ 8 _ (by decide) : Above 0 (OD c)).add (.tally _ 7 _ (by decide))).add (.tally _ 6 _ (by decide))).add (.tally _ 5 _ (by decide))).add
    (.tally _ 0 _ (by decide))).add (.tally _ 0 _ (by decide)))

/-- A core may wait on a semaphore of level at most `n` while owing above `n` only. -/
theorem mayWait_of (c : Dev nD) (sm : SemLoc sig) (n : ℕ) (hsm : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, k, rfl, -⟩ := hO g u hg; rw [L_tc]; exact Finset.mem_singleton_self _)
    (fun p hp => by rw [Finset.mem_singleton.mp hp]; exact hsm)
    (fun g u hg => by obtain ⟨d, k, rfl, h⟩ := hO g u hg; rw [lv_at]; exact h)

theorem mayWait_cell (c : Dev nD) (k : Fin 9) {O : CellTallies nD τ sig Unit} (hO : Above (lvk k) O) :
    (levAts L lv : sProp 𝕄) ⊢ MayWait (c : Thread nD τ) (csem k) () O :=
  mayWait_of c (csem k) (lvk k) (le_of_eq (lv_at c k)) hO

end Cert.RingAttn

end
-- ==== Proof.Steps.lean ====
module

public import proofs.«01_k».proof.Proof.Sched

/-!
# The steps

One lemma for each kind of step on the protocol's cells: a transfer, a wait for a transfer, the two signals with the
barrier wait, and the closing of a cell; and the pieces of the scratch put together and taken apart.

-/

@[expose] public section

set_option maxRecDepth 16384

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- What every device's body may read: the cells' invariants, under the names `K` they were allocated at, and that each cell
    has reached its round. -/
def records (m : Mem F) (K : Dev nD × Fin 9 → ℕ) : sProp 𝕄 :=
  iprop((bigSep Finset.univ fun ck : Dev nD × Fin 9 => cellInv ER (ringRd m) (K ck) (kcell ck))
    ∗ bigSep Finset.univ fun ck : Dev nD × Fin 9 => reached ER (kcell ck) 0)

instance records_persistent (m : Mem F) (K : Dev nD × Fin 9 → ℕ) : BI.Persistent (records m K) := by unfold records; infer_instance

theorem inv_at (m : Mem F) (K : Dev nD × Fin 9 → ℕ) (ck : Dev nD × Fin 9) : records m K ⊢ cellInv ER (ringRd m) (K ck) (kcell ck) := by
  unfold records
  iintro ⟨HI, -⟩
  iapply (show (bigSep Finset.univ fun ck : Dev nD × Fin 9 => (cellInv ER (ringRd m) (K ck) (kcell ck) : sProp 𝕄)) ⊢ cellInv ER (ringRd m) (K ck) (kcell ck)
    from bigSep_elim (Finset.mem_univ ck))
  iexact HI

theorem reached_at (m : Mem F) (K : Dev nD × Fin 9 → ℕ) (ck : Dev nD × Fin 9) : records m K ⊢ reached ER (kcell ck) 0 := by
  unfold records
  iintro ⟨-, HR⟩
  iapply (show (bigSep Finset.univ fun ck : Dev nD × Fin 9 => (reached ER (kcell ck) 0 : sProp 𝕄)) ⊢ reached ER (kcell ck) 0
    from bigSep_elim (Finset.mem_univ ck))
  iexact HR

theorem credit4 {off : Fin 3 → ℕ} (inb : ∀ a, off a + S4x256x256.size a ≤ S4x1024x256.size a) :
    (kvM.slice (Rect.unit (s := S4x1024x256) off S4x256x256.size inb) (fun _ => rfl) : Memref sig .tc .vmem S4x256x256 .f32).view.dmaCredit = N4 := rfl
theorem credit2 {off : Fin 3 → ℕ} (inb : ∀ a, off a + S2x256x256.size a ≤ S4x1024x256.size a) :
    (kvM.slice (Rect.unit (s := S4x1024x256) off S2x256x256.size inb) (fun _ => rfl) : Memref sig .tc .vmem S2x256x256 .f32).view.dmaCredit = N2 := rfl

section Steps

variable (m : Mem F) (K : Dev nD × Fin 9 → ℕ) (c : Dev nD)

/-- A transfer of a block of the gathered contents to the same block of device `n`'s scratch. -/
theorem xfer_step (n n' : Dev nD) (hn : n' = n) {o : Dev nD} {off sz : Fin 3 → ℕ} {p nn : ℕ} (h : off = ![p, 256 * o.val, 0]) (hs : sz = ![nn, 256, 256])
    (inb : ∀ a, off a + sz a ≤ S4x1024x256.size a) (kS kR : Fin 9) (hkS : kS ≠ 0) (hkR : kR ≠ 0) {sS sR : DmaSem sig}
    (hsS : csem kS = .dma sS) (hsR : csem kR = .dma sR) (q : PosShare TreeShare)
    (hN : (kvM.slice (Rect.unit (s := S4x1024x256) off sz inb) (fun _ => rfl)).view.dmaCredit = amt kR) (hA : amt kS = amt kR)
    (hpS : pay m c kS false = kvP m c (reg p (p + nn) o) q) (hpR : pay m n kR false = kvP m n (reg p (p + nn) o) fullShare)
    {hsc : (kvM : Memref sig (Dev.tc n' : Thread nD τ).2.kind .vmem S4x1024x256 .f32).view.ref.isScScratch = false}
    {hsrc : (kvM.slice (Rect.unit (s := S4x1024x256) off sz inb) (fun _ => rfl)).view.WordExact}
    {hdst : (kvM.slice (Rect.unit (s := S4x1024x256) off sz inb) (fun _ => rfl)).view.WordExact}
    {hsem : DmaTarget.Typed .vmem (.dma sR) (.remote (Dev.tc n' : Thread nD τ) (kvM.slice (Rect.unit (s := S4x1024x256) off sz inb) (fun _ => rfl)) (.dma sS) hsc)}
    {α : Type} {Q : α → sProp 𝕄} {k : PUnit → Prog (TpuEff nD τ sig (Elt F) Λ₀ .tc) α}
    (O : CellTallies nD τ sig Unit) (W : Waits sig Unit) :
    iprop(records m K ∗ kvP m c (reg p (p + nn) o) q ∗ (∃ fd, kvF n (reg p (p + nn) o) fullShare fd)
        ∗ owes (c : Thread nD τ) (O + tallyAt (kcell (n, kR)) () (amt kR)) W
        ∗ dutyTok ER (kcell (c, kS)) 0 false ∗ dutyTok ER (kcell (n, kR)) 0 false)
      ⊢ iprop(((cred (tallyAt (kcell (c, kS)) () (amt kS)) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (kvM.slice (Rect.unit (s := S4x1024x256) off sz inb) (fun _ => rfl))
                (.remote (Dev.tc n' : Thread nD τ) (kvM.slice (Rect.unit (s := S4x1024x256) off sz inb) (fun _ => rfl)) (.dma sS) hsc) (.dma sR) hsrc hdst hsem) k) Q) := by
  subst hn
  have hcS : ∀ c : Dev nD, kcell (c, kS) = ((c : Thread nD τ), SemLoc.dma sS) := fun c => congrArg (Prod.mk _) hsS
  have hcR : ∀ c : Dev nD, kcell (c, kR) = ((c : Thread nD τ), SemLoc.dma sR) := fun c => congrArg (Prod.mk _) hsR
  have hset := rect_eq (o := o) h hs inb
  iintro ⟨#HR, Hs, ⟨%fd, Hd⟩, HO, HtS, HtR⟩ Hk
  ihave #HIS := (inv_at m K (c, kS)) $$ HR
  ihave #HIR := (inv_at m K (n', kR)) $$ HR
  ihave #HrS := (reached_at m K (c, kS)) $$ HR
  ihave #HrR := (reached_at m K (n', kR)) $$ HR
  rw [hcS, hcR, hA]
  iapply (Rounds.wp_send_pointsTo 𝒱₀ ER (ringRd m) (c : Thread nD τ) none (c' := (n' : Thread nD τ)) (sS := .dma sS) (sem := .dma sR) (κ₁ := K (c, kS)) (κ₂ := K (n', kR))
    (src := kvM.slice (Rect.unit (s := S4x1024x256) off sz inb) (fun _ => rfl)) (dst := kvM.slice (Rect.unit (s := S4x1024x256) off sz inb) (fun _ => rfl))
    (fs := kvAll m) (q := q)
    (r₁ := 0) (r₂ := 0) (d₁ := false) (d₂ := false) (fd := fd)
    (by rw [← hcS]; exact mem_dut m c hkS) (by rw [← hcR]; exact mem_dut m n' hkR)
    () () (amt kR) hN ((congrArg (fun g => (ringRd m).amount g 0 false) (hcS c).symm).trans ((amount_at m c kS false).trans hA))
    ((congrArg (fun g => (ringRd m).amount g 0 false) (hcR n').symm).trans (amount_at m n' kR false)) O rfl (W := W)
    (by
      rw [← hcS, payload_at, hpS]
      exact Entails.of_eq (congrArg (fun S => kvP m c S q) hset))
    (by
      rw [← hcR, payload_at, hpR]
      refine Entails.of_eq ((congrArg (fun S => kvF n' S fullShare _) hset).trans (pointsTo_congr fun i hi => ?_))
      exact landed inb m fd i (hset ▸ hi))) $$ [Hs Hd HO HtS HtR]
  · isplitr; · iexact HIS
    isplitr; · iexact HIR
    isplitl [Hs]; · rw [← hset]; iexact Hs
    isplitl [Hd]; · rw [← hset]; iexact Hd
    isplitl [HO]; · iexact HO
    isplitl [HtS]; · iexact HtS
    isplitr; · iexact HrS
    isplitl [HtR]; · iexact HtR
    iexact HrR
  iexact Hk

/-- A wait for a transfer on one of the device's own cells. -/
theorem wait_step (kk : Fin 9) (hk : kk ≠ 0) {s : DmaSem sig} (hs : csem kk = .dma s)
    {sp sp' : Space} {T T' : Shape} {e e' : EltTy} {src : Memref sig (c : Thread nD τ).2.kind sp' T' e'} {κ' : Kind} {dst : Memref sig κ' sp T e}
    {h1 : src.view.WordExact} {h2 : dst.view.WordExact} (hN : dst.view.dmaCredit = amt kk)
    {α : Type} {Q : α → sProp 𝕄} {k : PUnit → Prog (TpuEff nD τ sig (Elt F) Λ₀ .tc) α}
    (O : CellTallies nD τ sig Unit) (hO : O = 0 ∨ Above (lvk kk) O) (W : Waits sig Unit) :
    iprop(records m K ∗ levAts L lv ∗ cred (tallyAt (kcell (c, kk)) () (amt kk)) ∗ owes (c : Thread nD τ) O W ∗ atPos ER (kcell (c, kk)) 0 ∅ 0)
      ⊢ iprop(((∃ W', owes (c : Thread nD τ) O W') ∗ atPos ER (kcell (c, kk)) (0 + 1) ∅ 0 ∗ pay m c kk false
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst h1 h2) k) Q) := by
  have hc : kcell (c, kk) = ((c : Thread nD τ), SemLoc.dma s) := congrArg (Prod.mk _) hs
  iintro ⟨#HR, #Hlev, Hc, HO, Hat⟩ Hk
  ihave #HI := (inv_at m K (c, kk)) $$ HR
  have hmw : (levAts L lv : sProp 𝕄) ⊢ MayWait (c : Thread nD τ) (.dma s) () O := by
    rcases hO with rfl | hO
    · rw [MayWait_zero]; iintro -; iempintro
    · rw [← hs]; exact mayWait_cell c kk hO
  rw [hc]
  iapply (Rounds.wp_wait_rest_token 𝒱₀ ER (ringRd m) (c : Thread nD τ) none (κ := K (c, kk))
      (wpE_waitDma2_eq 𝒱₀ (c : Thread nD τ) none Set.univ) (Set.mem_univ _) () (O := O) (W := W) (R := 0) (m := 0) (T := ∅)
      (by rw [Nat.zero_add, ← hc, expect_xfer m c hk]; exact hN)) $$ [Hc HO Hat]
  · isplitr; · iexact HI
    isplitl [Hc]; · rw [hN]; iexact Hc
    isplitl [HO]; · iexact HO
    isplitr; · iapply hmw; iexact Hlev
    iexact Hat
  iintro ⟨HO, Hat, -, Hp⟩
  iapply Hk
  isplitl [HO]; · iexists _; iexact HO
  isplitl [Hat]; · iexact Hat
  rw [← hc]
  iapply (Entails.of_eq (rest_xfer m c hk)); iexact Hp

/-- A cell whose round is done closes: its counter, at zero, is the device's again. -/
theorem close_step (kk : Fin 9) : iprop(records m K ∗ atPos ER (kcell (c, kk)) (0 + 1) ∅ 0) ⊢ iprop(|={Set.univ}=> semVal (kcell (c, kk)) 0) := by
  iintro ⟨#HR, Hat⟩
  ihave #HI := (inv_at m K (c, kk)) $$ HR
  iapply (Rounds.cell_close ER (ringRd m) (Set.mem_univ (K (c, kk))) (fun h => h) (R := 0 + 1) (duties_later m (kcell (c, kk))))
  isplitr; · iexact HI
  iexact Hat

/-- A load of 64 columns of one plane of a device's rows. -/
theorem kv_load {o : Dev nD} {off : Fin 3 → ℕ} {p w lo hi : ℕ} (h : off = ![p, 256 * o.val, w]) (hlo : lo ≤ p) (hhi : p + 1 ≤ hi)
    (inb : ∀ a, off a + S1x256x64.size a ≤ S4x1024x256.size a) (q : PosShare TreeShare)
    {hl : kvM.view.LoadsAt (Rect.unit (s := S4x1024x256) off S1x256x64.size inb).toLoadRect}
    {α : Type} {Q : α → sProp 𝕄} {k : Vec F S1x256x64 .f32 → Prog (TpuEff nD τ sig (Elt F) Λ₀ .tc) α} :
    kvP m c (reg lo hi o) q
      ⊢ iprop((kvP m c (reg lo hi o) q -∗ wp frame (wpE (defs₀ (F := F)) 𝒱₀ (c : Thread nD τ) none) Set.univ (k (ld m off inb)) Q)
          -∗ wp frame (wpE (defs₀ (F := F)) 𝒱₀ (c : Thread nD τ) none) Set.univ
              (.op (.load kvM (Rect.unit (s := S4x1024x256) off S1x256x64.size inb).toLoadRect hl) k) Q) :=
  wp_load 𝒱₀ (c : Thread nD τ) none Set.univ (m := kvM) (r := (Rect.unit (s := S4x1024x256) off S1x256x64.size inb).toLoadRect)
    (S := reg lo hi o) (q := q) (f := kvAll m) (by have := rect_sub (o := o) (lo := lo) (hi := hi) h rfl hlo hhi inb; rwa [View.set_slice] at this)

/-- A load of any block of the scratch whose value is not used. -/
theorem kv_peek {o : Dev nD} {off : Fin 3 → ℕ} {p lo hi : ℕ} (h : off = ![p, 256 * o.val, 0]) (hlo : lo ≤ p) (hhi : p + 1 ≤ hi)
    (inb : ∀ a, off a + S1x256x256.size a ≤ S4x1024x256.size a) (f : (cc0_scratch0 : Ref sig .tc).ty.Contents (Elt F))
    {hl : kvM.view.LoadsAt (Rect.unit (s := S4x1024x256) off S1x256x256.size inb).toLoadRect}
    {α : Type} {Q : α → sProp 𝕄} {P : Prog (TpuEff nD τ sig (Elt F) Λ₀ .tc) α} :
    kvF c (reg lo hi o) fullShare f
      ⊢ iprop((kvF c (reg lo hi o) fullShare f -∗ wp frame (wpE (defs₀ (F := F)) 𝒱₀ (c : Thread nD τ) none) Set.univ P Q)
          -∗ wp frame (wpE (defs₀ (F := F)) 𝒱₀ (c : Thread nD τ) none) Set.univ
              (.op (.load kvM (Rect.unit (s := S4x1024x256) off S1x256x256.size inb).toLoadRect hl) fun _ => P) Q) :=
  wp_load 𝒱₀ (c : Thread nD τ) none Set.univ (m := kvM) (r := (Rect.unit (s := S4x1024x256) off S1x256x256.size inb).toLoadRect)
    (S := reg lo hi o) (q := fullShare) (f := f) (k := fun _ => P)
    (by have := rect_sub (o := o) (lo := lo) (hi := hi) h rfl hlo hhi inb; rwa [View.set_slice] at this)

/-- A store of one plane of the device's own rows. -/
theorem kv_store {off : Fin 3 → ℕ} (p : Fin 4) (h : off = ![p.val, 256 * c.val, 0])
    (inb : ∀ a, off a + S1x256x256.size a ≤ S4x1024x256.size a) (f : (cc0_scratch0 : Ref sig .tc).ty.Contents (Elt F))
    (w : Vec F S1x256x256 .f32) (hw : w = kvBlk m c p)
    {hx : (kvM.access (Rect.unit (s := S4x1024x256) off S1x256x256.size inb)).Stores Finset.univ}
    {hm : (Finset.univ : Finset (Rect.unit (s := S4x1024x256) off S1x256x256.size inb).shape.Idx) = Finset.univ ∨ ∀ a, (Rect.unit (s := S4x1024x256) off S1x256x256.size inb).stride a = 1}
    {α : Type} {Q : α → sProp 𝕄} {k : PUnit → Prog (TpuEff nD τ sig (Elt F) Λ₀ .tc) α} :
    kvF c (seg c) fullShare f
      ⊢ iprop(((∃ f', ⌜∀ i ∈ seg c, f' i = if (i 0).val = p.val then kvAll m i else f i⌝ ∗ kvF c (seg c) fullShare f')
            -∗ wp frame (wpE (defs₀ (F := F)) 𝒱₀ (c : Thread nD τ) none) Set.univ (k ⟨⟩) Q)
          -∗ wp frame (wpE (defs₀ (F := F)) 𝒱₀ (c : Thread nD τ) none) Set.univ
              (.op (.store kvM (Rect.unit (s := S4x1024x256) off S1x256x256.size inb) w Finset.univ hx hm) k) Q) := by
  subst hw
  iintro H Hk
  iapply (wp_store 𝒱₀ (c : Thread nD τ) none Set.univ (m := kvM) (r := Rect.unit (s := S4x1024x256) off S1x256x256.size inb) (Mk := Finset.univ)
    (S := seg c) (f := f) (w := kvBlk m c p)
    (by rw [View.setOn_univ]; exact rect_sub (o := c) (lo := 0) (hi := 4) h rfl (Nat.zero_le _) p.isLt inb)) $$ H
  iintro H
  iapply Hk
  iexists _
  isplitr
  rotate_left
  · iexact H
  · ipureintro; exact fun i hi => stored h inb m f i hi

/-! ## Loads of the staged inputs -/

theorem x0_load {hl : (Memref.whole cc0_stg0_0 : Memref sig .tc .vmem S2x256x768 .f32).view.LoadsAt (Rect.unit (s := S2x256x768) ![0, 0, 0] S1x256x768.size inb_S2x256x768_S1x256x768_0_0_0).toLoadRect}
    {α : Type} {Q : α → sProp 𝕄} {k : Vec F S1x256x768 .f32 → Prog (TpuEff nD τ sig (Elt F) Λ₀ .tc) α} :
    (((c : Thread nD τ).loc cc0_stg0_0) ↦{fullShare} xS m c)
      ⊢ iprop(((((c : Thread nD τ).loc cc0_stg0_0) ↦{fullShare} xS m c) -∗ wp frame (wpE (defs₀ (F := F)) 𝒱₀ (c : Thread nD τ) none) Set.univ (k (x0 m c)) Q)
          -∗ wp frame (wpE (defs₀ (F := F)) 𝒱₀ (c : Thread nD τ) none) Set.univ
              (.op (.load (Memref.whole cc0_stg0_0 : Memref sig .tc .vmem S2x256x768 .f32) (Rect.unit (s := S2x256x768) ![0, 0, 0] S1x256x768.size inb_S2x256x768_S1x256x768_0_0_0).toLoadRect hl) k) Q) :=
  wp_load 𝒱₀ (c : Thread nD τ) none Set.univ (m := (Memref.whole cc0_stg0_0 : Memref sig .tc .vmem S2x256x768 .f32)) (r := (Rect.unit (s := S2x256x768) ![0, 0, 0] S1x256x768.size inb_S2x256x768_S1x256x768_0_0_0).toLoadRect) (f := xS m c) (Finset.subset_univ _)

theorem x1_load {hl : (Memref.whole cc0_stg0_0 : Memref sig .tc .vmem S2x256x768 .f32).view.LoadsAt (Rect.unit (s := S2x256x768) ![1, 0, 0] S1x256x768.size inb_S2x256x768_S1x256x768_1_0_0).toLoadRect}
    {α : Type} {Q : α → sProp 𝕄} {k : Vec F S1x256x768 .f32 → Prog (TpuEff nD τ sig (Elt F) Λ₀ .tc) α} :
    (((c : Thread nD τ).loc cc0_stg0_0) ↦{fullShare} xS m c)
      ⊢ iprop(((((c : Thread nD τ).loc cc0_stg0_0) ↦{fullShare} xS m c) -∗ wp frame (wpE (defs₀ (F := F)) 𝒱₀ (c : Thread nD τ) none) Set.univ (k (x1 m c)) Q)
          -∗ wp frame (wpE (defs₀ (F := F)) 𝒱₀ (c : Thread nD τ) none) Set.univ
              (.op (.load (Memref.whole cc0_stg0_0 : Memref sig .tc .vmem S2x256x768 .f32) (Rect.unit (s := S2x256x768) ![1, 0, 0] S1x256x768.size inb_S2x256x768_S1x256x768_1_0_0).toLoadRect hl) k) Q) :=
  wp_load 𝒱₀ (c : Thread nD τ) none Set.univ (m := (Memref.whole cc0_stg0_0 : Memref sig .tc .vmem S2x256x768 .f32)) (r := (Rect.unit (s := S2x256x768) ![1, 0, 0] S1x256x768.size inb_S2x256x768_S1x256x768_1_0_0).toLoadRect) (f := xS m c) (Finset.subset_univ _)

theorem wq_load {hl : (Memref.whole cc0_stg1_0 : Memref sig .tc .vmem S768x256 .f32).view.LoadsAt (Rect.unit (s := S768x256) ![0, 0] S768x256.size inb_S768x256_S768x256_0_0).toLoadRect}
    {α : Type} {Q : α → sProp 𝕄} {k : Vec F S768x256 .f32 → Prog (TpuEff nD τ sig (Elt F) Λ₀ .tc) α} :
    (((c : Thread nD τ).loc cc0_stg1_0) ↦{fullShare} wqS m c)
      ⊢ iprop(((((c : Thread nD τ).loc cc0_stg1_0) ↦{fullShare} wqS m c) -∗ wp frame (wpE (defs₀ (F := F)) 𝒱₀ (c : Thread nD τ) none) Set.univ (k (wqW m c)) Q)
          -∗ wp frame (wpE (defs₀ (F := F)) 𝒱₀ (c : Thread nD τ) none) Set.univ
              (.op (.load (Memref.whole cc0_stg1_0 : Memref sig .tc .vmem S768x256 .f32) (Rect.unit (s := S768x256) ![0, 0] S768x256.size inb_S768x256_S768x256_0_0).toLoadRect hl) k) Q) :=
  wp_load 𝒱₀ (c : Thread nD τ) none Set.univ (m := (Memref.whole cc0_stg1_0 : Memref sig .tc .vmem S768x256 .f32)) (r := (Rect.unit (s := S768x256) ![0, 0] S768x256.size inb_S768x256_S768x256_0_0).toLoadRect) (f := wqS m c) (Finset.subset_univ _)

theorem wk_load {hl : (Memref.whole cc0_stg2_0 : Memref sig .tc .vmem S768x256 .f32).view.LoadsAt (Rect.unit (s := S768x256) ![0, 0] S768x256.size inb_S768x256_S768x256_0_0).toLoadRect}
    {α : Type} {Q : α → sProp 𝕄} {k : Vec F S768x256 .f32 → Prog (TpuEff nD τ sig (Elt F) Λ₀ .tc) α} :
    (((c : Thread nD τ).loc cc0_stg2_0) ↦{fullShare} wkS m c)
      ⊢ iprop(((((c : Thread nD τ).loc cc0_stg2_0) ↦{fullShare} wkS m c) -∗ wp frame (wpE (defs₀ (F := F)) 𝒱₀ (c : Thread nD τ) none) Set.univ (k (wkW m c)) Q)
          -∗ wp frame (wpE (defs₀ (F := F)) 𝒱₀ (c : Thread nD τ) none) Set.univ
              (.op (.load (Memref.whole cc0_stg2_0 : Memref sig .tc .vmem S768x256 .f32) (Rect.unit (s := S768x256) ![0, 0] S768x256.size inb_S768x256_S768x256_0_0).toLoadRect hl) k) Q) :=
  wp_load 𝒱₀ (c : Thread nD τ) none Set.univ (m := (Memref.whole cc0_stg2_0 : Memref sig .tc .vmem S768x256 .f32)) (r := (Rect.unit (s := S768x256) ![0, 0] S768x256.size inb_S768x256_S768x256_0_0).toLoadRect) (f := wkS m c) (Finset.subset_univ _)

theorem wv_load {hl : (Memref.whole cc0_stg3_0 : Memref sig .tc .vmem S768x256 .f32).view.LoadsAt (Rect.unit (s := S768x256) ![0, 0] S768x256.size inb_S768x256_S768x256_0_0).toLoadRect}
    {α : Type} {Q : α → sProp 𝕄} {k : Vec F S768x256 .f32 → Prog (TpuEff nD τ sig (Elt F) Λ₀ .tc) α} :
    (((c : Thread nD τ).loc cc0_stg3_0) ↦{fullShare} wvS m c)
      ⊢ iprop(((((c : Thread nD τ).loc cc0_stg3_0) ↦{fullShare} wvS m c) -∗ wp frame (wpE (defs₀ (F := F)) 𝒱₀ (c : Thread nD τ) none) Set.univ (k (wvW m c)) Q)
          -∗ wp frame (wpE (defs₀ (F := F)) 𝒱₀ (c : Thread nD τ) none) Set.univ
              (.op (.load (Memref.whole cc0_stg3_0 : Memref sig .tc .vmem S768x256 .f32) (Rect.unit (s := S768x256) ![0, 0] S768x256.size inb_S768x256_S768x256_0_0).toLoadRect hl) k) Q) :=
  wp_load 𝒱₀ (c : Thread nD τ) none Set.univ (m := (Memref.whole cc0_stg3_0 : Memref sig .tc .vmem S768x256 .f32)) (r := (Rect.unit (s := S768x256) ![0, 0] S768x256.size inb_S768x256_S768x256_0_0).toLoadRect) (f := wvS m c) (Finset.subset_univ _)

theorem wo_load {hl : (Memref.whole cc0_stg4_0 : Memref sig .tc .vmem S256x768 .f32).view.LoadsAt (Rect.unit (s := S256x768) ![0, 0] S256x768.size inb_S256x768_S256x768_0_0).toLoadRect}
    {α : Type} {Q : α → sProp 𝕄} {k : Vec F S256x768 .f32 → Prog (TpuEff nD τ sig (Elt F) Λ₀ .tc) α} :
    (((c : Thread nD τ).loc cc0_stg4_0) ↦{fullShare} woS m c)
      ⊢ iprop(((((c : Thread nD τ).loc cc0_stg4_0) ↦{fullShare} woS m c) -∗ wp frame (wpE (defs₀ (F := F)) 𝒱₀ (c : Thread nD τ) none) Set.univ (k (woW m c)) Q)
          -∗ wp frame (wpE (defs₀ (F := F)) 𝒱₀ (c : Thread nD τ) none) Set.univ
              (.op (.load (Memref.whole cc0_stg4_0 : Memref sig .tc .vmem S256x768 .f32) (Rect.unit (s := S256x768) ![0, 0] S256x768.size inb_S256x768_S256x768_0_0).toLoadRect hl) k) Q) :=
  wp_load 𝒱₀ (c : Thread nD τ) none Set.univ (m := (Memref.whole cc0_stg4_0 : Memref sig .tc .vmem S256x768 .f32)) (r := (Rect.unit (s := S256x768) ![0, 0] S256x768.size inb_S256x768_S256x768_0_0).toLoadRect) (f := woS m c) (Finset.subset_univ _)

end Steps

/-! ## Taking the scratch apart -/

theorem seg_split (m : Mem F) (c o : Dev nD) (q : PosShare TreeShare) : kvP m c (seg o) q ⊢ iprop(kvP m c (segK o) q ∗ kvP m c (segV o) q) := by
  show kvP m c (seg o) q ⊢ _
  rw [← seg_eq o]; exact (pointsTo_union (seg_disj o)).1

theorem seg_join (m : Mem F) (c o : Dev nD) (q : PosShare TreeShare) : iprop(kvP m c (segK o) q ∗ kvP m c (segV o) q) ⊢ kvP m c (seg o) q := by
  show _ ⊢ kvP m c (seg o) q
  rw [← seg_eq o]; exact (pointsTo_union (seg_disj o)).2

theorem halves (m : Mem F) (c : Dev nD) (S : Finset S4x1024x256.Idx) :
    kvP m c S fullShare ⊣⊢ iprop(kvP m c S fullShare.left ∗ kvP m c S fullShare.right) := pointsTo_share (PosShare.mem_left_op_right fullShare)

theorem halves_right (m : Mem F) (c : Dev nD) (S : Finset S4x1024x256.Idx) :
    kvP m c S fullShare.right ⊣⊢ iprop(kvP m c S qB ∗ kvP m c S qC) := pointsTo_share (PosShare.mem_left_op_right fullShare.right)

/-- The device's own rows: the share each of the two transfers holds, and the rest by planes. -/
theorem share_own (m : Mem F) (c : Dev nD) :
    kvP m c (seg c) fullShare ⊢ iprop(kvP m c (seg c) qA ∗ kvP m c (seg c) qB ∗ kvP m c (segK c) qC ∗ kvP m c (segV c) qC) :=
  (halves m c (seg c)).1.trans (sep_mono_right ((halves_right m c (seg c)).1.trans (sep_mono_right (seg_split m c c qC))))

theorem unshare_own (m : Mem F) (c : Dev nD) :
    iprop(kvP m c (seg c) qA ∗ kvP m c (seg c) qB ∗ kvP m c (segK c) qC ∗ kvP m c (segV c) qC) ⊢ kvP m c (seg c) fullShare :=
  (sep_mono_right ((sep_mono_right (seg_join m c c qC)).trans (halves_right m c (seg c)).2)).trans (halves m c (seg c)).2

end Cert.RingAttn

end
-- ==== Proof.Parts.lean ====
module

public import proofs.«01_k».proof.Proof.Steps

/-!
# The parts of the body that only load and compute

-/

@[expose] public section

set_option maxRecDepth 16384

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F) (c : Dev nD)

theorem part2_wp {α : Type} {Q : α → sProp 𝕄}
    (kk : (Σ' (v72 : FVec F S256x256 .f32) (v73 : FVec F S256x256 .f32) (v74 : IVec S256x256 32) (v75 : IVec S256x256 32), BitVec 32) → Prog (TpuEff nD τ sig (Elt F) Λ₀ .tc) α) :
    wp frame (wpE (defs₀ (F := F)) 𝒱₀ (c : Thread nD τ) none) Set.univ (kk ⟨v72 m c, v73 m c, v74 m c, v75 m c, v77 m c⟩) Q
      ⊢ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (v19 m c) (v22 m c) (v24 m c) (v26 m c) (v28 m c) (v31 m c) >>= kk) Q := by
  rw [k0_part2_eq_skeleton]; unfold k0_part2_skel
  simp only [semSignalWord, semWaitWord, Prog.lift, Prog.bind_op, Prog.bind_ret, Prog.pure_eq_ret, wp_deviceId]
  exact Entails.refl _

theorem part3_wp {α : Type} {Q : α → sProp 𝕄}
    (kk : (Σ' (v100 : FVec F S256x256 .f32), IVec S256x256 1) → Prog (TpuEff nD τ sig (Elt F) Λ₀ .tc) α) :
    wp frame (wpE (defs₀ (F := F)) 𝒱₀ (c : Thread nD τ) none) Set.univ (kk ⟨v100 m c, v122 m c⟩) Q
      ⊢ wp frame (wpE (defs₀ (F := F)) 𝒱₀ (c : Thread nD τ) none) Set.univ (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (v74 m c) (v75 m c) (v77 m c) >>= kk) Q := by
  rw [k0_part3_eq_skeleton]; unfold k0_part3_skel
  simp only [semSignalWord, semWaitWord, Prog.lift, Prog.bind_op, Prog.bind_ret, Prog.pure_eq_ret, wp_deviceId]
  exact Entails.refl _

theorem part7_wp (qK qV : PosShare TreeShare) {α : Type} {Q : α → sProp 𝕄}
    (kk : (Σ' (v226 : FVec F S256x1 .f32) (v235 : FVec F S256x1 .f32) (v239 : FVec F S256x64 .f32) (v248 : FVec F S256x64 .f32) (v254 : FVec F S256x1 .f32) (v259 : FVec F S256x256 .f32) (v263 : FVec F S256x1 .f32), FVec F S256x64 .f32) → Prog (TpuEff nD τ sig (Elt F) Λ₀ .tc) α) :
    iprop(kvP m c (segK c) qK ∗ kvP m c (segV c) qV)
      ⊢ iprop(((kvP m c (segK c) qK ∗ kvP m c (segV c) qV) -∗ wp frame (wpE (defs₀ (F := F)) 𝒱₀ (c : Thread nD τ) none) Set.univ (kk ⟨v226 m c, v235 m c, v239 m c, v248 m c, v254 m c, v259 m c, v263 m c, v264 m c⟩) Q)
          -∗ wp frame (wpE (defs₀ (F := F)) 𝒱₀ (c : Thread nD τ) none) Set.univ (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v2 m c) (v199 m c) (v209 m c) (v210 m c) (v211 m c) (v212 m c) (v216 m c) (v219 m c) >>= kk) Q) := by
  rw [k0_part7_eq_skeleton]; unfold k0_part7_skel
  simp only [semSignalWord, semWaitWord, Prog.lift, Prog.bind_op, Prog.bind_ret, Prog.pure_eq_ret, wp_deviceId]
  iintro ⟨HK, HV⟩ Hk
  iapply (kv_load m c (k0_off8_eq c) (lo := 0) (hi := 2) (by decide) (by decide) (k0_off8_inb c) _) $$ HK; iintro HK
  iapply (kv_load m c (k0_off9_eq c) (lo := 2) (hi := 4) (by decide) (by decide) (k0_off9_inb c) _) $$ HV; iintro HV
  iapply Hk
  isplitl [HK] <;> iassumption

theorem part8_wp (qK qV : PosShare TreeShare) {α : Type} {Q : α → sProp 𝕄}
    (kk : (Σ' (v267 : FVec F S256x64 .f32) (v282 : FVec F S256x1 .f32) (v291 : FVec F S256x1 .f32) (v295 : FVec F S256x64 .f32) (v304 : FVec F S256x64 .f32), FVec F S256x256 .f32) → Prog (TpuEff nD τ sig (Elt F) Λ₀ .tc) α) :
    iprop(kvP m c (segK c) qK ∗ kvP m c (segV c) qV)
      ⊢ iprop(((kvP m c (segK c) qK ∗ kvP m c (segV c) qV) -∗ wp frame (wpE (defs₀ (F := F)) 𝒱₀ (c : Thread nD τ) none) Set.univ (kk ⟨v267 m c, v282 m c, v291 m c, v295 m c, v304 m c, v305 m c⟩) Q)
          -∗ wp frame (wpE (defs₀ (F := F)) 𝒱₀ (c : Thread nD τ) none) Set.univ (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v2 m c) (v199 m c) (v209 m c) (v210 m c) (v211 m c) (v248 m c) (v259 m c) (v264 m c) >>= kk) Q) := by
  rw [k0_part8_eq_skeleton]; unfold k0_part8_skel
  simp only [semSignalWord, semWaitWord, Prog.lift, Prog.bind_op, Prog.bind_ret, Prog.pure_eq_ret, wp_deviceId]
  iintro ⟨HK, HV⟩ Hk
  iapply (kv_load m c (k0_off10_eq c) (lo := 0) (hi := 2) (by decide) (by decide) (k0_off10_inb c) _) $$ HK; iintro HK
  iapply (kv_load m c (k0_off11_eq c) (lo := 2) (hi := 4) (by decide) (by decide) (k0_off11_inb c) _) $$ HV; iintro HV
  iapply (kv_load m c (k0_off12_eq c) (lo := 0) (hi := 2) (by decide) (by decide) (k0_off12_inb c) _) $$ HK; iintro HK
  iapply (kv_load m c (k0_off13_eq c) (lo := 2) (hi := 4) (by decide) (by decide) (k0_off13_inb c) _) $$ HV; iintro HV
  iapply Hk
  isplitl [HK] <;> iassumption

theorem part9_wp (qK qV : PosShare TreeShare) {α : Type} {Q : α → sProp 𝕄}
    (kk : (Σ' (v310 : FVec F S256x1 .f32) (v319 : FVec F S256x1 .f32) (v323 : FVec F S256x64 .f32) (v338 : FVec F S256x1 .f32) (v347 : FVec F S256x1 .f32) (v349 : FVec F S256x64 .f32), FVec F S256x64 .f32) → Prog (TpuEff nD τ sig (Elt F) Λ₀ .tc) α) :
    iprop(kvP m c (segK c) qK ∗ kvP m c (segV c) qV)
      ⊢ iprop(((kvP m c (segK c) qK ∗ kvP m c (segV c) qV) -∗ wp frame (wpE (defs₀ (F := F)) 𝒱₀ (c : Thread nD τ) none) Set.univ (kk ⟨v310 m c, v319 m c, v323 m c, v338 m c, v347 m c, v349 m c, v350 m c⟩) Q)
          -∗ wp frame (wpE (defs₀ (F := F)) 𝒱₀ (c : Thread nD τ) none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v2 m c) (v208 m c) (v209 m c) (v210 m c) (v211 m c) (v304 m c) (v305 m c) >>= kk) Q) := by
  rw [k0_part9_eq_skeleton]; unfold k0_part9_skel
  simp only [semSignalWord, semWaitWord, Prog.lift, Prog.bind_op, Prog.bind_ret, Prog.pure_eq_ret, wp_deviceId]
  iintro ⟨HK, HV⟩ Hk
  iapply (kv_load m c (k0_off14_eq c) (lo := 0) (hi := 2) (by decide) (by decide) (k0_off14_inb c) _) $$ HK; iintro HK
  iapply (kv_load m c (k0_off15_eq c) (lo := 2) (hi := 4) (by decide) (by decide) (k0_off15_inb c) _) $$ HV; iintro HV
  iapply Hk
  isplitl [HK] <;> iassumption

theorem part10_wp (qK qV : PosShare TreeShare) {α : Type} {Q : α → sProp 𝕄}
    (kk : (Σ' (v351 : FVec F S256x64 .f32) (v366 : FVec F S256x1 .f32) (v375 : FVec F S256x1 .f32) (v379 : FVec F S256x64 .f32) (v388 : FVec F S256x64 .f32), FVec F S256x256 .f32) → Prog (TpuEff nD τ sig (Elt F) Λ₀ .tc) α) :
    iprop(kvP m c (segK c) qK ∗ kvP m c (segV c) qV)
      ⊢ iprop(((kvP m c (segK c) qK ∗ kvP m c (segV c) qV) -∗ wp frame (wpE (defs₀ (F := F)) 𝒱₀ (c : Thread nD τ) none) Set.univ (kk ⟨v351 m c, v366 m c, v375 m c, v379 m c, v388 m c, v391 m c⟩) Q)
          -∗ wp frame (wpE (defs₀ (F := F)) 𝒱₀ (c : Thread nD τ) none) Set.univ (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v2 m c) (v208 m c) (v209 m c) (v210 m c) (v211 m c) (v349 m c) (v350 m c) >>= kk) Q) := by
  rw [k0_part10_eq_skeleton]; unfold k0_part10_skel
  simp only [semSignalWord, semWaitWord, Prog.lift, Prog.bind_op, Prog.bind_ret, Prog.pure_eq_ret, wp_deviceId]
  iintro ⟨HK, HV⟩ Hk
  iapply (kv_load m c (k0_off16_eq c) (lo := 0) (hi := 2) (by decide) (by decide) (k0_off16_inb c) _) $$ HK; iintro HK
  iapply (kv_load m c (k0_off17_eq c) (lo := 2) (hi := 4) (by decide) (by decide) (k0_off17_inb c) _) $$ HV; iintro HV
  iapply (kv_load m c (k0_off18_eq c) (lo := 0) (hi := 2) (by decide) (by decide) (k0_off18_inb c) _) $$ HK; iintro HK
  iapply (kv_load m c (k0_off19_eq c) (lo := 2) (hi := 4) (by decide) (by decide) (k0_off19_inb c) _) $$ HV; iintro HV
  iapply Hk
  isplitl [HK] <;> iassumption

theorem part11_wp (qK qV : PosShare TreeShare) {α : Type} {Q : α → sProp 𝕄}
    (kk : (Σ' (v394 : FVec F S256x1 .f32) (v403 : FVec F S256x1 .f32) (v407 : FVec F S256x64 .f32) (v422 : FVec F S256x1 .f32) (v431 : FVec F S256x1 .f32), FVec F S256x64 .f32) → Prog (TpuEff nD τ sig (Elt F) Λ₀ .tc) α) :
    iprop(kvP m c (segK c) qK ∗ kvP m c (segV c) qV)
      ⊢ iprop(((kvP m c (segK c) qK ∗ kvP m c (segV c) qV) -∗ wp frame (wpE (defs₀ (F := F)) 𝒱₀ (c : Thread nD τ) none) Set.univ (kk ⟨v394 m c, v403 m c, v407 m c, v422 m c, v431 m c, v435 m c⟩) Q)
          -∗ wp frame (wpE (defs₀ (F := F)) 𝒱₀ (c : Thread nD τ) none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v2 m c) (v208 m c) (v209 m c) (v210 m c) (v211 m c) (v388 m c) (v391 m c) >>= kk) Q) := by
  rw [k0_part11_eq_skeleton]; unfold k0_part11_skel
  simp only [semSignalWord, semWaitWord, Prog.lift, Prog.bind_op, Prog.bind_ret, Prog.pure_eq_ret, wp_deviceId]
  iintro ⟨HK, HV⟩ Hk
  iapply (kv_load m c (k0_off20_eq c) (lo := 0) (hi := 2) (by decide) (by decide) (k0_off20_inb c) _) $$ HK; iintro HK
  iapply (kv_load m c (k0_off21_eq c) (lo := 2) (hi := 4) (by decide) (by decide) (k0_off21_inb c) _) $$ HV; iintro HV
  iapply Hk
  isplitl [HK] <;> iassumption

theorem part13_wp (qK qV : PosShare TreeShare) {α : Type} {Q : α → sProp 𝕄}
    (kk : (Σ' (v475 : FVec F S256x1 .f32) (v479 : FVec F S256x64 .f32) (v494 : FVec F S256x1 .f32) (v503 : FVec F S256x1 .f32) (v507 : FVec F S256x64 .f32) (v508 : FVec F S256x64 .f32), FVec F S256x64 .f32) → Prog (TpuEff nD τ sig (Elt F) Λ₀ .tc) α) :
    iprop(kvP m c (segK (lft c)) qK ∗ kvP m c (segV (lft c)) qV)
      ⊢ iprop(((kvP m c (segK (lft c)) qK ∗ kvP m c (segV (lft c)) qV) -∗ wp frame (wpE (defs₀ (F := F)) 𝒱₀ (c : Thread nD τ) none) Set.univ (kk ⟨v475 m c, v479 m c, v494 m c, v503 m c, v507 m c, v508 m c, v512 m c⟩) Q)
          -∗ wp frame (wpE (defs₀ (F := F)) 𝒱₀ (c : Thread nD τ) none) Set.univ (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v5 m c) (v199 m c) (v235 m c) (v239 m c) (v254 m c) (v263 m c) (v267 m c) (v460 m c) (v463 m c) (v466 m c) (v468 m c) >>= kk) Q) := by
  rw [k0_part13_eq_skeleton]; unfold k0_part13_skel
  simp only [semSignalWord, semWaitWord, Prog.lift, Prog.bind_op, Prog.bind_ret, Prog.pure_eq_ret, wp_deviceId]
  iintro ⟨HK, HV⟩ Hk
  iapply (kv_load m c (k0_off25_eq c) (lo := 0) (hi := 2) (by decide) (by decide) (k0_off25_inb c) _) $$ HK; iintro HK
  iapply (kv_load m c (k0_off26_eq c) (lo := 2) (hi := 4) (by decide) (by decide) (k0_off26_inb c) _) $$ HV; iintro HV
  iapply (kv_load m c (k0_off27_eq c) (lo := 0) (hi := 2) (by decide) (by decide) (k0_off27_inb c) _) $$ HK; iintro HK
  iapply Hk
  isplitl [HK] <;> iassumption

theorem part14_wp (qK qV : PosShare TreeShare) {α : Type} {Q : α → sProp 𝕄}
    (kk : (Σ' (v522 : FVec F S256x1 .f32) (v531 : FVec F S256x1 .f32) (v535 : FVec F S256x64 .f32) (v544 : FVec F S256x64 .f32) (v550 : FVec F S256x1 .f32) (v552 : FVec F S256x1 .f32), FVec F S256x256 .f32) → Prog (TpuEff nD τ sig (Elt F) Λ₀ .tc) α) :
    iprop(kvP m c (segK (lft c)) qK ∗ kvP m c (segV (lft c)) qV)
      ⊢ iprop(((kvP m c (segK (lft c)) qK ∗ kvP m c (segV (lft c)) qV) -∗ wp frame (wpE (defs₀ (F := F)) 𝒱₀ (c : Thread nD τ) none) Set.univ (kk ⟨v522 m c, v531 m c, v535 m c, v544 m c, v550 m c, v552 m c, v555 m c⟩) Q)
          -∗ wp frame (wpE (defs₀ (F := F)) 𝒱₀ (c : Thread nD τ) none) Set.univ (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v5 m c) (v199 m c) (v282 m c) (v291 m c) (v295 m c) (v310 m c) (v508 m c) (v512 m c) >>= kk) Q) := by
  rw [k0_part14_eq_skeleton]; unfold k0_part14_skel
  simp only [semSignalWord, semWaitWord, Prog.lift, Prog.bind_op, Prog.bind_ret, Prog.pure_eq_ret, wp_deviceId]
  iintro ⟨HK, HV⟩ Hk
  iapply (kv_load m c (k0_off28_eq c) (lo := 2) (hi := 4) (by decide) (by decide) (k0_off28_inb c) _) $$ HV; iintro HV
  iapply (kv_load m c (k0_off29_eq c) (lo := 0) (hi := 2) (by decide) (by decide) (k0_off29_inb c) _) $$ HK; iintro HK
  iapply (kv_load m c (k0_off30_eq c) (lo := 2) (hi := 4) (by decide) (by decide) (k0_off30_inb c) _) $$ HV; iintro HV
  iapply Hk
  isplitl [HK] <;> iassumption

theorem part15_wp (qK qV : PosShare TreeShare) {α : Type} {Q : α → sProp 𝕄}
    (kk : (Σ' (v559 : FVec F S256x1 .f32) (v563 : FVec F S256x64 .f32) (v578 : FVec F S256x1 .f32) (v587 : FVec F S256x1 .f32) (v591 : FVec F S256x64 .f32) (v592 : FVec F S256x64 .f32) (v596 : FVec F S256x64 .f32), BitVec 32) → Prog (TpuEff nD τ sig (Elt F) Λ₀ .tc) α) :
    iprop(kvP m c (segK (lft c)) qK ∗ kvP m c (segV (lft c)) qV)
      ⊢ iprop(((kvP m c (segK (lft c)) qK ∗ kvP m c (segV (lft c)) qV) -∗ wp frame (wpE (defs₀ (F := F)) 𝒱₀ (c : Thread nD τ) none) Set.univ (kk ⟨v559 m c, v563 m c, v578 m c, v587 m c, v591 m c, v592 m c, v596 m c, v597 m c⟩) Q)
          -∗ wp frame (wpE (defs₀ (F := F)) 𝒱₀ (c : Thread nD τ) none) Set.univ (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v5 m c) (v208 m c) (v319 m c) (v323 m c) (v338 m c) (v347 m c) (v351 m c) (v544 m c) (v552 m c) (v555 m c) >>= kk) Q) := by
  rw [k0_part15_eq_skeleton]; unfold k0_part15_skel
  simp only [semSignalWord, semWaitWord, Prog.lift, Prog.bind_op, Prog.bind_ret, Prog.pure_eq_ret, wp_deviceId]
  iintro ⟨HK, HV⟩ Hk
  iapply (kv_load m c (k0_off31_eq c) (lo := 0) (hi := 2) (by decide) (by decide) (k0_off31_inb c) _) $$ HK; iintro HK
  iapply (kv_load m c (k0_off32_eq c) (lo := 2) (hi := 4) (by decide) (by decide) (k0_off32_inb c) _) $$ HV; iintro HV
  iapply (kv_load m c (k0_off33_eq c) (lo := 0) (hi := 2) (by decide) (by decide) (k0_off33_inb c) _) $$ HK; iintro HK
  iapply Hk
  isplitl [HK] <;> iassumption

theorem part16_wp (qK qV : PosShare TreeShare) {α : Type} {Q : α → sProp 𝕄}
    (kk : (Σ' (v606 : FVec F S256x1 .f32) (v615 : FVec F S256x1 .f32) (v619 : FVec F S256x64 .f32) (v628 : FVec F S256x64 .f32) (v634 : FVec F S256x1 .f32) (v636 : FVec F S256x1 .f32) (v639 : FVec F S256x256 .f32) (v640 : FVec F S256x1 .f32), FVec F S256 .f32) → Prog (TpuEff nD τ sig (Elt F) Λ₀ .tc) α) :
    iprop(kvP m c (segK (lft c)) qK ∗ kvP m c (segV (lft c)) qV)
      ⊢ iprop(((kvP m c (segK (lft c)) qK ∗ kvP m c (segV (lft c)) qV) -∗ wp frame (wpE (defs₀ (F := F)) 𝒱₀ (c : Thread nD τ) none) Set.univ (kk ⟨v606 m c, v615 m c, v619 m c, v628 m c, v634 m c, v636 m c, v639 m c, v640 m c, v641 m c⟩) Q)
          -∗ wp frame (wpE (defs₀ (F := F)) 𝒱₀ (c : Thread nD τ) none) Set.univ (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v5 m c) (v208 m c) (v366 m c) (v375 m c) (v379 m c) (v394 m c) (v403 m c) (v592 m c) (v596 m c) (v597 m c) >>= kk) Q) := by
  rw [k0_part16_eq_skeleton]; unfold k0_part16_skel
  simp only [semSignalWord, semWaitWord, Prog.lift, Prog.bind_op, Prog.bind_ret, Prog.pure_eq_ret, wp_deviceId]
  iintro ⟨HK, HV⟩ Hk
  iapply (kv_load m c (k0_off34_eq c) (lo := 2) (hi := 4) (by decide) (by decide) (k0_off34_inb c) _) $$ HV; iintro HV
  iapply (kv_load m c (k0_off35_eq c) (lo := 0) (hi := 2) (by decide) (by decide) (k0_off35_inb c) _) $$ HK; iintro HK
  iapply (kv_load m c (k0_off36_eq c) (lo := 2) (hi := 4) (by decide) (by decide) (k0_off36_inb c) _) $$ HV; iintro HV
  iapply Hk
  isplitl [HK] <;> iassumption

theorem part17_wp (qK qV : PosShare TreeShare) {α : Type} {Q : α → sProp 𝕄}
    (kk : (Σ' (v643 : FVec F S256x1 .f32) (v647 : FVec F S256x64 .f32) (v662 : FVec F S256x1 .f32) (v671 : FVec F S256x1 .f32), FVec F S256x64 .f32) → Prog (TpuEff nD τ sig (Elt F) Λ₀ .tc) α) :
    iprop(kvP m c (segK (lft c)) qK ∗ kvP m c (segV (lft c)) qV)
      ⊢ iprop(((kvP m c (segK (lft c)) qK ∗ kvP m c (segV (lft c)) qV) -∗ wp frame (wpE (defs₀ (F := F)) 𝒱₀ (c : Thread nD τ) none) Set.univ (kk ⟨v643 m c, v647 m c, v662 m c, v671 m c, v675 m c⟩) Q)
          -∗ wp frame (wpE (defs₀ (F := F)) 𝒱₀ (c : Thread nD τ) none) Set.univ (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v5 m c) (v208 m c) (v407 m c) (v422 m c) (v431 m c) (v435 m c) (v628 m c) (v636 m c) (v639 m c) (v640 m c) (v641 m c) >>= kk) Q) := by
  rw [k0_part17_eq_skeleton]; unfold k0_part17_skel
  simp only [semSignalWord, semWaitWord, Prog.lift, Prog.bind_op, Prog.bind_ret, Prog.pure_eq_ret, wp_deviceId]
  iintro ⟨HK, HV⟩ Hk
  iapply (kv_load m c (k0_off37_eq c) (lo := 0) (hi := 2) (by decide) (by decide) (k0_off37_inb c) _) $$ HK; iintro HK
  iapply (kv_load m c (k0_off38_eq c) (lo := 2) (hi := 4) (by decide) (by decide) (k0_off38_inb c) _) $$ HV; iintro HV
  iapply Hk
  isplitl [HK] <;> iassumption

theorem part19_wp (qK qV : PosShare TreeShare) {α : Type} {Q : α → sProp 𝕄}
    (kk : (Σ' (v719 : FVec F S256x64 .f32) (v734 : FVec F S256x1 .f32) (v743 : FVec F S256x1 .f32) (v747 : FVec F S256x64 .f32) (v756 : FVec F S256x64 .f32), FVec F S256x256 .f32) → Prog (TpuEff nD τ sig (Elt F) Λ₀ .tc) α) :
    iprop(kvP m c (segK (rgt c)) qK ∗ kvP m c (segV (rgt c)) qV)
      ⊢ iprop(((kvP m c (segK (rgt c)) qK ∗ kvP m c (segV (rgt c)) qV) -∗ wp frame (wpE (defs₀ (F := F)) 𝒱₀ (c : Thread nD τ) none) Set.univ (kk ⟨v719 m c, v734 m c, v743 m c, v747 m c, v756 m c, v759 m c⟩) Q)
          -∗ wp frame (wpE (defs₀ (F := F)) 𝒱₀ (c : Thread nD τ) none) Set.univ (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v7 m c) (v199 m c) (v494 m c) (v503 m c) (v507 m c) (v717 m c) (v718 m c) >>= kk) Q) := by
  rw [k0_part19_eq_skeleton]; unfold k0_part19_skel
  simp only [semSignalWord, semWaitWord, Prog.lift, Prog.bind_op, Prog.bind_ret, Prog.pure_eq_ret, wp_deviceId]
  iintro ⟨HK, HV⟩ Hk
  iapply (kv_load m c (k0_off42_eq c 0) (lo := 0) (hi := 2) (by decide) (by decide) (k0_off42_inb c 0) _) $$ HK; iintro HK
  iapply (kv_load m c (k0_off43_eq c 0) (lo := 2) (hi := 4) (by decide) (by decide) (k0_off43_inb c 0) _) $$ HV; iintro HV
  iapply (kv_load m c (k0_off44_eq c 0) (lo := 0) (hi := 2) (by decide) (by decide) (k0_off44_inb c 0) _) $$ HK; iintro HK
  iapply (kv_load m c (k0_off45_eq c 0) (lo := 2) (hi := 4) (by decide) (by decide) (k0_off45_inb c 0) _) $$ HV; iintro HV
  iapply Hk
  isplitl [HK] <;> iassumption

theorem part20_wp (qK qV : PosShare TreeShare) {α : Type} {Q : α → sProp 𝕄}
    (kk : (Σ' (v762 : FVec F S256x1 .f32) (v771 : FVec F S256x1 .f32) (v775 : FVec F S256x64 .f32) (v790 : FVec F S256x1 .f32) (v799 : FVec F S256x1 .f32) (v803 : FVec F S256x64 .f32) (v804 : FVec F S256x64 .f32), BitVec 32) → Prog (TpuEff nD τ sig (Elt F) Λ₀ .tc) α) :
    iprop(kvP m c (segK (rgt c)) qK ∗ kvP m c (segV (rgt c)) qV)
      ⊢ iprop(((kvP m c (segK (rgt c)) qK ∗ kvP m c (segV (rgt c)) qV) -∗ wp frame (wpE (defs₀ (F := F)) 𝒱₀ (c : Thread nD τ) none) Set.univ (kk ⟨v762 m c, v771 m c, v775 m c, v790 m c, v799 m c, v803 m c, v804 m c, c256_i32_364 m c⟩) Q)
          -∗ wp frame (wpE (defs₀ (F := F)) 𝒱₀ (c : Thread nD τ) none) Set.univ (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v7 m c) (v199 m c) (v208 m c) (v522 m c) (v531 m c) (v535 m c) (v550 m c) (v559 m c) (v563 m c) (v756 m c) (v759 m c) >>= kk) Q) := by
  rw [k0_part20_eq_skeleton]; unfold k0_part20_skel
  simp only [semSignalWord, semWaitWord, Prog.lift, Prog.bind_op, Prog.bind_ret, Prog.pure_eq_ret, wp_deviceId]
  iintro ⟨HK, HV⟩ Hk
  iapply (kv_load m c (k0_off46_eq c 0) (lo := 0) (hi := 2) (by decide) (by decide) (k0_off46_inb c 0) _) $$ HK; iintro HK
  iapply (kv_load m c (k0_off47_eq c 0) (lo := 2) (hi := 4) (by decide) (by decide) (k0_off47_inb c 0) _) $$ HV; iintro HV
  iapply Hk
  isplitl [HK] <;> iassumption

theorem part21_wp (qK qV : PosShare TreeShare) {α : Type} {Q : α → sProp 𝕄}
    (kk : (Σ' (v818 : FVec F S256x1 .f32) (v827 : FVec F S256x1 .f32) (v831 : FVec F S256x64 .f32) (v840 : FVec F S256x64 .f32) (v843 : FVec F S256x256 .f32), FVec F S256x1 .f32) → Prog (TpuEff nD τ sig (Elt F) Λ₀ .tc) α) :
    iprop(kvP m c (segK (rgt c)) qK ∗ kvP m c (segV (rgt c)) qV)
      ⊢ iprop(((kvP m c (segK (rgt c)) qK ∗ kvP m c (segV (rgt c)) qV) -∗ wp frame (wpE (defs₀ (F := F)) 𝒱₀ (c : Thread nD τ) none) Set.univ (kk ⟨v818 m c, v827 m c, v831 m c, v840 m c, v843 m c, v845 m c⟩) Q)
          -∗ wp frame (wpE (defs₀ (F := F)) 𝒱₀ (c : Thread nD τ) none) Set.univ (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v7 m c) (v208 m c) (v578 m c) (v587 m c) (v591 m c) (v804 m c) (c256_i32_364 m c) >>= kk) Q) := by
  rw [k0_part21_eq_skeleton]; unfold k0_part21_skel
  simp only [semSignalWord, semWaitWord, Prog.lift, Prog.bind_op, Prog.bind_ret, Prog.pure_eq_ret, wp_deviceId]
  iintro ⟨HK, HV⟩ Hk
  iapply (kv_load m c (k0_off48_eq c 0) (lo := 0) (hi := 2) (by decide) (by decide) (k0_off48_inb c 0) _) $$ HK; iintro HK
  iapply (kv_load m c (k0_off49_eq c 0) (lo := 2) (hi := 4) (by decide) (by decide) (k0_off49_inb c 0) _) $$ HV; iintro HV
  iapply (kv_load m c (k0_off50_eq c 0) (lo := 0) (hi := 2) (by decide) (by decide) (k0_off50_inb c 0) _) $$ HK; iintro HK
  iapply (kv_load m c (k0_off51_eq c 0) (lo := 2) (hi := 4) (by decide) (by decide) (k0_off51_inb c 0) _) $$ HV; iintro HV
  iapply Hk
  isplitl [HK] <;> iassumption

theorem part22_wp (qK qV : PosShare TreeShare) {α : Type} {Q : α → sProp 𝕄}
    (kk : (Σ' (v846 : FVec F S256x1 .f32) (v855 : FVec F S256x1 .f32) (v859 : FVec F S256x64 .f32) (v874 : FVec F S256x1 .f32) (v883 : FVec F S256x1 .f32) (v887 : FVec F S256x64 .f32), FVec F S256x64 .f32) → Prog (TpuEff nD τ sig (Elt F) Λ₀ .tc) α) :
    iprop(kvP m c (segK (rgt c)) qK ∗ kvP m c (segV (rgt c)) qV)
      ⊢ iprop(((kvP m c (segK (rgt c)) qK ∗ kvP m c (segV (rgt c)) qV) -∗ wp frame (wpE (defs₀ (F := F)) 𝒱₀ (c : Thread nD τ) none) Set.univ (kk ⟨v846 m c, v855 m c, v859 m c, v874 m c, v883 m c, v887 m c, v888 m c⟩) Q)
          -∗ wp frame (wpE (defs₀ (F := F)) 𝒱₀ (c : Thread nD τ) none) Set.univ (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v7 m c) (v208 m c) (v606 m c) (v615 m c) (v619 m c) (v634 m c) (v643 m c) (v647 m c) (v840 m c) (v843 m c) (v845 m c) >>= kk) Q) := by
  rw [k0_part22_eq_skeleton]; unfold k0_part22_skel
  simp only [semSignalWord, semWaitWord, Prog.lift, Prog.bind_op, Prog.bind_ret, Prog.pure_eq_ret, wp_deviceId]
  iintro ⟨HK, HV⟩ Hk
  iapply (kv_load m c (k0_off52_eq c 0) (lo := 0) (hi := 2) (by decide) (by decide) (k0_off52_inb c 0) _) $$ HK; iintro HK
  iapply (kv_load m c (k0_off53_eq c 0) (lo := 2) (hi := 4) (by decide) (by decide) (k0_off53_inb c 0) _) $$ HV; iintro HV
  iapply Hk
  isplitl [HK] <;> iassumption

theorem part25_wp (qK qV : PosShare TreeShare) {α : Type} {Q : α → sProp 𝕄}
    (kk : (Σ' (v979 : FVec F S256x1 .f32) (v983 : FVec F S256x64 .f32) (v1007 : FVec F S256x1 .f32) (v1009 : FVec F S256x64 .f32), FVec F S256x64 .f32) → Prog (TpuEff nD τ sig (Elt F) Λ₀ .tc) α) :
    iprop(kvP m c (segK (dia c)) qK ∗ kvP m c (segV (dia c)) qV)
      ⊢ iprop(((kvP m c (segK (dia c)) qK ∗ kvP m c (segV (dia c)) qV) -∗ wp frame (wpE (defs₀ (F := F)) 𝒱₀ (c : Thread nD τ) none) Set.univ (kk ⟨v979 m c, v983 m c, v1007 m c, v1009 m c, v1010 m c⟩) Q)
          -∗ wp frame (wpE (defs₀ (F := F)) 𝒱₀ (c : Thread nD τ) none) Set.univ (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v9 m c) (v199 m c) (v734 m c) (v743 m c) (v747 m c) (v762 m c) (v771 m c) (v775 m c) (v964 m c) (v965 m c) >>= kk) Q) := by
  rw [k0_part25_eq_skeleton]; unfold k0_part25_skel
  simp only [semSignalWord, semWaitWord, Prog.lift, Prog.bind_op, Prog.bind_ret, Prog.pure_eq_ret, wp_deviceId]
  iintro ⟨HK, HV⟩ Hk
  iapply (kv_load m c (k0_off44_eq c 1) (lo := 0) (hi := 2) (by decide) (by decide) (k0_off44_inb c 1) _) $$ HK; iintro HK
  iapply (kv_load m c (k0_off45_eq c 1) (lo := 2) (hi := 4) (by decide) (by decide) (k0_off45_inb c 1) _) $$ HV; iintro HV
  iapply Hk
  isplitl [HK] <;> iassumption

theorem part26_wp (qK qV : PosShare TreeShare) {α : Type} {Q : α → sProp 𝕄}
    (kk : (Σ' (v1011 : FVec F S256x64 .f32) (v1035 : FVec F S256x1 .f32) (v1039 : FVec F S256x64 .f32) (v1048 : FVec F S256x64 .f32), FVec F S256x256 .f32) → Prog (TpuEff nD τ sig (Elt F) Λ₀ .tc) α) :
    iprop(kvP m c (segK (dia c)) qK ∗ kvP m c (segV (dia c)) qV)
      ⊢ iprop(((kvP m c (segK (dia c)) qK ∗ kvP m c (segV (dia c)) qV) -∗ wp frame (wpE (defs₀ (F := F)) 𝒱₀ (c : Thread nD τ) none) Set.univ (kk ⟨v1011 m c, v1035 m c, v1039 m c, v1048 m c, v1051 m c⟩) Q)
          -∗ wp frame (wpE (defs₀ (F := F)) 𝒱₀ (c : Thread nD τ) none) Set.univ (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v9 m c) (v199 m c) (v208 m c) (v790 m c) (v799 m c) (v803 m c) (v1009 m c) (v1010 m c) >>= kk) Q) := by
  rw [k0_part26_eq_skeleton]; unfold k0_part26_skel
  simp only [semSignalWord, semWaitWord, Prog.lift, Prog.bind_op, Prog.bind_ret, Prog.pure_eq_ret, wp_deviceId]
  iintro ⟨HK, HV⟩ Hk
  iapply (kv_load m c (k0_off46_eq c 1) (lo := 0) (hi := 2) (by decide) (by decide) (k0_off46_inb c 1) _) $$ HK; iintro HK
  iapply (kv_load m c (k0_off47_eq c 1) (lo := 2) (hi := 4) (by decide) (by decide) (k0_off47_inb c 1) _) $$ HV; iintro HV
  iapply (kv_load m c (k0_off48_eq c 1) (lo := 0) (hi := 2) (by decide) (by decide) (k0_off48_inb c 1) _) $$ HK; iintro HK
  iapply (kv_load m c (k0_off49_eq c 1) (lo := 2) (hi := 4) (by decide) (by decide) (k0_off49_inb c 1) _) $$ HV; iintro HV
  iapply Hk
  isplitl [HK] <;> iassumption

theorem part27_wp (qK qV : PosShare TreeShare) {α : Type} {Q : α → sProp 𝕄}
    (kk : (Σ' (v1063 : FVec F S256x1 .f32) (v1067 : FVec F S256x64 .f32) (v1091 : FVec F S256x1 .f32) (v1095 : FVec F S256x64 .f32) (v1096 : FVec F S256x64 .f32), BitVec 32) → Prog (TpuEff nD τ sig (Elt F) Λ₀ .tc) α) :
    iprop(kvP m c (segK (dia c)) qK ∗ kvP m c (segV (dia c)) qV)
      ⊢ iprop(((kvP m c (segK (dia c)) qK ∗ kvP m c (segV (dia c)) qV) -∗ wp frame (wpE (defs₀ (F := F)) 𝒱₀ (c : Thread nD τ) none) Set.univ (kk ⟨v1063 m c, v1067 m c, v1091 m c, v1095 m c, v1096 m c, c256_i32_490 m c⟩) Q)
          -∗ wp frame (wpE (defs₀ (F := F)) 𝒱₀ (c : Thread nD τ) none) Set.univ (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v9 m c) (v208 m c) (v818 m c) (v827 m c) (v831 m c) (v846 m c) (v855 m c) (v859 m c) (v1048 m c) (v1051 m c) >>= kk) Q) := by
  rw [k0_part27_eq_skeleton]; unfold k0_part27_skel
  simp only [semSignalWord, semWaitWord, Prog.lift, Prog.bind_op, Prog.bind_ret, Prog.pure_eq_ret, wp_deviceId]
  iintro ⟨HK, HV⟩ Hk
  iapply (kv_load m c (k0_off50_eq c 1) (lo := 0) (hi := 2) (by decide) (by decide) (k0_off50_inb c 1) _) $$ HK; iintro HK
  iapply (kv_load m c (k0_off51_eq c 1) (lo := 2) (hi := 4) (by decide) (by decide) (k0_off51_inb c 1) _) $$ HV; iintro HV
  iapply Hk
  isplitl [HK] <;> iassumption

theorem part28_wp (qK qV : PosShare TreeShare) {α : Type} {Q : α → sProp 𝕄}
    (kk : (Σ' (v1119 : FVec F S256x1 .f32) (v1123 : FVec F S256x64 .f32) (v1132 : FVec F S256x64 .f32) (v1135 : FVec F S256x256 .f32), FVec F S256x1 .f32) → Prog (TpuEff nD τ sig (Elt F) Λ₀ .tc) α) :
    iprop(kvP m c (segK (dia c)) qK ∗ kvP m c (segV (dia c)) qV)
      ⊢ iprop(((kvP m c (segK (dia c)) qK ∗ kvP m c (segV (dia c)) qV) -∗ wp frame (wpE (defs₀ (F := F)) 𝒱₀ (c : Thread nD τ) none) Set.univ (kk ⟨v1119 m c, v1123 m c, v1132 m c, v1135 m c, v1137 m c⟩) Q)
          -∗ wp frame (wpE (defs₀ (F := F)) 𝒱₀ (c : Thread nD τ) none) Set.univ (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v9 m c) (v208 m c) (v874 m c) (v883 m c) (v887 m c) (v1096 m c) (c256_i32_490 m c) >>= kk) Q) := by
  rw [k0_part28_eq_skeleton]; unfold k0_part28_skel
  simp only [semSignalWord, semWaitWord, Prog.lift, Prog.bind_op, Prog.bind_ret, Prog.pure_eq_ret, wp_deviceId]
  iintro ⟨HK, HV⟩ Hk
  iapply (kv_load m c (k0_off52_eq c 1) (lo := 0) (hi := 2) (by decide) (by decide) (k0_off52_inb c 1) _) $$ HK; iintro HK
  iapply (kv_load m c (k0_off53_eq c 1) (lo := 2) (hi := 4) (by decide) (by decide) (k0_off53_inb c 1) _) $$ HV; iintro HV
  iapply (kv_load m c (k0_off54_eq c 1) (lo := 0) (hi := 2) (by decide) (by decide) (k0_off54_inb c 1) _) $$ HK; iintro HK
  iapply (kv_load m c (k0_off55_eq c 1) (lo := 2) (hi := 4) (by decide) (by decide) (k0_off55_inb c 1) _) $$ HV; iintro HV
  iapply Hk
  isplitl [HK] <;> iassumption

end Cert.RingAttn

end
-- ==== Proof.Effects.lean ====
module

public import proofs.«01_k».proof.Proof.Steps

/-!
# The parts of the body that signal, wait, transfer or store

Each is stated before an arbitrary continuation, from the pieces it uses to the pieces it leaves.

-/

@[expose] public section

set_option maxRecDepth 16384

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F) (K : Dev nD × Fin 9 → ℕ) (c : Dev nD)

theorem part1_wp (f : (cc0_scratch0 : Ref sig .tc).ty.Contents (Elt F)) {α : Type} {Q : α → sProp 𝕄}
    (kk : (Σ' (d0 : Dev nD) (v2 : BitVec 32) (v5 : BitVec 32) (v7 : BitVec 32) (v9 : BitVec 32) (v19 : FVec F S256x256 .f32) (v22 : BitVec 32) (v24 : IVec S256x256 32) (v26 : IVec S256x256 1) (v28 : IVec S256x256 1), IVec S256x256 1) → Prog (TpuEff nD τ sig (Elt F) Λ₀ .tc) α) :
    iprop(records m K ∗ levAts L lv ∗ (∃ W, owes (c : Thread nD τ) (O₀ c) W) ∗ dutyTok ER (kcell (lft c, 0)) 0 true ∗ dutyTok ER (kcell (rgt c, 0)) 0 false ∗ atPos ER (kcell (c, 0)) 0 ∅ 0 ∗ cred (tallyAt (kcell (c, 0)) () 2) ∗ kvF c (seg (lft c)) fullShare f ∗ kvF c (seg (rgt c)) fullShare f ∗ kvF c (segK (dia c)) fullShare f ∗ kvF c (segV (dia c)) fullShare f)
      ⊢ iprop((((∃ W, owes (c : Thread nD τ) (OA c) W) ∗ atPos ER (kcell (c, 0)) (0 + 1) ∅ 0 ∗ (∃ f, kvF (lft c) (seg c) fullShare f) ∗ (∃ f, kvF (lft c) (segV (rgt c)) fullShare f) ∗ (∃ f, kvF (rgt c) (seg c) fullShare f) ∗ (∃ f, kvF (rgt c) (segK (lft c)) fullShare f)) -∗ wp frame (wpE (defs₀ (F := F)) 𝒱₀ (c : Thread nD τ) none) Set.univ (kk ⟨c, v2 m c, v5 m c, v7 m c, v9 m c, v19 m c, v22 m c, v24 m c, v26 m c, v28 m c, v31 m c⟩) Q)
          -∗ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 >>= kk) Q) := by
  rw [k0_part1_eq_skeleton]; unfold k0_part1_skel
  simp only [semSignalWord, semWaitWord, Prog.lift, Prog.bind_op, Prog.bind_ret, Prog.pure_eq_ret, wp_deviceId]
  iintro ⟨#HR, #Hlev, ⟨%W, HO⟩, HtL, HtR, Hat, Hc, HsL, HsR, HsK, HsV⟩ Hk
  simp only [dev1_eq c, dev2_eq c]
  ihave #HIL := (inv_at m K (lft c, 0)) $$ HR
  ihave #HIR := (inv_at m K (rgt c, 0)) $$ HR
  ihave #HIB := (inv_at m K (c, 0)) $$ HR
  ihave #HrL := (reached_at m K (lft c, 0)) $$ HR
  ihave #HrR := (reached_at m K (rgt c, 0)) $$ HR
  ihave #Hr5 := (reached_at m K (c, 5)) $$ HR
  ihave #Hr6 := (reached_at m K (c, 6)) $$ HR
  ihave #Hr7 := (reached_at m K (c, 7)) $$ HR
  ihave #Hr8 := (reached_at m K (c, 8)) $$ HR
  -- the left neighbour's barrier: the landing blocks of that neighbour's transfers to the right
  iapply (Rounds.wp_signal 𝒱₀ ER (ringRd m) (c : Thread nD τ) none (dst := (lft c : Thread nD τ)) (κ := K (lft c, 0))
      (d := true) (mem_dut_bar m (lft c) true) ((amount_at m (lft c) 0 true).trans (by decide)) () (O₁ c) rfl) $$ [HO HtL HsL HsK]
  · isplitr; · iexact HIL
    isplitl [HO]; · iexact HO
    isplitl [HtL]; · iexact HtL
    isplitl [HsL HsK]
    · iapply (Entails.of_eq (payload_at m (lft c) 0 true).symm)
      rw [show pay m (lft c) 0 true = iprop((∃ f, kvF (rgt (lft c)) (seg (lft c)) fullShare f) ∗ (∃ f, kvF (rgt (lft c)) (segK (lft (lft c))) fullShare f)
        ∗ reached ER (kcell (rgt (lft c), 5)) 0 ∗ reached ER (kcell (rgt (lft c), 7)) 0) from rfl, rgt_lft, lft_lft]
      isplitl [HsL]; · iexists f; iexact HsL
      isplitl [HsK]; · iexists f; iexact HsK
      isplitr; · iexact Hr5
      iexact Hr7
    · iexact HrL
  iintro HO
  -- the right neighbour's: the landing blocks of that neighbour's transfers to the left
  iapply (Rounds.wp_signal 𝒱₀ ER (ringRd m) (c : Thread nD τ) none (dst := (rgt c : Thread nD τ)) (κ := K (rgt c, 0))
      (d := false) (mem_dut_bar m (rgt c) false) ((amount_at m (rgt c) 0 false).trans (by decide)) () (OA c) rfl) $$ [HO HtR HsR HsV]
  · isplitr; · iexact HIR
    isplitl [HO]; · iexact HO
    isplitl [HtR]; · iexact HtR
    isplitl [HsR HsV]
    · iapply (Entails.of_eq (payload_at m (rgt c) 0 false).symm)
      rw [show pay m (rgt c) 0 false = iprop((∃ f, kvF (lft (rgt c)) (seg (rgt c)) fullShare f) ∗ (∃ f, kvF (lft (rgt c)) (segV (rgt (rgt c))) fullShare f)
        ∗ reached ER (kcell (lft (rgt c), 6)) 0 ∗ reached ER (kcell (lft (rgt c), 8)) 0) from rfl, lft_rgt, rgt_rgt]
      isplitl [HsR]; · iexists f; iexact HsR
      isplitl [HsV]; · iexists f; iexact HsV
      isplitr; · iexact Hr6
      iexact Hr8
    · iexact HrR
  iintro HO
  -- the wait for both neighbours, owing only what lies above the barrier
  iapply (Rounds.wp_wait_rest_token 𝒱₀ ER (ringRd m) (c : Thread nD τ) none (κ := K (c, 0))
      (wpE_semWait_eq 𝒱₀ (c : Thread nD τ) none Set.univ) (Set.mem_univ _) () (O := OA c) (W := W) (R := 0) (m := 0) (T := ∅)
      (by rw [expect_bar]; decide)) $$ [Hc HO Hat]
  · isplitr; · iexact HIB
    isplitl [Hc]; · iexact Hc
    isplitl [HO]; · iexact HO
    isplitr; · iapply (mayWait_cell c 0 (above_A c)); iexact Hlev
    iexact Hat
  iintro ⟨HO, Hat, -, Hp⟩
  ihave Hp := (Entails.of_eq (rest_bar m c)) $$ Hp
  rw [show pay m c 0 false = iprop((∃ f, kvF (lft c) (seg c) fullShare f) ∗ (∃ f, kvF (lft c) (segV (rgt c)) fullShare f)
      ∗ reached ER (kcell (lft c, 6)) 0 ∗ reached ER (kcell (lft c, 8)) 0) from rfl,
    show pay m c 0 true = iprop((∃ f, kvF (rgt c) (seg c) fullShare f) ∗ (∃ f, kvF (rgt c) (segK (lft c)) fullShare f)
      ∗ reached ER (kcell (rgt c, 5)) 0 ∗ reached ER (kcell (rgt c, 7)) 0) from rfl]
  icases Hp with ⟨⟨HA, HB, -, -⟩, HC, HD, -, -⟩
  iapply Hk
  isplitl [HO]; · iexists _; iexact HO
  isplitl [Hat]; · iexact Hat
  isplitl [HA]; · iexact HA
  isplitl [HB]; · iexact HB
  isplitl [HC] <;> iassumption

theorem part4_wp (f : (cc0_scratch0 : Ref sig .tc).ty.Contents (Elt F)) {α : Type} {Q : α → sProp 𝕄}
    (kk : (Σ' (v126 : FVec F S256x256 .f32) (v150 : FVec F S256x768 .f32) (v154 : FVec F S256x256 .f32), FVec F S256x256 .f32) → Prog (TpuEff nD τ sig (Elt F) Λ₀ .tc) α) :
    iprop((((c : Thread nD τ).loc cc0_stg0_0) ↦{fullShare} xS m c) ∗ (((c : Thread nD τ).loc cc0_stg2_0) ↦{fullShare} wkS m c) ∗ (((c : Thread nD τ).loc cc0_stg3_0) ↦{fullShare} wvS m c) ∗ kvF c (seg c) fullShare f)
      ⊢ iprop((((((c : Thread nD τ).loc cc0_stg0_0) ↦{fullShare} xS m c) ∗ (((c : Thread nD τ).loc cc0_stg2_0) ↦{fullShare} wkS m c) ∗ (((c : Thread nD τ).loc cc0_stg3_0) ↦{fullShare} wvS m c) ∗ (∃ f', ⌜∀ i ∈ seg c, (i 0).val = 0 ∨ (i 0).val = 2 → f' i = kvAll m i⌝ ∗ kvF c (seg c) fullShare f')) -∗ wp frame (wpE (defs₀ (F := F)) 𝒱₀ (c : Thread nD τ) none) Set.univ (kk ⟨v126 m c, v150 m c, v154 m c, v155 m c⟩) Q)
          -∗ wp frame (wpE (defs₀ (F := F)) 𝒱₀ (c : Thread nD τ) none) Set.univ (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v2 m c) (v72 m c) (v73 m c) (v100 m c) (v122 m c) >>= kk) Q) := by
  rw [k0_part4_eq_skeleton]; unfold k0_part4_skel
  simp only [semSignalWord, semWaitWord, Prog.lift, Prog.bind_op, Prog.bind_ret, Prog.pure_eq_ret, wp_deviceId]
  iintro ⟨Hx, Hwk, Hwv, Hs⟩ Hk
  iapply (x0_load m c) $$ Hx; iintro Hx
  iapply (wk_load m c) $$ Hwk; iintro Hwk
  iapply (kv_peek c (k0_off1_eq c) (lo := 0) (hi := 4) (by decide) (by decide) (k0_off1_inb c) f) $$ Hs; iintro Hs
  iapply (kv_store m c 0 (k0_off1_eq c) (k0_off1_inb c) f _ rfl) $$ Hs; iintro ⟨%f1, %h1, Hs⟩
  iapply (wv_load m c) $$ Hwv; iintro Hwv
  iapply (kv_peek c (k0_off2_eq c) (lo := 0) (hi := 4) (by decide) (by decide) (k0_off2_inb c) f1) $$ Hs; iintro Hs
  iapply (kv_store m c 2 (k0_off2_eq c) (k0_off2_inb c) f1 _ rfl) $$ Hs; iintro ⟨%f2, %h2, Hs⟩
  iapply (x1_load m c) $$ Hx; iintro Hx
  iapply (wk_load m c) $$ Hwk; iintro Hwk
  iapply Hk
  isplitl [Hx]; · iexact Hx
  isplitl [Hwk]; · iexact Hwk
  isplitl [Hwv]; · iexact Hwv
  iexists f2
  isplitr
  · ipureintro
    intro i hi h
    replace h1 : ∀ i ∈ seg c, f1 i = if (i 0).val = 0 then kvAll m i else f i := h1
    replace h2 : ∀ i ∈ seg c, f2 i = if (i 0).val = 2 then kvAll m i else f1 i := h2
    rw [h2 i hi, h1 i hi]
    rcases h with h | h
    · rw [if_neg (by rw [h]; decide), if_pos h]
    · rw [if_pos h]
  · iexact Hs

theorem part5_wp (f : (cc0_scratch0 : Ref sig .tc).ty.Contents (Elt F)) (hf : ∀ i ∈ seg c, (i 0).val = 0 ∨ (i 0).val = 2 → f i = kvAll m i) {α : Type} {Q : α → sProp 𝕄}
    (kk : PUnit → Prog (TpuEff nD τ sig (Elt F) Λ₀ .tc) α) :
    iprop(records m K ∗ (((c : Thread nD τ).loc cc0_stg3_0) ↦{fullShare} wvS m c) ∗ kvF c (seg c) fullShare f ∗ (∃ f, kvF (rgt c) (seg c) fullShare f) ∗ (∃ W, owes (c : Thread nD τ) (OA c) W) ∗ dutyTok ER (kcell (c, 1)) 0 false ∗ dutyTok ER (kcell (rgt c, 5)) 0 false)
      ⊢ iprop((((((c : Thread nD τ).loc cc0_stg3_0) ↦{fullShare} wvS m c) ∗ kvP m c (seg c) qB ∗ kvP m c (segK c) qC ∗ kvP m c (segV c) qC ∗ cred (tallyAt (kcell (c, 1)) () (amt 1)) ∗ (∃ W, owes (c : Thread nD τ) (OB c) W)) -∗ wp frame (wpE (defs₀ (F := F)) 𝒱₀ (c : Thread nD τ) none) Set.univ (kk ⟨⟩) Q)
          -∗ wp frame (wpE (defs₀ (F := F)) 𝒱₀ (c : Thread nD τ) none) Set.univ (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v2 m c) (v5 m c) (v7 m c) (v73 m c) (v150 m c) (v154 m c) (v155 m c) >>= kk) Q) := by
  rw [k0_part5_eq_skeleton]; unfold k0_part5_skel
  simp only [semSignalWord, semWaitWord, Prog.lift, Prog.bind_op, Prog.bind_ret, Prog.pure_eq_ret, wp_deviceId]
  iintro ⟨#HR, Hwv, Hs, Hd, ⟨%W, HO⟩, HtS, HtR⟩ Hk
  iapply (kv_peek c (k0_off3_eq c) (lo := 0) (hi := 4) (by decide) (by decide) (k0_off3_inb c) f) $$ Hs; iintro Hs
  iapply (kv_store m c 1 (k0_off3_eq c) (k0_off3_inb c) f _ rfl) $$ Hs; iintro ⟨%f1, %h1, Hs⟩
  iapply (wv_load m c) $$ Hwv; iintro Hwv
  iapply (kv_peek c (k0_off4_eq c) (lo := 0) (hi := 4) (by decide) (by decide) (k0_off4_inb c) f1) $$ Hs; iintro Hs
  iapply (kv_store m c 3 (k0_off4_eq c) (k0_off4_inb c) f1 _ rfl) $$ Hs; iintro ⟨%f2, %h2, Hs⟩
  -- all four planes stored: the rows hold the gathered contents
  have hall : ∀ i ∈ seg c, f2 i = kvAll m i := by
    intro i hi
    have h0 : (i 0).val < 4 := (i 0).isLt
    replace h1 : ∀ i ∈ seg c, f1 i = if (i 0).val = 1 then kvAll m i else f i := h1
    replace h2 : ∀ i ∈ seg c, f2 i = if (i 0).val = 3 then kvAll m i else f1 i := h2
    rw [h2 i hi, h1 i hi]
    by_cases h3 : (i 0).val = 3
    · rw [if_pos h3]
    · rw [if_neg h3]
      by_cases h1 : (i 0).val = 1
      · rw [if_pos h1]
      · rw [if_neg h1]; exact hf i hi (by omega)
  ihave Hs := (Entails.of_eq (show kvF c (seg c) fullShare f2 = kvP m c (seg c) fullShare from pointsTo_congr hall)) $$ Hs
  ihave Hs := (share_own m c) $$ Hs
  icases Hs with ⟨HA, HB, HK, HV⟩
  iapply (xfer_step m K c (rgt c) _ (dev3_eq c) (o := c) (p := 0) (nn := 4) (k0_off5_eq c) rfl (k0_off5_inb c) 1 5 (by decide) (by decide) rfl rfl qA (credit4 (k0_off5_inb c)) rfl rfl
    (by rw [show pay m (rgt c) 5 false = kvP m (rgt c) (seg (lft (rgt c))) fullShare from rfl, lft_rgt]) (OB c) W) $$ [HA Hd HO HtS HtR]
  · isplitr; · iexact HR
    isplitl [HA]; · iexact HA
    isplitl [Hd]; · iexact Hd
    isplitl [HO]; · iexact HO
    isplitl [HtS]; · iexact HtS
    iexact HtR
  iintro ⟨Hc, HO⟩
  iapply Hk
  isplitl [Hwv]; · iexact Hwv
  isplitl [HB]; · iexact HB
  isplitl [HK]; · iexact HK
  isplitl [HV]; · iexact HV
  isplitl [Hc]; · iexact Hc
  iexists W; iexact HO

theorem part6_wp  {α : Type} {Q : α → sProp 𝕄}
    (kk : (Σ' (v199 : FVec F S256x256 .f32) (v208 : FVec F S256x256 .f32) (v209 : FVec F S256x1 .f32) (v210 : FVec F S256x1 .f32) (v211 : FVec F S256x64 .f32) (v212 : FVec F S256x64 .f32) (v216 : FVec F S256x64 .f32), Vec F S1x256x64 .f32) → Prog (TpuEff nD τ sig (Elt F) Λ₀ .tc) α) :
    iprop(records m K ∗ (((c : Thread nD τ).loc cc0_stg0_0) ↦{fullShare} xS m c) ∗ (((c : Thread nD τ).loc cc0_stg1_0) ↦{fullShare} wqS m c) ∗ kvP m c (seg c) qB ∗ (∃ f, kvF (lft c) (seg c) fullShare f) ∗ (∃ W, owes (c : Thread nD τ) (OB c) W) ∗ dutyTok ER (kcell (c, 2)) 0 false ∗ dutyTok ER (kcell (lft c, 6)) 0 false ∗ kvP m c (segK c) qC ∗ kvP m c (segV c) qC)
      ⊢ iprop((((((c : Thread nD τ).loc cc0_stg0_0) ↦{fullShare} xS m c) ∗ (((c : Thread nD τ).loc cc0_stg1_0) ↦{fullShare} wqS m c) ∗ cred (tallyAt (kcell (c, 2)) () (amt 2)) ∗ (∃ W, owes (c : Thread nD τ) (OC c) W) ∗ kvP m c (segK c) qC ∗ kvP m c (segV c) qC) -∗ wp frame (wpE (defs₀ (F := F)) 𝒱₀ (c : Thread nD τ) none) Set.univ (kk ⟨v199 m c, v208 m c, v209 m c, v210 m c, v211 m c, v212 m c, v216 m c, v219 m c⟩) Q)
          -∗ wp frame (wpE (defs₀ (F := F)) 𝒱₀ (c : Thread nD τ) none) Set.univ (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v2 m c) (v72 m c) (v73 m c) (v126 m c) >>= kk) Q) := by
  rw [k0_part6_eq_skeleton]; unfold k0_part6_skel
  simp only [semSignalWord, semWaitWord, Prog.lift, Prog.bind_op, Prog.bind_ret, Prog.pure_eq_ret, wp_deviceId]
  iintro ⟨#HR, Hx, Hwq, HB, Hd, ⟨%W, HO⟩, HtS, HtR, HK, HV⟩ Hk
  iapply (xfer_step m K c (lft c) _ (dev4_eq c) (o := c) (p := 0) (nn := 4) (k0_off5_eq c) rfl (k0_off5_inb c) 2 6 (by decide) (by decide) rfl rfl qB (credit4 (k0_off5_inb c)) rfl rfl
    (by rw [show pay m (lft c) 6 false = kvP m (lft c) (seg (rgt (lft c))) fullShare from rfl, rgt_lft]) (OC c) W) $$ [HB Hd HO HtS HtR]
  · isplitr; · iexact HR
    isplitl [HB]; · iexact HB
    isplitl [Hd]; · iexact Hd
    isplitl [HO]; · iexact HO
    isplitl [HtS]; · iexact HtS
    iexact HtR
  iintro ⟨Hc, HO⟩
  iapply (x0_load m c) $$ Hx; iintro Hx
  iapply (wq_load m c) $$ Hwq; iintro Hwq
  iapply (x1_load m c) $$ Hx; iintro Hx
  iapply (wq_load m c) $$ Hwq; iintro Hwq
  iapply (kv_load m c (k0_off6_eq c) (lo := 0) (hi := 2) (by decide) (by decide) (k0_off6_inb c) _) $$ HK; iintro HK
  iapply (kv_load m c (k0_off7_eq c) (lo := 2) (hi := 4) (by decide) (by decide) (k0_off7_inb c) _) $$ HV; iintro HV
  iapply Hk
  isplitl [Hx]; · iexact Hx
  isplitl [Hwq]; · iexact Hwq
  isplitl [Hc]; · iexact Hc
  isplitl [HO]; · iexists W; iexact HO
  isplitl [HK] <;> iassumption

theorem part12_wp  {α : Type} {Q : α → sProp 𝕄}
    (kk : (Σ' (v460 : FVec F S256x64 .f32) (v463 : FVec F S256x256 .f32) (v466 : FVec F S256x1 .f32), FVec F S256x1 .f32) → Prog (TpuEff nD τ sig (Elt F) Λ₀ .tc) α) :
    iprop(records m K ∗ levAts L lv ∗ cred (tallyAt (kcell (c, 5)) () (amt 5)) ∗ atPos ER (kcell (c, 5)) 0 ∅ 0 ∗ (∃ W, owes (c : Thread nD τ) (OC c) W) ∗ (∃ f, kvF (rgt c) (segK (lft c)) fullShare f) ∗ dutyTok ER (kcell (c, 3)) 0 false ∗ dutyTok ER (kcell (rgt c, 7)) 0 false)
      ⊢ iprop(((atPos ER (kcell (c, 5)) (0 + 1) ∅ 0 ∗ cred (tallyAt (kcell (c, 3)) () (amt 3)) ∗ (∃ W, owes (c : Thread nD τ) (OD c) W) ∗ kvP m c (segK (lft c)) fullShare.right ∗ kvP m c (segV (lft c)) fullShare) -∗ wp frame (wpE (defs₀ (F := F)) 𝒱₀ (c : Thread nD τ) none) Set.univ (kk ⟨v460 m c, v463 m c, v466 m c, v468 m c⟩) Q)
          -∗ wp frame (wpE (defs₀ (F := F)) 𝒱₀ (c : Thread nD τ) none) Set.univ (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v5 m c) (v7 m c) (v199 m c) (v226 m c) >>= kk) Q) := by
  rw [k0_part12_eq_skeleton]; unfold k0_part12_skel
  simp only [semSignalWord, semWaitWord, Prog.lift, Prog.bind_op, Prog.bind_ret, Prog.pure_eq_ret, wp_deviceId]
  iintro ⟨#HR, #Hlev, Hcr, Hat, ⟨%W, HO⟩, Hd, HtS, HtR⟩ Hk
  iapply (wait_step m K c 5 (by decide) rfl (dst := kvM.slice (Rect.unit (s := S4x1024x256) (k0_off5 c) S4x256x256.size (k0_off5_inb c)) (fun _ => rfl)) (credit4 (k0_off5_inb c)) (OC c) (Or.inr (above_C c)) W) $$ [Hcr HO Hat]
  · isplitr; · iexact HR
    isplitr; · iexact Hlev
    isplitl [Hcr]; · iexact Hcr
    isplitl [HO]; · iexact HO
    iexact Hat
  iintro ⟨⟨%W', HO⟩, Hat, Hp⟩
  ihave Hp := (Entails.of_eq (show pay m c 5 false = kvP m c (seg (lft c)) fullShare from rfl)) $$ Hp
  ihave Hp := (seg_split m c (lft c) fullShare) $$ Hp
  icases Hp with ⟨HK, HV⟩
  ihave HK := (halves m c (segK (lft c))).1 $$ HK
  icases HK with ⟨HA, HK⟩
  iapply (xfer_step m K c (rgt c) _ (dev5_eq c) (o := lft c) (p := 0) (nn := 2) (k0_off22_eq c) rfl (k0_off22_inb c) 3 7 (by decide) (by decide) rfl rfl fullShare.left (credit2 (k0_off22_inb c)) rfl rfl
    (by rw [show pay m (rgt c) 7 false = kvP m (rgt c) (segK (dia (rgt c))) fullShare from rfl, dia_rgt]) (OD c) W') $$ [HA Hd HO HtS HtR]
  · isplitr; · iexact HR
    isplitl [HA]; · iexact HA
    isplitl [Hd]; · iexact Hd
    isplitl [HO]; · iexact HO
    isplitl [HtS]; · iexact HtS
    iexact HtR
  iintro ⟨Hc, HO⟩
  iapply (kv_load m c (k0_off23_eq c) (lo := 0) (hi := 2) (by decide) (by decide) (k0_off23_inb c) _) $$ HK; iintro HK
  iapply (kv_load m c (k0_off24_eq c) (lo := 2) (hi := 4) (by decide) (by decide) (k0_off24_inb c) _) $$ HV; iintro HV
  iapply Hk
  isplitl [Hat]; · iexact Hat
  isplitl [Hc]; · iexact Hc
  isplitl [HO]; · iexists W'; iexact HO
  isplitl [HK] <;> iassumption

theorem part18_wp  {α : Type} {Q : α → sProp 𝕄}
    (kk : (Σ' (v706 : FVec F S256x1 .f32) (v715 : FVec F S256x1 .f32) (v717 : FVec F S256x64 .f32), FVec F S256x64 .f32) → Prog (TpuEff nD τ sig (Elt F) Λ₀ .tc) α) :
    iprop(records m K ∗ levAts L lv ∗ cred (tallyAt (kcell (c, 6)) () (amt 6)) ∗ atPos ER (kcell (c, 6)) 0 ∅ 0 ∗ (∃ W, owes (c : Thread nD τ) (OD c) W) ∗ (∃ f, kvF (lft c) (segV (rgt c)) fullShare f) ∗ dutyTok ER (kcell (c, 4)) 0 false ∗ dutyTok ER (kcell (lft c, 8)) 0 false)
      ⊢ iprop(((atPos ER (kcell (c, 6)) (0 + 1) ∅ 0 ∗ cred (tallyAt (kcell (c, 4)) () (amt 4)) ∗ (∃ W, owes (c : Thread nD τ) 0 W) ∗ kvP m c (segK (rgt c)) fullShare ∗ kvP m c (segV (rgt c)) fullShare.right) -∗ wp frame (wpE (defs₀ (F := F)) 𝒱₀ (c : Thread nD τ) none) Set.univ (kk ⟨v706 m c, v715 m c, v717 m c, v718 m c⟩) Q)
          -∗ wp frame (wpE (defs₀ (F := F)) 𝒱₀ (c : Thread nD τ) none) Set.univ (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v5 m c) (v7 m c) (v199 m c) (v466 m c) (v475 m c) (v479 m c) >>= kk) Q) := by
  rw [k0_part18_eq_skeleton]; unfold k0_part18_skel
  simp only [semSignalWord, semWaitWord, Prog.lift, Prog.bind_op, Prog.bind_ret, Prog.pure_eq_ret, wp_deviceId]
  iintro ⟨#HR, #Hlev, Hcr, Hat, ⟨%W, HO⟩, Hd, HtS, HtR⟩ Hk
  iapply (wait_step m K c 6 (by decide) rfl (dst := kvM.slice (Rect.unit (s := S4x1024x256) (k0_off5 c) S4x256x256.size (k0_off5_inb c)) (fun _ => rfl)) (credit4 (k0_off5_inb c)) (OD c) (Or.inr (above_D c)) W) $$ [Hcr HO Hat]
  · isplitr; · iexact HR
    isplitr; · iexact Hlev
    isplitl [Hcr]; · iexact Hcr
    isplitl [HO]; · iexact HO
    iexact Hat
  iintro ⟨⟨%W', HO⟩, Hat, Hp⟩
  ihave Hp := (Entails.of_eq (show pay m c 6 false = kvP m c (seg (rgt c)) fullShare from rfl)) $$ Hp
  ihave Hp := (seg_split m c (rgt c) fullShare) $$ Hp
  icases Hp with ⟨HK, HV⟩
  ihave HV := (halves m c (segV (rgt c))).1 $$ HV
  icases HV with ⟨HA, HV⟩
  iapply (xfer_step m K c (lft c) _ (dev6_eq c) (o := rgt c) (p := 2) (nn := 2) (k0_off39_eq c) rfl (k0_off39_inb c) 4 8 (by decide) (by decide) rfl rfl fullShare.left (credit2 (k0_off39_inb c)) rfl rfl
    (by rw [show pay m (lft c) 8 false = kvP m (lft c) (segV (dia (lft c))) fullShare from rfl, dia_lft]) 0 W') $$ [HA Hd HO HtS HtR]
  · isplitr; · iexact HR
    isplitl [HA]; · iexact HA
    isplitl [Hd]; · iexact Hd
    isplitl [HO]; · rw [zero_add]; iexact HO
    isplitl [HtS]; · iexact HtS
    iexact HtR
  iintro ⟨Hc, HO⟩
  iapply (kv_load m c (k0_off40_eq c 0) (lo := 0) (hi := 2) (by decide) (by decide) (k0_off40_inb c 0) _) $$ HK; iintro HK
  iapply (kv_load m c (k0_off41_eq c 0) (lo := 2) (hi := 4) (by decide) (by decide) (k0_off41_inb c 0) _) $$ HV; iintro HV
  iapply Hk
  isplitl [Hat]; · iexact Hat
  isplitl [Hc]; · iexact Hc
  isplitl [HO]; · iexists W'; iexact HO
  isplitl [HK] <;> iassumption

theorem part23_wp (qK qV : PosShare TreeShare) {α : Type} {Q : α → sProp 𝕄}
    (kk : (Σ' (v902 : FVec F S256x1 .f32) (v911 : FVec F S256x1 .f32), FVec F S256x64 .f32) → Prog (TpuEff nD τ sig (Elt F) Λ₀ .tc) α) :
    iprop(records m K ∗ levAts L lv ∗ cred (tallyAt (kcell (c, 7)) () (amt 7)) ∗ atPos ER (kcell (c, 7)) 0 ∅ 0 ∗ (∃ W, owes (c : Thread nD τ) 0 W) ∗ kvP m c (segK (rgt c)) qK ∗ kvP m c (segV (rgt c)) qV)
      ⊢ iprop(((atPos ER (kcell (c, 7)) (0 + 1) ∅ 0 ∗ (∃ W, owes (c : Thread nD τ) 0 W) ∗ kvP m c (segK (rgt c)) qK ∗ kvP m c (segV (rgt c)) qV ∗ kvP m c (segK (dia c)) fullShare) -∗ wp frame (wpE (defs₀ (F := F)) 𝒱₀ (c : Thread nD τ) none) Set.univ (kk ⟨v902 m c, v911 m c, v915 m c⟩) Q)
          -∗ wp frame (wpE (defs₀ (F := F)) 𝒱₀ (c : Thread nD τ) none) Set.univ (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v5 m c) (v7 m c) (v662 m c) (v671 m c) (v675 m c) (v888 m c) >>= kk) Q) := by
  rw [k0_part23_eq_skeleton]; unfold k0_part23_skel
  simp only [semSignalWord, semWaitWord, Prog.lift, Prog.bind_op, Prog.bind_ret, Prog.pure_eq_ret, wp_deviceId]
  iintro ⟨#HR, #Hlev, Hcr, Hat, ⟨%W, HO⟩, HK, HV⟩ Hk
  iapply (kv_load m c (k0_off54_eq c 0) (lo := 0) (hi := 2) (by decide) (by decide) (k0_off54_inb c 0) _) $$ HK; iintro HK
  iapply (kv_load m c (k0_off55_eq c 0) (lo := 2) (hi := 4) (by decide) (by decide) (k0_off55_inb c 0) _) $$ HV; iintro HV
  iapply (wait_step m K c 7 (by decide) rfl (dst := kvM.slice (Rect.unit (s := S4x1024x256) (k0_off22 c) S2x256x256.size (k0_off22_inb c)) (fun _ => rfl)) (credit2 (k0_off22_inb c)) 0 (Or.inl rfl) W) $$ [Hcr HO Hat]
  · isplitr; · iexact HR
    isplitr; · iexact Hlev
    isplitl [Hcr]; · iexact Hcr
    isplitl [HO]; · iexact HO
    iexact Hat
  iintro ⟨HO, Hat, Hp⟩
  ihave Hp := (Entails.of_eq (show pay m c 7 false = kvP m c (segK (dia c)) fullShare from rfl)) $$ Hp
  iapply Hk
  isplitl [Hat]; · iexact Hat
  isplitl [HO]; · iexact HO
  isplitl [HK]; · iexact HK
  isplitl [HV]; · iexact HV
  iexact Hp

theorem part24_wp  {α : Type} {Q : α → sProp 𝕄}
    (kk : (Σ' (v951 : FVec F S256x1 .f32) (v955 : FVec F S256x64 .f32) (v964 : FVec F S256x64 .f32), FVec F S256x256 .f32) → Prog (TpuEff nD τ sig (Elt F) Λ₀ .tc) α) :
    iprop(records m K ∗ levAts L lv ∗ cred (tallyAt (kcell (c, 8)) () (amt 8)) ∗ atPos ER (kcell (c, 8)) 0 ∅ 0 ∗ (∃ W, owes (c : Thread nD τ) 0 W) ∗ kvP m c (segK (dia c)) fullShare)
      ⊢ iprop(((atPos ER (kcell (c, 8)) (0 + 1) ∅ 0 ∗ (∃ W, owes (c : Thread nD τ) 0 W) ∗ kvP m c (segK (dia c)) fullShare ∗ kvP m c (segV (dia c)) fullShare) -∗ wp frame (wpE (defs₀ (F := F)) 𝒱₀ (c : Thread nD τ) none) Set.univ (kk ⟨v951 m c, v955 m c, v964 m c, v965 m c⟩) Q)
          -∗ wp frame (wpE (defs₀ (F := F)) 𝒱₀ (c : Thread nD τ) none) Set.univ (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (v9 m c) (v199 m c) (v706 m c) (v715 m c) (v719 m c) >>= kk) Q) := by
  rw [k0_part24_eq_skeleton]; unfold k0_part24_skel
  simp only [semSignalWord, semWaitWord, Prog.lift, Prog.bind_op, Prog.bind_ret, Prog.pure_eq_ret, wp_deviceId]
  iintro ⟨#HR, #Hlev, Hcr, Hat, ⟨%W, HO⟩, HK⟩ Hk
  iapply (wait_step m K c 8 (by decide) rfl (dst := kvM.slice (Rect.unit (s := S4x1024x256) (k0_off39 c) S2x256x256.size (k0_off39_inb c)) (fun _ => rfl)) (credit2 (k0_off39_inb c)) 0 (Or.inl rfl) W) $$ [Hcr HO Hat]
  · isplitr; · iexact HR
    isplitr; · iexact Hlev
    isplitl [Hcr]; · iexact Hcr
    isplitl [HO]; · iexact HO
    iexact Hat
  iintro ⟨HO, Hat, HV⟩
  ihave HV := (Entails.of_eq (show pay m c 8 false = kvP m c (segV (dia c)) fullShare from rfl)) $$ HV
  iapply (kv_load m c (k0_off40_eq c 1) (lo := 0) (hi := 2) (by decide) (by decide) (k0_off40_inb c 1) _) $$ HK; iintro HK
  iapply (kv_load m c (k0_off41_eq c 1) (lo := 2) (hi := 4) (by decide) (by decide) (k0_off41_inb c 1) _) $$ HV; iintro HV
  iapply (kv_load m c (k0_off42_eq c 1) (lo := 0) (hi := 2) (by decide) (by decide) (k0_off42_inb c 1) _) $$ HK; iintro HK
  iapply (kv_load m c (k0_off43_eq c 1) (lo := 2) (hi := 4) (by decide) (by decide) (k0_off43_inb c 1) _) $$ HV; iintro HV
  iapply Hk
  isplitl [Hat]; · iexact Hat
  isplitl [HO]; · iexact HO
  isplitl [HK] <;> iassumption

theorem part29_wp (f : (cc0_stg5_0 : Ref sig .tc).ty.Contents (Elt F)) {α : Type} {Q : α → sProp 𝕄}
    (kk : PUnit → Prog (TpuEff nD τ sig (Elt F) Λ₀ .tc) α) :
    iprop((((c : Thread nD τ).loc cc0_stg4_0) ↦{fullShare} woS m c) ∗ (((c : Thread nD τ).loc cc0_stg5_0) ↦{fullShare} f))
      ⊢ iprop((((((c : Thread nD τ).loc cc0_stg4_0) ↦{fullShare} woS m c) ∗ (((c : Thread nD τ).loc cc0_stg5_0) ↦{fullShare} outAt m c)) -∗ wp frame (wpE (defs₀ (F := F)) 𝒱₀ (c : Thread nD τ) none) Set.univ (kk ⟨⟩) Q)
          -∗ wp frame (wpE (defs₀ (F := F)) 𝒱₀ (c : Thread nD τ) none) Set.univ (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (v902 m c) (v911 m c) (v915 m c) (v951 m c) (v955 m c) (v979 m c) (v983 m c) (v1007 m c) (v1011 m c) (v1035 m c) (v1039 m c) (v1063 m c) (v1067 m c) (v1091 m c) (v1095 m c) (v1119 m c) (v1123 m c) (v1132 m c) (v1135 m c) (v1137 m c) >>= kk) Q) := by
  rw [k0_part29_eq_skeleton]; unfold k0_part29_skel
  simp only [semSignalWord, semWaitWord, Prog.lift, Prog.bind_op, Prog.bind_ret, Prog.pure_eq_ret, wp_deviceId]
  iintro ⟨Hwo, Hout⟩ Hk
  iapply (wo_load m c) $$ Hwo; iintro Hwo
  iapply (wp_load 𝒱₀ (c : Thread nD τ) none Set.univ (m := outM) (r := (Rect.unit (s := S2x256x768) ![0, 0, 0] S1x256x768.size inb_S2x256x768_S1x256x768_0_0_0).toLoadRect) (f := f) (Finset.subset_univ _)) $$ Hout; iintro Hout
  iapply (wp_store 𝒱₀ (c : Thread nD τ) none Set.univ (m := outM) (r := Rect.unit (s := S2x256x768) ![0, 0, 0] S1x256x768.size inb_S2x256x768_S1x256x768_0_0_0) (Mk := Finset.univ) (f := f) (Finset.subset_univ _)) $$ Hout; iintro Hout
  iapply (wo_load m c) $$ Hwo; iintro Hwo
  iapply (wp_load 𝒱₀ (c : Thread nD τ) none Set.univ (m := outM) (r := (Rect.unit (s := S2x256x768) ![1, 0, 0] S1x256x768.size inb_S2x256x768_S1x256x768_1_0_0).toLoadRect) (Finset.subset_univ _)) $$ Hout; iintro Hout
  iapply (wp_store 𝒱₀ (c : Thread nD τ) none Set.univ (m := outM) (r := Rect.unit (s := S2x256x768) ![1, 0, 0] S1x256x768.size inb_S2x256x768_S1x256x768_1_0_0) (Mk := Finset.univ) (Finset.subset_univ _)) $$ Hout; iintro Hout
  iapply Hk
  isplitl [Hwo]; · iexact Hwo
  iapply (Entails.of_eq (congrArg (fun g => (((c : Thread nD τ).loc cc0_stg5_0) ↦{fullShare} g : sProp 𝕄)) (out_written m c f))); iexact Hout

end Cert.RingAttn

end
-- ==== Proof.Body.lean ====
module

public import proofs.«01_k».proof.Proof.Parts
public import proofs.«01_k».proof.Proof.Effects

/-!
# One device's body

The parts in order, from what a device starts with to the result array it leaves, every cell of its own closed and the
scratch holding the gathered contents.

-/

@[expose] public section

set_option maxRecDepth 16384

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The tokens of the duties device `c` pays: one at each neighbour's barrier, its own send cells', and the receive cells' of
    its transfers. -/
def payToks (c : Dev nD) : sProp 𝕄 :=
  iprop(dutyTok ER (kcell (lft c, 0)) 0 true ∗ dutyTok ER (kcell (rgt c, 0)) 0 false
    ∗ dutyTok ER (kcell (c, 1)) 0 false ∗ dutyTok ER (kcell (c, 2)) 0 false ∗ dutyTok ER (kcell (c, 3)) 0 false ∗ dutyTok ER (kcell (c, 4)) 0 false
    ∗ dutyTok ER (kcell (rgt c, 5)) 0 false ∗ dutyTok ER (kcell (lft c, 6)) 0 false ∗ dutyTok ER (kcell (rgt c, 7)) 0 false ∗ dutyTok ER (kcell (lft c, 8)) 0 false)
/-- Its positions at its own nine cells. -/
def positions (c : Dev nD) : sProp 𝕄 :=
  iprop(atPos ER (kcell (c, 0)) 0 ∅ 0 ∗ atPos ER (kcell (c, 1)) 0 ∅ 0 ∗ atPos ER (kcell (c, 2)) 0 ∅ 0 ∗ atPos ER (kcell (c, 3)) 0 ∅ 0 ∗ atPos ER (kcell (c, 4)) 0 ∅ 0 ∗ atPos ER (kcell (c, 5)) 0 ∅ 0 ∗ atPos ER (kcell (c, 6)) 0 ∅ 0 ∗ atPos ER (kcell (c, 7)) 0 ∅ 0 ∗ atPos ER (kcell (c, 8)) 0 ∅ 0)
/-- The credit it is given at launch: its barrier's two units and its receive cells' transfers. -/
def startCreds (c : Dev nD) : sProp 𝕄 :=
  iprop(cred (tallyAt (kcell (c, 0)) () 2) ∗ cred (tallyAt (kcell (c, 5)) () (amt 5)) ∗ cred (tallyAt (kcell (c, 6)) () (amt 6))
    ∗ cred (tallyAt (kcell (c, 7)) () (amt 7)) ∗ cred (tallyAt (kcell (c, 8)) () (amt 8)))

theorem take_scratch (c : Dev nD) (f : (cc0_scratch0 : Ref sig .tc).ty.Contents (Elt F)) :
    kvF c Finset.univ fullShare f ⊢ iprop(kvF c (seg c) fullShare f ∗ kvF c (seg (lft c)) fullShare f ∗ kvF c (seg (rgt c)) fullShare f
      ∗ kvF c (segK (dia c)) fullShare f ∗ kvF c (segV (dia c)) fullShare f) := by
  rw [← segs_univ c]
  have h1 : Disjoint (seg c) (seg (lft c) ∪ (seg (rgt c) ∪ seg (dia c))) := by
    rw [Finset.disjoint_union_right, Finset.disjoint_union_right]
    exact ⟨reg_disj (c_ne_lft c), reg_disj (c_ne_rgt c), reg_disj (c_ne_dia c)⟩
  have h2 : Disjoint (seg (lft c)) (seg (rgt c) ∪ seg (dia c)) := by
    rw [Finset.disjoint_union_right]; exact ⟨reg_disj (lft_ne_rgt c), reg_disj (lft_ne_dia c)⟩
  have h3 : Disjoint (seg (rgt c)) (seg (dia c)) := reg_disj (rgt_ne_dia c)
  refine (pointsTo_union h1).1.trans (sep_mono_right ((pointsTo_union h2).1.trans (sep_mono_right ((pointsTo_union h3).1.trans (sep_mono_right ?_)))))
  rw [← seg_eq (dia c)]; exact (pointsTo_union (seg_disj (dia c))).1

theorem give_scratch (m : Mem F) (c : Dev nD) :
    iprop(kvP m c (seg c) fullShare ∗ kvP m c (seg (lft c)) fullShare ∗ kvP m c (seg (rgt c)) fullShare
      ∗ kvP m c (segK (dia c)) fullShare ∗ kvP m c (segV (dia c)) fullShare) ⊢ kvP m c Finset.univ fullShare := by
  rw [← segs_univ c]
  have h1 : Disjoint (seg c) (seg (lft c) ∪ (seg (rgt c) ∪ seg (dia c))) := by
    rw [Finset.disjoint_union_right, Finset.disjoint_union_right]
    exact ⟨reg_disj (c_ne_lft c), reg_disj (c_ne_rgt c), reg_disj (c_ne_dia c)⟩
  have h2 : Disjoint (seg (lft c)) (seg (rgt c) ∪ seg (dia c)) := by
    rw [Finset.disjoint_union_right]; exact ⟨reg_disj (lft_ne_rgt c), reg_disj (lft_ne_dia c)⟩
  have h3 : Disjoint (seg (rgt c)) (seg (dia c)) := reg_disj (rgt_ne_dia c)
  refine Entails.trans (sep_mono_right (Entails.trans (sep_mono_right (Entails.trans (sep_mono_right ?_) (pointsTo_union h3).2)) (pointsTo_union h2).2)) (pointsTo_union h1).2
  rw [← seg_eq (dia c)]; exact (pointsTo_union (seg_disj (dia c))).2

variable (m : Mem F) (K : Dev nD × Fin 9 → ℕ) (c : Dev nD)

set_option maxHeartbeats 1600000 in
theorem part30_wp (f : (cc0_stg5_0 : Ref sig .tc).ty.Contents (Elt F)) {Q : Dev nD → sProp 𝕄} :
    iprop(records m K ∗ levAts L lv ∗ (∃ W, owes (c : Thread nD τ) (O₀ c) W) ∗ payToks c ∗ positions c ∗ startCreds c ∗ (∃ f, kvF c Finset.univ fullShare f) ∗ (((c : Thread nD τ).loc cc0_stg0_0) ↦{fullShare} xS m c) ∗ (((c : Thread nD τ).loc cc0_stg1_0) ↦{fullShare} wqS m c) ∗ (((c : Thread nD τ).loc cc0_stg2_0) ↦{fullShare} wkS m c) ∗ (((c : Thread nD τ).loc cc0_stg3_0) ↦{fullShare} wvS m c) ∗ (((c : Thread nD τ).loc cc0_stg4_0) ↦{fullShare} woS m c) ∗ (((c : Thread nD τ).loc cc0_stg5_0) ↦{fullShare} f))
      ⊢ iprop((((∃ W, owes (c : Thread nD τ) 0 W) ∗ atPos ER (kcell (c, 0)) (0 + 1) ∅ 0 ∗ atPos ER (kcell (c, 1)) (0 + 1) ∅ 0 ∗ atPos ER (kcell (c, 2)) (0 + 1) ∅ 0 ∗ atPos ER (kcell (c, 5)) (0 + 1) ∅ 0 ∗ atPos ER (kcell (c, 6)) (0 + 1) ∅ 0 ∗ atPos ER (kcell (c, 7)) (0 + 1) ∅ 0 ∗ atPos ER (kcell (c, 8)) (0 + 1) ∅ 0 ∗ atPos ER (kcell (c, 3)) 0 ∅ 0 ∗ atPos ER (kcell (c, 4)) 0 ∅ 0 ∗ cred (tallyAt (kcell (c, 3)) () (amt 3)) ∗ cred (tallyAt (kcell (c, 4)) () (amt 4)) ∗ kvP m c (seg c) fullShare ∗ kvP m c (segK (lft c)) fullShare.right ∗ kvP m c (segV (lft c)) fullShare ∗ kvP m c (segK (rgt c)) fullShare ∗ kvP m c (segV (rgt c)) fullShare.right ∗ kvP m c (segK (dia c)) fullShare ∗ kvP m c (segV (dia c)) fullShare ∗ (((c : Thread nD τ).loc cc0_stg0_0) ↦{fullShare} xS m c) ∗ (((c : Thread nD τ).loc cc0_stg1_0) ↦{fullShare} wqS m c) ∗ (((c : Thread nD τ).loc cc0_stg2_0) ↦{fullShare} wkS m c) ∗ (((c : Thread nD τ).loc cc0_stg3_0) ↦{fullShare} wvS m c) ∗ (((c : Thread nD τ).loc cc0_stg4_0) ↦{fullShare} woS m c) ∗ (((c : Thread nD τ).loc cc0_stg5_0) ↦{fullShare} outAt m c)) -∗ Q c)
          -∗ wp frame (wpE (defs₀ (F := F)) 𝒱₀ (c : Thread nD τ) none) Set.univ (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2) Q) := by
  rw [k0_part30_eq_skeleton]; unfold k0_part30_skel
  simp only [semSignalWord, semWaitWord, Prog.lift, Prog.bind_op, Prog.bind_ret, Prog.pure_eq_ret, wp_deviceId]
  unfold payToks positions startCreds
  iintro ⟨#HR, #Hlev, HO, ⟨HtL, HtR, Ht1, Ht2, Ht3, Ht4, Ht5, Ht6, Ht7, Ht8⟩, ⟨Ha0, Ha1, Ha2, Ha3, Ha4, Ha5, Ha6, Ha7, Ha8⟩, ⟨Hc0, Hc5, Hc6, Hc7, Hc8⟩,
    ⟨%f0, Hs⟩, Hx, Hwq, Hwk, Hwv, Hwo, Hout⟩ Hk
  ihave Hs := (take_scratch c f0) $$ Hs
  icases Hs with ⟨Hs, HsL, HsR, HsK, HsV⟩
  -- part 1
  iapply (part1_wp m K c f0) $$ [HO HtL HtR Ha0 Hc0 HsL HsR HsK HsV]
  · isplitr; · iexact HR
    isplitr; · iexact Hlev
    isplitl [HO]; · iexact HO
    isplitl [HtL]; · iexact HtL
    isplitl [HtR]; · iexact HtR
    isplitl [Ha0]; · iexact Ha0
    isplitl [Hc0]; · iexact Hc0
    isplitl [HsL]; · iexact HsL
    isplitl [HsR]; · iexact HsR
    isplitl [HsK]; · iexact HsK
    iexact HsV
  iintro ⟨HO, Ha0, HLs, HLv, HRs, HRk⟩
  dsimp only
  iapply (part2_wp m c)
  dsimp only
  iapply (part3_wp m c)
  dsimp only
  -- part 4
  iapply (part4_wp m c f0) $$ [Hx Hwk Hwv Hs]
  · isplitl [Hx]; · iexact Hx
    isplitl [Hwk]; · iexact Hwk
    isplitl [Hwv]; · iexact Hwv
    iexact Hs
  iintro ⟨Hx, Hwk, Hwv, ⟨%f1, %h1, Hs⟩⟩
  dsimp only
  -- part 5
  iapply (part5_wp m K c f1 h1) $$ [Hwv Hs HRs HO Ht1 Ht5]
  · isplitr; · iexact HR
    isplitl [Hwv]; · iexact Hwv
    isplitl [Hs]; · iexact Hs
    isplitl [HRs]; · iexact HRs
    isplitl [HO]; · iexact HO
    isplitl [Ht1]; · iexact Ht1
    iexact Ht5
  iintro ⟨Hwv, HB, HK, HV, Hc1, HO⟩
  dsimp only
  -- part 6
  iapply (part6_wp m K c) $$ [Hx Hwq HB HLs HO Ht2 Ht6 HK HV]
  · isplitr; · iexact HR
    isplitl [Hx]; · iexact Hx
    isplitl [Hwq]; · iexact Hwq
    isplitl [HB]; · iexact HB
    isplitl [HLs]; · iexact HLs
    isplitl [HO]; · iexact HO
    isplitl [Ht2]; · iexact Ht2
    isplitl [Ht6]; · iexact Ht6
    isplitl [HK]; · iexact HK
    iexact HV
  iintro ⟨Hx, Hwq, Hc2, HO, HK, HV⟩
  dsimp only
  -- part 7
  iapply (part7_wp m c qC qC) $$ [HK HV]
  · isplitl [HK]; · iexact HK
    iexact HV
  iintro ⟨HK, HV⟩
  dsimp only
  -- part 8
  iapply (part8_wp m c qC qC) $$ [HK HV]
  · isplitl [HK]; · iexact HK
    iexact HV
  iintro ⟨HK, HV⟩
  dsimp only
  -- part 9
  iapply (part9_wp m c qC qC) $$ [HK HV]
  · isplitl [HK]; · iexact HK
    iexact HV
  iintro ⟨HK, HV⟩
  dsimp only
  -- part 10
  iapply (part10_wp m c qC qC) $$ [HK HV]
  · isplitl [HK]; · iexact HK
    iexact HV
  iintro ⟨HK, HV⟩
  dsimp only
  -- part 11
  iapply (part11_wp m c qC qC) $$ [HK HV]
  · isplitl [HK]; · iexact HK
    iexact HV
  iintro ⟨HK, HV⟩
  dsimp only
  -- part 12
  iapply (part12_wp m K c) $$ [Hc5 Ha5 HO HRk Ht3 Ht7]
  · isplitr; · iexact HR
    isplitr; · iexact Hlev
    isplitl [Hc5]; · iexact Hc5
    isplitl [Ha5]; · iexact Ha5
    isplitl [HO]; · iexact HO
    isplitl [HRk]; · iexact HRk
    isplitl [Ht3]; · iexact Ht3
    iexact Ht7
  iintro ⟨Ha5, Hc3, HO, HLK, HLV⟩
  dsimp only
  -- part 13
  iapply (part13_wp m c fullShare.right fullShare) $$ [HLK HLV]
  · isplitl [HLK]; · iexact HLK
    iexact HLV
  iintro ⟨HLK, HLV⟩
  dsimp only
  -- part 14
  iapply (part14_wp m c fullShare.right fullShare) $$ [HLK HLV]
  · isplitl [HLK]; · iexact HLK
    iexact HLV
  iintro ⟨HLK, HLV⟩
  dsimp only
  -- part 15
  iapply (part15_wp m c fullShare.right fullShare) $$ [HLK HLV]
  · isplitl [HLK]; · iexact HLK
    iexact HLV
  iintro ⟨HLK, HLV⟩
  dsimp only
  -- part 16
  iapply (part16_wp m c fullShare.right fullShare) $$ [HLK HLV]
  · isplitl [HLK]; · iexact HLK
    iexact HLV
  iintro ⟨HLK, HLV⟩
  dsimp only
  -- part 17
  iapply (part17_wp m c fullShare.right fullShare) $$ [HLK HLV]
  · isplitl [HLK]; · iexact HLK
    iexact HLV
  iintro ⟨HLK, HLV⟩
  dsimp only
  -- part 18
  iapply (part18_wp m K c) $$ [Hc6 Ha6 HO HLv Ht4 Ht8]
  · isplitr; · iexact HR
    isplitr; · iexact Hlev
    isplitl [Hc6]; · iexact Hc6
    isplitl [Ha6]; · iexact Ha6
    isplitl [HO]; · iexact HO
    isplitl [HLv]; · iexact HLv
    isplitl [Ht4]; · iexact Ht4
    iexact Ht8
  iintro ⟨Ha6, Hc4, HO, HRK, HRV⟩
  dsimp only
  -- part 19
  iapply (part19_wp m c fullShare fullShare.right) $$ [HRK HRV]
  · isplitl [HRK]; · iexact HRK
    iexact HRV
  iintro ⟨HRK, HRV⟩
  dsimp only
  -- part 20
  iapply (part20_wp m c fullShare fullShare.right) $$ [HRK HRV]
  · isplitl [HRK]; · iexact HRK
    iexact HRV
  iintro ⟨HRK, HRV⟩
  dsimp only
  -- part 21
  iapply (part21_wp m c fullShare fullShare.right) $$ [HRK HRV]
  · isplitl [HRK]; · iexact HRK
    iexact HRV
  iintro ⟨HRK, HRV⟩
  dsimp only
  -- part 22
  iapply (part22_wp m c fullShare fullShare.right) $$ [HRK HRV]
  · isplitl [HRK]; · iexact HRK
    iexact HRV
  iintro ⟨HRK, HRV⟩
  dsimp only
  -- part 23
  iapply (part23_wp m K c fullShare fullShare.right) $$ [Hc7 Ha7 HO HRK HRV]
  · isplitr; · iexact HR
    isplitr; · iexact Hlev
    isplitl [Hc7]; · iexact Hc7
    isplitl [Ha7]; · iexact Ha7
    isplitl [HO]; · iexact HO
    isplitl [HRK]; · iexact HRK
    iexact HRV
  iintro ⟨Ha7, HO, HRK, HRV, HDK⟩
  dsimp only
  -- part 24
  iapply (part24_wp m K c) $$ [Hc8 Ha8 HO HDK]
  · isplitr; · iexact HR
    isplitr; · iexact Hlev
    isplitl [Hc8]; · iexact Hc8
    isplitl [Ha8]; · iexact Ha8
    isplitl [HO]; · iexact HO
    iexact HDK
  iintro ⟨Ha8, HO, HDK, HDV⟩
  dsimp only
  -- part 25
  iapply (part25_wp m c fullShare fullShare) $$ [HDK HDV]
  · isplitl [HDK]; · iexact HDK
    iexact HDV
  iintro ⟨HDK, HDV⟩
  dsimp only
  -- part 26
  iapply (part26_wp m c fullShare fullShare) $$ [HDK HDV]
  · isplitl [HDK]; · iexact HDK
    iexact HDV
  iintro ⟨HDK, HDV⟩
  dsimp only
  -- part 27
  iapply (part27_wp m c fullShare fullShare) $$ [HDK HDV]
  · isplitl [HDK]; · iexact HDK
    iexact HDV
  iintro ⟨HDK, HDV⟩
  dsimp only
  -- part 28
  iapply (part28_wp m c fullShare fullShare) $$ [HDK HDV]
  · isplitl [HDK]; · iexact HDK
    iexact HDV
  iintro ⟨HDK, HDV⟩
  dsimp only
  -- part 29
  iapply (part29_wp m c f) $$ [Hwo Hout]
  · isplitl [Hwo]; · iexact Hwo
    iexact Hout
  iintro ⟨Hwo, Hout⟩
  dsimp only
  icases HO with ⟨%W, HO⟩
  iapply (wait_step m K c 1 (by decide) rfl (dst := kvM.slice (Rect.unit (s := S4x1024x256) (k0_off5 c) S4x256x256.size (k0_off5_inb c)) (fun _ => rfl)) (credit4 (k0_off5_inb c)) 0 (Or.inl rfl) W) $$ [Hc1 HO Ha1]
  · isplitr; · iexact HR
    isplitr; · iexact Hlev
    isplitl [Hc1]; · iexact Hc1
    isplitl [HO]; · iexact HO
    iexact Ha1
  iintro ⟨⟨%W1, HO⟩, Ha1, HA⟩
  iapply (wait_step m K c 2 (by decide) rfl (dst := kvM.slice (Rect.unit (s := S4x1024x256) (k0_off5 c) S4x256x256.size (k0_off5_inb c)) (fun _ => rfl)) (credit4 (k0_off5_inb c)) 0 (Or.inl rfl) W1) $$ [Hc2 HO Ha2]
  · isplitr; · iexact HR
    isplitr; · iexact Hlev
    isplitl [Hc2]; · iexact Hc2
    isplitl [HO]; · iexact HO
    iexact Ha2
  iintro ⟨HO, Ha2, HB⟩
  ihave HA := (Entails.of_eq (show pay m c 1 false = kvP m c (seg c) qA from rfl)) $$ HA
  ihave HB := (Entails.of_eq (show pay m c 2 false = kvP m c (seg c) qB from rfl)) $$ HB
  ihave Hs := (unshare_own m c) $$ [HA HB HK HV]
  · isplitl [HA]; · iexact HA
    isplitl [HB]; · iexact HB
    isplitl [HK]; · iexact HK
    iexact HV
  rw [wp_ret]; imodintro
  iapply Hk
  isplitl [HO]; · iexact HO
  isplitl [Ha0]; · iexact Ha0
  isplitl [Ha1]; · iexact Ha1
  isplitl [Ha2]; · iexact Ha2
  isplitl [Ha5]; · iexact Ha5
  isplitl [Ha6]; · iexact Ha6
  isplitl [Ha7]; · iexact Ha7
  isplitl [Ha8]; · iexact Ha8
  isplitl [Ha3]; · iexact Ha3
  isplitl [Ha4]; · iexact Ha4
  isplitl [Hc3]; · iexact Hc3
  isplitl [Hc4]; · iexact Hc4
  isplitl [Hs]; · iexact Hs
  isplitl [HLK]; · iexact HLK
  isplitl [HLV]; · iexact HLV
  isplitl [HRK]; · iexact HRK
  isplitl [HRV]; · iexact HRV
  isplitl [HDK]; · iexact HDK
  isplitl [HDV]; · iexact HDV
  isplitl [Hx]; · iexact Hx
  isplitl [Hwq]; · iexact Hwq
  isplitl [Hwk]; · iexact Hwk
  isplitl [Hwv]; · iexact Hwv
  isplitl [Hwo]; · iexact Hwo
  iexact Hout

theorem sems9 : iprop(semVal (kcell (c, 0)) 0 ∗ semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0)
    ⊢ (bigSep Finset.univ fun k : Fin 9 => semVal (kcell (c, k)) 0 : sProp 𝕄) := by
  rw [bigSep_univ_eq_bigSepL [0, 1, 2, 3, 4, 5, 6, 7, 8] (by decide) (by decide)]; exact Entails.refl _

set_option maxHeartbeats 800000 in
/-- The body of device `c`. -/
theorem sound_body (f : (cc0_stg5_0 : Ref sig .tc).ty.Contents (Elt F)) (Q : PUnit → sProp 𝕄) :
    iprop(records m K ∗ levAts L lv ∗ (∃ W, owes (c : Thread nD τ) (O₀ c) W) ∗ payToks c ∗ positions c ∗ startCreds c ∗ (∃ f, kvF c Finset.univ fullShare f) ∗ (((c : Thread nD τ).loc cc0_stg0_0) ↦{fullShare} xS m c) ∗ (((c : Thread nD τ).loc cc0_stg1_0) ↦{fullShare} wqS m c) ∗ (((c : Thread nD τ).loc cc0_stg2_0) ↦{fullShare} wkS m c) ∗ (((c : Thread nD τ).loc cc0_stg3_0) ↦{fullShare} wvS m c) ∗ (((c : Thread nD τ).loc cc0_stg4_0) ↦{fullShare} woS m c) ∗ (((c : Thread nD τ).loc cc0_stg5_0) ↦{fullShare} f))
      ⊢ iprop((((∃ W, owes (c : Thread nD τ) 0 W) ∗ kvP m c Finset.univ fullShare ∗ (bigSep Finset.univ fun k : Fin 9 => semVal (kcell (c, k)) 0) ∗ (((c : Thread nD τ).loc cc0_stg0_0) ↦{fullShare} xS m c) ∗ (((c : Thread nD τ).loc cc0_stg1_0) ↦{fullShare} wqS m c) ∗ (((c : Thread nD τ).loc cc0_stg2_0) ↦{fullShare} wkS m c) ∗ (((c : Thread nD τ).loc cc0_stg3_0) ↦{fullShare} wvS m c) ∗ (((c : Thread nD τ).loc cc0_stg4_0) ↦{fullShare} woS m c) ∗ (((c : Thread nD τ).loc cc0_stg5_0) ↦{fullShare} outAt m c)) -∗ Q ⟨⟩)
          -∗ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2) Q) := by
  rw [cc0_body_eq_skeleton]; unfold cc0_body_skel
  simp only [Prog.lift, Prog.bind_op, Prog.bind_ret, Prog.pure_eq_ret, wp_bind]
  iintro ⟨#HR, #Hlev, Hrest⟩ Hk
  iapply (part30_wp m K c f) $$ [Hrest]
  · isplitr; · iexact HR
    isplitr; · iexact Hlev
    iexact Hrest
  iintro ⟨⟨%W, HO⟩, Ha0, Ha1, Ha2, Ha5, Ha6, Ha7, Ha8, Ha3, Ha4, Hc3, Hc4, Hs, HLK, HLV, HRK, HRV, HDK, HDV, Hst⟩
  iapply (wait_step m K c 3 (by decide) rfl (dst := kvM.slice (Rect.unit (s := S4x1024x256) (k0_off22 c) S2x256x256.size (k0_off22_inb c)) (fun _ => rfl)) (credit2 (k0_off22_inb c)) 0 (Or.inl rfl) W) $$ [Hc3 HO Ha3]
  · isplitr; · iexact HR
    isplitr; · iexact Hlev
    isplitl [Hc3]; · iexact Hc3
    isplitl [HO]; · iexact HO
    iexact Ha3
  iintro ⟨⟨%W1, HO⟩, Ha3, HLK2⟩
  iapply (wait_step m K c 4 (by decide) rfl (dst := kvM.slice (Rect.unit (s := S4x1024x256) (k0_off39 c) S2x256x256.size (k0_off39_inb c)) (fun _ => rfl)) (credit2 (k0_off39_inb c)) 0 (Or.inl rfl) W1) $$ [Hc4 HO Ha4]
  · isplitr; · iexact HR
    isplitr; · iexact Hlev
    isplitl [Hc4]; · iexact Hc4
    isplitl [HO]; · iexact HO
    iexact Ha4
  iintro ⟨HO, Ha4, HRV2⟩
  ihave HLK2 := (Entails.of_eq (show pay m c 3 false = kvP m c (segK (lft c)) fullShare.left from rfl)) $$ HLK2
  ihave HRV2 := (Entails.of_eq (show pay m c 4 false = kvP m c (segV (rgt c)) fullShare.left from rfl)) $$ HRV2
  ihave HLK := (halves m c (segK (lft c))).2 $$ [HLK HLK2]
  · isplitl [HLK2] <;> iassumption
  ihave HRV := (halves m c (segV (rgt c))).2 $$ [HRV HRV2]
  · isplitl [HRV2] <;> iassumption
  ihave HL := (seg_join m c (lft c) fullShare) $$ [HLK HLV]
  · isplitl [HLK] <;> iassumption
  ihave HRg := (seg_join m c (rgt c) fullShare) $$ [HRK HRV]
  · isplitl [HRK] <;> iassumption
  ihave Hs := (give_scratch m c) $$ [Hs HL HRg HDK HDV]
  · isplitl [Hs]; · iexact Hs
    isplitl [HL]; · iexact HL
    isplitl [HRg]; · iexact HRg
    isplitl [HDK]; · iexact HDK
    iexact HDV
  imod (close_step m K c 0) $$ [Ha0] with Hz0
  · isplitr; · iexact HR
    iexact Ha0
  imod (close_step m K c 1) $$ [Ha1] with Hz1
  · isplitr; · iexact HR
    iexact Ha1
  imod (close_step m K c 2) $$ [Ha2] with Hz2
  · isplitr; · iexact HR
    iexact Ha2
  imod (close_step m K c 3) $$ [Ha3] with Hz3
  · isplitr; · iexact HR
    iexact Ha3
  imod (close_step m K c 4) $$ [Ha4] with Hz4
  · isplitr; · iexact HR
    iexact Ha4
  imod (close_step m K c 5) $$ [Ha5] with Hz5
  · isplitr; · iexact HR
    iexact Ha5
  imod (close_step m K c 6) $$ [Ha6] with Hz6
  · isplitr; · iexact HR
    iexact Ha6
  imod (close_step m K c 7) $$ [Ha7] with Hz7
  · isplitr; · iexact HR
    iexact Ha7
  imod (close_step m K c 8) $$ [Ha8] with Hz8
  · isplitr; · iexact HR
    iexact Ha8
  rw [wp_ret]; imodintro
  iapply Hk
  isplitl [HO]; · iexact HO
  isplitl [Hs]; · iexact Hs
  isplitl [Hz0 Hz1 Hz2 Hz3 Hz4 Hz5 Hz6 Hz7 Hz8]
  · iapply (sems9 c)
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    iexact Hz8
  iexact Hst

end Cert.RingAttn

end
-- ==== Proof.Launch.lean ====
module

public import proofs.«01_k».proof.Proof.Body

/-!
# The launch

What the launch deals to each device: every cell's invariant under one map of names, each device's positions, the duty
tokens it pays with (dealt around the ring from the cells' owners) and the credit of its barrier and its receive cells.

-/

@[expose] public section

set_option maxRecDepth 16384

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells and the tokens -/

theorem ownSemFacts : Pipeline.OwnSemFacts cfg0.spec osem := by decide

theorem kcell_injective : Function.Injective (kcell : Dev nD × Fin 9 → GSem nD τ sig) := by
  rintro ⟨c, k⟩ ⟨c', k'⟩ h
  have h1 : c = c' := congrArg (fun g : GSem nD τ sig => g.1.1) h
  have h2 : k = k' := csem_injective (congrArg Prod.snd h)
  subst h1 h2; rfl

def ringCells : Finset (GSem nD τ sig) := Finset.univ.map ⟨kcell, kcell_injective⟩

/-- A cell's duties, one after another: the barrier's two, then one of each other cell. -/
abbrev dutyOf : Fin 10 → Fin 9 × Bool := fun
  | 0 => (0, false) | 1 => (0, true) | 2 => (1, false) | 3 => (2, false) | 4 => (3, false)
  | 5 => (4, false) | 6 => (5, false) | 7 => (6, false) | 8 => (7, false) | 9 => (8, false)
theorem dutyOf_injective : Function.Injective dutyOf := by decide
abbrev tokOf (cj : Dev nD × Fin 10) : GSem nD τ sig × ℕ × Bool := (kcell (cj.1, (dutyOf cj.2).1), 0, (dutyOf cj.2).2)
theorem tokOf_injective : Function.Injective (tokOf : Dev nD × Fin 10 → GSem nD τ sig × ℕ × Bool) := by
  rintro ⟨c, j⟩ ⟨c', j'⟩ h
  have h1 := kcell_injective (congrArg Prod.fst h)
  have h2 : (dutyOf j).2 = (dutyOf j').2 := congrArg (fun x => x.2.2) h
  have h3 : j = j' := dutyOf_injective (Prod.ext (congrArg Prod.snd h1) h2)
  exact Prod.ext (show c = c' from congrArg Prod.fst h1) h3
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (kcell (c, 0)) 0 false ∗ dutyTok ER (kcell (c, 0)) 0 true ∗ dutyTok ER (kcell (c, 1)) 0 false ∗ dutyTok ER (kcell (c, 2)) 0 false ∗ dutyTok ER (kcell (c, 3)) 0 false ∗ dutyTok ER (kcell (c, 4)) 0 false ∗ dutyTok ER (kcell (c, 5)) 0 false ∗ dutyTok ER (kcell (c, 6)) 0 false ∗ dutyTok ER (kcell (c, 7)) 0 false ∗ dutyTok ER (kcell (c, 8)) 0 false)

theorem bigSep_nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem bigSep_ten (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-! ## The semaphores at launch and at the end -/

theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0) := by
  rw [Pipeline.ownSems0_eq_of_list c osem [0, 1, 2, 3, 4, 5, 6, 7] (by decide) (by decide)]; rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

/-- The nine cells' counters are the unscoped one and the kernel's own eight. -/
theorem sems0_eq (c : Dev nD) :
    (bigSep Finset.univ fun k : Fin 9 => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_nine]

variable (m : Mem F)

/-! ## The cells allocated, all devices at once -/

/-- What the launch element deals device `c`. -/
def G (c : Dev nD) : sProp 𝕄 :=
  iprop((bigSep Finset.univ fun k : Fin 9 => roundState ER (ringRd m) (kcell (c, k)) 0)
    ∗ (bigSep Finset.univ fun k : Fin 9 => iprop(atPos ER (kcell (c, k)) 0 ∅ 0 ∗ reached ER (kcell (c, k)) 0)) ∗ toks c)

/-- What device `c`'s body starts from, of the protocol's own. -/
def G' (c : Dev nD) : sProp 𝕄 := iprop((∃ K, records m K) ∗ positions c ∗ payToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_ten]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 9 => semVal (kcell (c, k)) 0) ∗ bigSep Finset.univ fun k : Fin 9 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The ring, one device to the right. -/
def ring : Dev nD ≃ Dev nD := ⟨rgt, lft, lft_rgt, rgt_lft⟩

/-- The tokens dealt around the ring, each to the device that pays with it. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (kcell (c, 0)) 0 false : sProp 𝕄)),
    bigSep_univ_equiv ring.symm (fun c : Dev nD => (dutyTok ER (kcell (c, 0)) 0 true : sProp 𝕄)),
    bigSep_univ_equiv ring (fun c : Dev nD => (dutyTok ER (kcell (c, 5)) 0 false : sProp 𝕄)),
    bigSep_univ_equiv ring.symm (fun c : Dev nD => (dutyTok ER (kcell (c, 6)) 0 false : sProp 𝕄)),
    bigSep_univ_equiv ring (fun c : Dev nD => (dutyTok ER (kcell (c, 7)) 0 false : sProp 𝕄)),
    bigSep_univ_equiv ring.symm (fun c : Dev nD => (dutyTok ER (kcell (c, 8)) 0 false : sProp 𝕄))]
  iintro ⟨H1, H2, Hrest⟩
  isplitl [H2]; · iexact H2
  isplitl [H1]; · iexact H1
  iexact Hrest

/-- Every device gets the records and what is its own. -/
theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (ringRd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (ringRd m) κ (kcell ck) : sProp 𝕄))) $$ HI
  icases HK with ⟨%K, #HI⟩
  ihave Htk := (toks_around (F := F)) $$ Htok
  ihave Hpos := (show (bigSep Finset.univ fun c : Dev nD => bigSep Finset.univ fun k : Fin 9 => (atPos ER (kcell (c, k)) 0 ∅ 0 : sProp 𝕄))
      ⊢ bigSep Finset.univ fun c : Dev nD => positions c from bigSep_mono fun c _ => show _ ⊢ positions c from Entails.of_eq (by unfold positions; rw [bigSep_nine])) $$ Hat
  have hall : iprop(records m K ∗ bigSep Finset.univ fun c : Dev nD => iprop(positions c ∗ payToks c)) ⊢ bigSep Finset.univ (G' m) :=
    (sep_mono_left (BI.bigSep_of_persistent Finset.univ (records m K))).trans (by
      rw [← bigSep_sep']
      exact bigSep_mono fun c _ => by
        show iprop(records m K ∗ (positions c ∗ payToks c)) ⊢ iprop((∃ K, records m K) ∗ positions c ∗ payToks c)
        iintro ⟨#H, Hp⟩
        isplitr; · iexists K; iexact H
        iexact Hp)
  iapply hall
  isplitr
  · unfold records; isplitl; · iexact HI
    iexact HR
  · rw [bigSep_sep']
    isplitl [Hpos]; · iexact Hpos
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem tally_at (a c : Dev nD) (j k : Fin 9) (n : ℕ) :
    (tallyAt (kcell (a, j)) () n : CellTallies nD τ sig Unit) (kcell (c, k)) () = if c = a ∧ k = j then n else 0 := by
  rw [tallyAt_apply]
  by_cases h : c = a ∧ k = j
  · rw [if_pos h, if_pos ⟨by rw [h.1, h.2], rfl⟩]
  · rw [if_neg h, if_neg fun h' => h ⟨congrArg Prod.fst (kcell_injective h'.1), congrArg Prod.snd (kcell_injective h'.1)⟩]

/-- What is owed to a cell of kind `k` in all. -/
def due : Fin 9 → ℕ | 0 => 2 | 5 => N4 | 6 => N4 | 7 => N2 | 8 => N2 | _ => 0

theorem owed_at (d c : Dev nD) (k : Fin 9) : O₀ d (kcell (c, k)) () =
    (if c = lft d ∧ k = 8 then N2 else 0) + (if c = rgt d ∧ k = 7 then N2 else 0) + (if c = lft d ∧ k = 6 then N4 else 0)
      + (if c = rgt d ∧ k = 5 then N4 else 0) + (if c = rgt d ∧ k = 0 then 1 else 0) + (if c = lft d ∧ k = 0 then 1 else 0) := by
  unfold O₀ O₁ OA OB OC OD
  simp only [Pi.add_apply, Finsupp.add_apply, tally_at]

theorem sum_lft (c : Dev nD) (n : ℕ) : (∑ d : Dev nD, if c = lft d then n else 0) = n := by
  rw [Finset.sum_eq_single (rgt c)]
  · rw [if_pos (lft_rgt c).symm]
  · intro d _ hd; rw [if_neg fun h => hd (by rw [h, rgt_lft])]
  · intro h; exact absurd (Finset.mem_univ _) h
theorem sum_rgt (c : Dev nD) (n : ℕ) : (∑ d : Dev nD, if c = rgt d then n else 0) = n := by
  rw [Finset.sum_eq_single (lft c)]
  · rw [if_pos (rgt_lft c).symm]
  · intro d _ hd; rw [if_neg fun h => hd (by rw [h, lft_rgt])]
  · intro h; exact absurd (Finset.mem_univ _) h

theorem sum_owed (c : Dev nD) (k : Fin 9) : (∑ d : Dev nD, O₀ d (kcell (c, k)) ()) = due k := by
  simp only [owed_at, Finset.sum_add_distrib]
  fin_cases k
  · simp (config := { decide := true }) only [_root_.and_true, _root_.and_false, if_false, Finset.sum_const_zero, Nat.add_zero, Nat.zero_add, sum_lft, sum_rgt]
  · simp (config := { decide := true }) only [_root_.and_true, _root_.and_false, if_false, Finset.sum_const_zero, Nat.add_zero, Nat.zero_add, sum_lft, sum_rgt]
  · simp (config := { decide := true }) only [_root_.and_true, _root_.and_false, if_false, Finset.sum_const_zero, Nat.add_zero, Nat.zero_add, sum_lft, sum_rgt]
  · simp (config := { decide := true }) only [_root_.and_true, _root_.and_false, if_false, Finset.sum_const_zero, Nat.add_zero, Nat.zero_add, sum_lft, sum_rgt]
  · simp (config := { decide := true }) only [_root_.and_true, _root_.and_false, if_false, Finset.sum_const_zero, Nat.add_zero, Nat.zero_add, sum_lft, sum_rgt]
  · simp (config := { decide := true }) only [_root_.and_true, _root_.and_false, if_false, Finset.sum_const_zero, Nat.add_zero, Nat.zero_add, sum_lft, sum_rgt]
  · simp (config := { decide := true }) only [_root_.and_true, _root_.and_false, if_false, Finset.sum_const_zero, Nat.add_zero, Nat.zero_add, sum_lft, sum_rgt]
  · simp (config := { decide := true }) only [_root_.and_true, _root_.and_false, if_false, Finset.sum_const_zero, Nat.add_zero, Nat.zero_add, sum_lft, sum_rgt]
  · simp (config := { decide := true }) only [_root_.and_true, _root_.and_false, if_false, Finset.sum_const_zero, Nat.add_zero, Nat.zero_add, sum_lft, sum_rgt]

theorem launch_cell (c : Dev nD) (k : Fin 9) :
    tallyOn (kcell (c, k)) (launchCredit (Pipeline.owing O₀) 0 (kcell (c, k))) = (tallyAt (kcell (c, k)) () (due k) : CellTallies nD τ sig Unit) := by
  unfold tallyAt; refine congrArg _ (Finsupp.ext fun u => ?_); cases u
  rw [Pipeline.launchCredit_owing, Finsupp.single_eq_same, sum_owed]

theorem creds (c : Dev nD) : (Pipeline.launchCred O₀ c : sProp 𝕄) ⊢ startCreds c := by
  have h : (Pipeline.launchCred O₀ c : sProp 𝕄) ⊢ bigSep Finset.univ fun k : Fin 9 => cred (tallyAt (kcell (c, k)) () (due k)) := by
    unfold Pipeline.launchCred
    refine (bigSep_subset (Finset.subset_univ (Finset.univ.map ⟨csem, csem_injective⟩))).trans ?_
    rw [bigSep_map]
    exact Entails.of_eq (bigSep_congr fun k _ => congrArg cred (launch_cell c k))
  refine h.trans ?_
  rw [bigSep_nine]
  unfold startCreds
  iintro ⟨H0, -, -, -, -, H5, H6, H7, H8⟩
  isplitl [H0]; · iexact H0
  isplitl [H5]; · iexact H5
  isplitl [H6]; · iexact H6
  isplitl [H7]; · iexact H7
  iexact H8

end Cert.RingAttn

end
-- ==== Proof.Run.lean ====
module

public import proofs.«01_k».proof.Proof.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

/-!
# The run

The proof data of the one pipeline, the body obligation out of `sound_body`, and the launch: from any memory with zero
counters every weakly fair execution on the four devices terminates, every array a window stages ends at the contents
`finalA`, and every counter is back at zero.

-/

@[expose] public section

set_option maxRecDepth 16384

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F) (ρ : Dev nD → PrngReg)

/-- What device `c`'s body starts from beside its scratch. -/
def start (c : Dev nD) : sProp 𝕄 := iprop(G' m c ∗ startCreds c ∗ levAts L lv)
def Φ₀ (c : Dev nD) : sProp 𝕄 := iprop(start m c ∗ ∃ f, kvF c Finset.univ fullShare f)
/-- After the body: the scratch holding everyone's keys and values, and the nine counters at zero. -/
def Φ₁ (c : Dev nD) : sProp 𝕄 := iprop(kvP m c Finset.univ fullShare ∗ bigSep Finset.univ fun k : Fin 9 => semVal (kcell (c, k)) 0)

def dats (_ : Fin 1) (c : Dev nD) : Dat τ (Elt F) Unit ℕ UU ℕ cfg0 c where
  A w := m ((cfg0.win w).arr.view.loc (c : Thread nD τ))
  after w _ := match w with
    | ⟨0, _⟩ => xS m c
    | ⟨1, _⟩ => wqS m c
    | ⟨2, _⟩ => wkS m c
    | ⟨3, _⟩ => wvS m c
    | ⟨4, _⟩ => woS m c
    | ⟨5, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_0 (c : Dev nD) (d) : (dats m 0 c).before (0 : Fin 6) t₀ d = xS m c := by
  unfold Dat.before; rw [if_pos (fetch0_0 t₀)]; rfl
theorem before_1 (c : Dev nD) (d) : (dats m 0 c).before (1 : Fin 6) t₀ d = wqS m c := by
  unfold Dat.before; rw [if_pos (fetch0_1 t₀)]; rfl
theorem before_2 (c : Dev nD) (d) : (dats m 0 c).before (2 : Fin 6) t₀ d = wkS m c := by
  unfold Dat.before; rw [if_pos (fetch0_2 t₀)]; rfl
theorem before_3 (c : Dev nD) (d) : (dats m 0 c).before (3 : Fin 6) t₀ d = wvS m c := by
  unfold Dat.before; rw [if_pos (fetch0_3 t₀)]; rfl
theorem before_4 (c : Dev nD) (d) : (dats m 0 c).before (4 : Fin 6) t₀ d = woS m c := by
  unfold Dat.before; rw [if_pos (fetch0_4 t₀)]; rfl

def bodyPre (c : Dev nD) : sProp 𝕄 :=
  iprop(Φ₀ m c ∗ (dats m 0 c).owesAt () t₀.castSucc ∗ (∃ d, stg c cc0_stg0_0 ((dats m 0 c).before (0 : Fin 6) t₀ d)) ∗ (∃ d, stg c cc0_stg1_0 ((dats m 0 c).before (1 : Fin 6) t₀ d)) ∗ (∃ d, stg c cc0_stg2_0 ((dats m 0 c).before (2 : Fin 6) t₀ d)) ∗ (∃ d, stg c cc0_stg3_0 ((dats m 0 c).before (3 : Fin 6) t₀ d)) ∗ (∃ d, stg c cc0_stg4_0 ((dats m 0 c).before (4 : Fin 6) t₀ d)) ∗ (∃ d, stg c cc0_stg5_0 ((dats m 0 c).before (5 : Fin 6) t₀ d)))
def bodyPost (c : Dev nD) : sProp 𝕄 :=
  iprop(Φ₁ m c ∗ (dats m 0 c).owesAt () t₀.succ ∗ stg c cc0_stg0_0 (xS m c) ∗ stg c cc0_stg1_0 (wqS m c) ∗ stg c cc0_stg2_0 (wkS m c) ∗ stg c cc0_stg3_0 (wvS m c) ∗ stg c cc0_stg4_0 (woS m c) ∗ stg c cc0_stg5_0 (outAt m c))

theorem sound_point (c : Dev nD) :
    bodyPre m c ⊢ wp frame (wpE (defs₀ (F := F)) 𝒱₀ (c : Thread nD τ) none) Set.univ
      (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2) (fun _ => bodyPost m c) := by
  unfold bodyPre Φ₀ start G'
  iintro ⟨⟨⟨⟨⟨%K, #HR⟩, Hpos, Htok⟩, Hcr, #Hlev⟩, Hs⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  have e0 := h0.trans (before_0 m c d0)
  have e1 := h1.trans (before_1 m c d1)
  have e2 := h2.trans (before_2 m c d2)
  have e3 := h3.trans (before_3 m c d3)
  have e4 := h4.trans (before_4 m c d4)
  subst e0 e1 e2 e3 e4
  unfold Dat.owesAt Pipeline.owesWithin
  icases Ho with ⟨%W, %hW, HO⟩
  rw [show (dats m 0 c).owed t₀.castSucc = O₀ c from rfl]
  iapply (sound_body m K c g5 fun _ => bodyPost m c) $$ [HO Hpos Htok Hcr Hs H0 H1 H2 H3 H4 H5]
  · isplitr; · iexact HR
    isplitr; · iexact Hlev
    isplitl [HO]; · iexists W; iexact HO
    isplitl [Htok]; · iexact Htok
    isplitl [Hpos]; · iexact Hpos
    isplitl [Hcr]; · iexact Hcr
    isplitl [Hs]; · iexact Hs
    isplitl [H0]; · iexact H0
    isplitl [H1]; · iexact H1
    isplitl [H2]; · iexact H2
    isplitl [H3]; · iexact H3
    isplitl [H4]; · iexact H4
    iexact H5
  iintro ⟨⟨%W', HO⟩, Hs, Hz, H0, H1, H2, H3, H4, H5⟩
  unfold bodyPost Φ₁ Dat.owesAt Pipeline.owesWithin
  rw [show (dats m 0 c).owed t₀.succ = 0 from rfl]
  isplitl [Hs Hz]
  · isplitl [Hs] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

theorem body_obligation (c : Dev nD) : BodyObligation (dats (F := F) m 0 c) (defs₀ (F := F)) 𝒱₀ () Set.univ := fun t => by
  rw [fin_N t]
  rw [bigSep_W, bigSep_W]
  simp only [owns_whole_eq]
  exact sound_point m c

/-! ## The launch's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq]
  unfold Φ₁
  rw [sems0_eq]
  iintro ⟨Hr, Hz, Ho⟩
  isplitl [Hz]; · iexact Hz
  isplitl [Ho]; · iexact Ho
  iexists (kvAll m); iexact Hr

theorem waits (c : Dev nD) : (levAts L lv : sProp 𝕄) ⊢ Pipeline.cellsWaits cfgs (dats m) () 0 c :=
  Pipeline.cellsWaits_intro cfgs (dats m) () 0 c fun w s t =>
    mayWait_of c _ 0 (by
      show (kindOf (.dma (((cfgs 0).win w).sem s))).elim 0 lvk ≤ 0
      clear t; revert s; revert w; decide) (by
      rcases t with ⟨_ | _, ht⟩
      · exact above_0 c
      · exact fun g u h => absurd h (Nat.lt_irrefl 0))

/-! ## The run -/

/-- Window `w`'s array after the run. -/
def finalA (c : Dev nD) (w : Fin cfg0.W) : Buf (Elt F) ((cfg0.win w).arr.view.loc (c : Thread nD τ)) := (dats m 0 c).arrAt w cfg0.N

set_option maxRecDepth 8000 in
theorem run_main : θ_run defs (onTc (τ := τ) (main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array holds what it held. -/
theorem finalA_0 (c : Dev nD) : finalA m c (0 : Fin 6) = m (win0_0.arr.view.loc (c : Thread nD τ)) :=
  (dats (F := F) m 0 c).arrAt_in (0 : Fin 6) rfl _
theorem finalA_1 (c : Dev nD) : finalA m c (1 : Fin 6) = m (win0_1.arr.view.loc (c : Thread nD τ)) :=
  (dats (F := F) m 0 c).arrAt_in (1 : Fin 6) rfl _
theorem finalA_2 (c : Dev nD) : finalA m c (2 : Fin 6) = m (win0_2.arr.view.loc (c : Thread nD τ)) :=
  (dats (F := F) m 0 c).arrAt_in (2 : Fin 6) rfl _
theorem finalA_3 (c : Dev nD) : finalA m c (3 : Fin 6) = m (win0_3.arr.view.loc (c : Thread nD τ)) :=
  (dats (F := F) m 0 c).arrAt_in (3 : Fin 6) rfl _
theorem finalA_4 (c : Dev nD) : finalA m c (4 : Fin 6) = m (win0_4.arr.view.loc (c : Thread nD τ)) :=
  (dats (F := F) m 0 c).arrAt_in (4 : Fin 6) rfl _

end Cert.RingAttn

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import Idealize.ShloMosaic.Lib.Quiescent

/-!
# The frames

Each program terminates, leaves its arguments as they were and every semaphore counter at zero. The kernel as printed and
its idealization have the same text, so both frames are the one run, at words and at extended reals.
-/

@[expose] public section

set_option maxRecDepth 16384

noncomputable section

namespace Cert.RingAttn

open Idealize.ShloMosaic Idealize.ShloMosaic.TcCoe Idealize.SL.Sem
open Cert.KernelIdeal Cert.KernelIdeal.Gen

variable {F : FTy → Type} [FloatOps F]

/-- The run read at the five argument arrays, and the counters. -/
theorem run_frame (m : Mem F) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c (0 : Fin 6)).trans (finalA_0 m c), (h.1 c (1 : Fin 6)).trans (finalA_1 m c), (h.1 c (2 : Fin 6)).trans (finalA_2 m c), (h.1 c (3 : Fin 6)).trans (finalA_3 m c), (h.1 c (4 : Fin 6)).trans (finalA_4 m c)⟩, h.2⟩) (run_main m ρ)

theorem frame_kernelIdeal : Cert.quiescent_KernelIdeal (hKernelIdeal := Cert.KernelIdeal.Gen.facts) :=
  fun m ρ _ => run_frame (F := Ideal) m ρ

/-- The kernel as printed and its idealization have one body table. -/
theorem defs₀_eq : Cert.Kernel.defs₀ (F := F) = Cert.KernelIdeal.defs₀ (F := F) := by
  refine congrArg Defs.onTc ?_
  funext l x
  match l, x with
  | ⟨0, _⟩, (t, s) => exact rfl
  | ⟨n + 1, h⟩, _ => exact absurd h (by omega)

theorem defs_eq : Cert.Kernel.defs (F := F) = Cert.KernelIdeal.defs (F := F) :=
  congrArg (Pipeline.defs Cert.KernelIdeal.pcfgs) defs₀_eq

theorem frame_kernel : Cert.quiescent_Kernel (hKernel := Cert.Kernel.Gen.facts) := fun m ρ _ => by
  rw [defs_eq]
  exact run_frame (F := Bits) m ρ

theorem frame_reference : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems rfl r.2⟩)
    (Cert.ReferenceIdeal.Value.run (F := Ideal) m ρ)

end Cert.RingAttn

end
-- ==== Proof.Tables.lean ====
module

public import proofs.«01_k».proof.Proof.Contents
public import proofs.«01_k».proof.Proof.Geom

/-!
# The attention as sixteen uniform steps a head

The kernel's running maximum, sum and accumulator of a head, written as one step applied four times: over the device's
own keys and values, then those of its left neighbour, its right neighbour and the device across. The two planes of the
result are the quotients of the last step, joined and multiplied by `Wo`.
-/

@[expose] public section

set_option maxRecDepth 16384

noncomputable section

namespace Cert.RingAttn

open Cert.KernelIdeal Cert.KernelIdeal.Gen
open Idealize.ShloMosaic Idealize.ShloMosaic.TcCoe

variable {F : FTy → Type} [FloatOps F]

/-! ## One step -/

/-- A head's keys or values as a matrix. -/
def flat (k : Vec F S1x256x64 .f32) : FVec F S256x64 .f32 := shapeCast S256x64 k shapeCasts_S1x256x64_S256x64

/-- The scaled scores of a head's queries against a block of keys. -/
def scores (q : FVec F S256x64 .f32) (k : Vec F S1x256x64 .f32) : FVec F S256x256 .f32 :=
  mulf (matmul dot_S256x64_S256x64_S256x256_1_1_0_0_n_n none q (flat k) (constant S256x256 .f32 0x00000000#32))
    (broadcast S256x256 (Scalar.ofBits .f32 0x3E000000#32))

/-- The running maximum after a block of keys. -/
def stepM (q : FVec F S256x64 .f32) (k : Vec F S1x256x64 .f32) (mx : FVec F S256x1 .f32) : FVec F S256x1 .f32 :=
  maximumf mx (shapeCast S256x1 (multiReduction .maximumf [1] S256 (scores q k) 0xFF800000#32 reduces_S256x256_S256 (.inl rfl) rfl)
    shapeCasts_S256_S256x1)

/-- The factor that carries a sum from the old maximum to the new one. -/
def stepC (q : FVec F S256x64 .f32) (k : Vec F S1x256x64 .f32) (mx : FVec F S256x1 .f32) : FVec F S256x1 .f32 :=
  exp (subf mx (stepM q k mx))

/-- The block's exponentials, relative to the new maximum. -/
def stepE (q : FVec F S256x64 .f32) (k : Vec F S1x256x64 .f32) (mx : FVec F S256x1 .f32) : FVec F S256x256 .f32 :=
  exp (subf (scores q k) (broadcastTo S256x256 (stepM q k mx) broadcasts_S256x1_S256x256))

/-- The running sum after a block of keys. -/
def stepL (q : FVec F S256x64 .f32) (k : Vec F S1x256x64 .f32) (mx l : FVec F S256x1 .f32) : FVec F S256x1 .f32 :=
  addf (mulf l (stepC q k mx)) (shapeCast S256x1
    (multiReduction .add [1] S256 (stepE q k mx) 0x00000000#32 reduces_S256x256_S256 (.inl rfl) rfl) shapeCasts_S256_S256x1)

/-- The accumulator after a block of keys and values. -/
def stepA (q : FVec F S256x64 .f32) (k v : Vec F S1x256x64 .f32) (mx : FVec F S256x1 .f32) (a : FVec F S256x64 .f32) :
    FVec F S256x64 .f32 :=
  addf (mulf a (broadcastTo S256x64 (stepC q k mx) broadcasts_S256x1_S256x64))
    (matmul dot_S256x256_S256x64_S256x64_1_0_0_1_n_n none (stepE q k mx) (flat v) (constant S256x64 .f32 0x00000000#32))

/-- A head's running maximum, sum and accumulator. -/
structure Run (F : FTy → Type) where
  mx : FVec F S256x1 .f32
  sm : FVec F S256x1 .f32
  ac : FVec F S256x64 .f32

/-- One step on the three together. -/
def Run.step (s : Run F) (q : FVec F S256x64 .f32) (k v : Vec F S1x256x64 .f32) : Run F :=
  ⟨stepM q k s.mx, stepL q k s.mx s.sm, stepA q k v s.mx s.ac⟩

/-- The three before the first block. -/
def Run.init : Run F := ⟨k0_pay23, k0_pay24, k0_pay25⟩

/-- The queries' head `h` of batch `b`. -/
def qHead (m : Mem F) (c : Dev nD) : Fin 2 → Fin 4 → FVec F S256x64 .f32 :=
  ![![extractStridedSlice S256x64 ![0, 0] (v199 m c) slices_S256x256_o0_0_S256x64, extractStridedSlice S256x64 ![0, 64] (v199 m c) slices_S256x256_o0_64_S256x64, extractStridedSlice S256x64 ![0, 128] (v199 m c) slices_S256x256_o0_128_S256x64, extractStridedSlice S256x64 ![0, 192] (v199 m c) slices_S256x256_o0_192_S256x64],
    ![extractStridedSlice S256x64 ![0, 0] (v208 m c) slices_S256x256_o0_0_S256x64, extractStridedSlice S256x64 ![0, 64] (v208 m c) slices_S256x256_o0_64_S256x64, extractStridedSlice S256x64 ![0, 128] (v208 m c) slices_S256x256_o0_128_S256x64, extractStridedSlice S256x64 ![0, 192] (v208 m c) slices_S256x256_o0_192_S256x64]]

/-! ## The blocks of keys and values, as loaded -/

/-- Head `h`'s columns of plane `p` of device `o`. -/
def ldAt (m : Mem F) (o : Dev nD) (p h : Fin 4) : Vec F S1x256x64 .f32 := fun (i : S1x256x64.Idx) =>
  kvBlk m o p (ix3 (0 : Fin 1) (i 1) (⟨64 * h.val + (i 2).val, by have h2 : (i 2).val < 64 := (i 2).isLt; have := h.isLt; omega⟩ : Fin 256))

/-- A load of the gathered scratch whose offsets name a device, a plane and a head. -/
theorem ld_eq (m : Mem F) {off : Fin S4x1024x256.rank → Nat} (inb : ∀ a, off a + S1x256x64.size a ≤ S4x1024x256.size a)
    (o : Dev nD) (p h : Fin 4) (e : off = ![p.val, 256 * o.val, 64 * h.val]) : ld m off inb = ldAt m o p h := by
  subst e
  funext i
  have h1 : (i 1).val < 256 := (i 1).isLt
  have h0 : (i 0).val < 1 := (i 0).isLt
  have ho : o.val < 4 := o.isLt
  show kvBlk m (⟨(256 * o.val + 1 * (i 1).val) / 256, _⟩ : Dev nD) (⟨p.val + 1 * (i 0).val, _⟩ : Fin 4)
      (ix3 (0 : Fin 1) (⟨(256 * o.val + 1 * (i 1).val) % 256, _⟩ : Fin 256) (⟨64 * h.val + 1 * (i 2).val, _⟩ : Fin 256)) = _
  unfold ldAt
  have e1 : (⟨(256 * o.val + 1 * (i 1).val) / 256, by omega⟩ : Dev nD) = o := Fin.ext (by show (256 * o.val + 1 * (i 1).val) / 256 = o.val; omega)
  have e2 : (⟨p.val + 1 * (i 0).val, by have := p.isLt; omega⟩ : Fin 4) = p := Fin.ext (by show p.val + 1 * (i 0).val = p.val; omega)
  rw [e1, e2]
  congr 1
  refine congrArg₂ (ix3 (0 : Fin 1)) (Fin.ext ?_) (Fin.ext ?_)
  · show (256 * o.val + 1 * (i 1).val) % 256 = (i 1).val; omega
  · show 64 * h.val + 1 * (i 2).val = 64 * h.val + (i 2).val; omega

/-- The own keys, by batch and head. -/
def ldKMy (m : Mem F) (c : Dev nD) : Fin 2 → Fin 4 → Vec F S1x256x64 .f32 :=
  ![![ld m (k0_off6 c) (k0_off6_inb c), ld m (k0_off8 c) (k0_off8_inb c), ld m (k0_off10 c) (k0_off10_inb c), ld m (k0_off12 c) (k0_off12_inb c)], ![ld m (k0_off14 c) (k0_off14_inb c), ld m (k0_off16 c) (k0_off16_inb c), ld m (k0_off18 c) (k0_off18_inb c), ld m (k0_off20 c) (k0_off20_inb c)]]

/-- The own values, by batch and head. -/
def ldVMy (m : Mem F) (c : Dev nD) : Fin 2 → Fin 4 → Vec F S1x256x64 .f32 :=
  ![![ld m (k0_off7 c) (k0_off7_inb c), ld m (k0_off9 c) (k0_off9_inb c), ld m (k0_off11 c) (k0_off11_inb c), ld m (k0_off13 c) (k0_off13_inb c)], ![ld m (k0_off15 c) (k0_off15_inb c), ld m (k0_off17 c) (k0_off17_inb c), ld m (k0_off19 c) (k0_off19_inb c), ld m (k0_off21 c) (k0_off21_inb c)]]

/-- The left neighbour's keys, by batch and head. -/
def ldKLf (m : Mem F) (c : Dev nD) : Fin 2 → Fin 4 → Vec F S1x256x64 .f32 :=
  ![![ld m (k0_off23 c) (k0_off23_inb c), ld m (k0_off25 c) (k0_off25_inb c), ld m (k0_off27 c) (k0_off27_inb c), ld m (k0_off29 c) (k0_off29_inb c)], ![ld m (k0_off31 c) (k0_off31_inb c), ld m (k0_off33 c) (k0_off33_inb c), ld m (k0_off35 c) (k0_off35_inb c), ld m (k0_off37 c) (k0_off37_inb c)]]

/-- The left neighbour's values, by batch and head. -/
def ldVLf (m : Mem F) (c : Dev nD) : Fin 2 → Fin 4 → Vec F S1x256x64 .f32 :=
  ![![ld m (k0_off24 c) (k0_off24_inb c), ld m (k0_off26 c) (k0_off26_inb c), ld m (k0_off28 c) (k0_off28_inb c), ld m (k0_off30 c) (k0_off30_inb c)], ![ld m (k0_off32 c) (k0_off32_inb c), ld m (k0_off34 c) (k0_off34_inb c), ld m (k0_off36 c) (k0_off36_inb c), ld m (k0_off38 c) (k0_off38_inb c)]]

/-- The right neighbour's keys, by batch and head. -/
def ldKRt (m : Mem F) (c : Dev nD) : Fin 2 → Fin 4 → Vec F S1x256x64 .f32 :=
  ![![ld m (k0_off40 c 1#32) (k0_off40_inb c 0), ld m (k0_off42 c 1#32) (k0_off42_inb c 0), ld m (k0_off44 c 1#32) (k0_off44_inb c 0), ld m (k0_off46 c 1#32) (k0_off46_inb c 0)], ![ld m (k0_off48 c 1#32) (k0_off48_inb c 0), ld m (k0_off50 c 1#32) (k0_off50_inb c 0), ld m (k0_off52 c 1#32) (k0_off52_inb c 0), ld m (k0_off54 c 1#32) (k0_off54_inb c 0)]]

/-- The right neighbour's values, by batch and head. -/
def ldVRt (m : Mem F) (c : Dev nD) : Fin 2 → Fin 4 → Vec F S1x256x64 .f32 :=
  ![![ld m (k0_off41 c 1#32) (k0_off41_inb c 0), ld m (k0_off43 c 1#32) (k0_off43_inb c 0), ld m (k0_off45 c 1#32) (k0_off45_inb c 0), ld m (k0_off47 c 1#32) (k0_off47_inb c 0)], ![ld m (k0_off49 c 1#32) (k0_off49_inb c 0), ld m (k0_off51 c 1#32) (k0_off51_inb c 0), ld m (k0_off53 c 1#32) (k0_off53_inb c 0), ld m (k0_off55 c 1#32) (k0_off55_inb c 0)]]

/-- The keys of the device across, by batch and head. -/
def ldKDg (m : Mem F) (c : Dev nD) : Fin 2 → Fin 4 → Vec F S1x256x64 .f32 :=
  ![![ld m (k0_off40 c 2#32) (k0_off40_inb c 1), ld m (k0_off42 c 2#32) (k0_off42_inb c 1), ld m (k0_off44 c 2#32) (k0_off44_inb c 1), ld m (k0_off46 c 2#32) (k0_off46_inb c 1)], ![ld m (k0_off48 c 2#32) (k0_off48_inb c 1), ld m (k0_off50 c 2#32) (k0_off50_inb c 1), ld m (k0_off52 c 2#32) (k0_off52_inb c 1), ld m (k0_off54 c 2#32) (k0_off54_inb c 1)]]

/-- The values of the device across, by batch and head. -/
def ldVDg (m : Mem F) (c : Dev nD) : Fin 2 → Fin 4 → Vec F S1x256x64 .f32 :=
  ![![ld m (k0_off41 c 2#32) (k0_off41_inb c 1), ld m (k0_off43 c 2#32) (k0_off43_inb c 1), ld m (k0_off45 c 2#32) (k0_off45_inb c 1), ld m (k0_off47 c 2#32) (k0_off47_inb c 1)], ![ld m (k0_off49 c 2#32) (k0_off49_inb c 1), ld m (k0_off51 c 2#32) (k0_off51_inb c 1), ld m (k0_off53 c 2#32) (k0_off53_inb c 1), ld m (k0_off55 c 2#32) (k0_off55_inb c 1)]]

/-- A statement over the two batches and four heads, head by head. -/
theorem forall_head {P : Fin 2 → Fin 4 → Prop} (a0 : P 0 0) (a1 : P 0 1) (a2 : P 0 2) (a3 : P 0 3) (b0 : P 1 0) (b1 : P 1 1) (b2 : P 1 2)
    (b3 : P 1 3) (b : Fin 2) (h : Fin 4) : P b h := by
  match b, h with
  | 0, 0 => exact a0
  | 0, 1 => exact a1
  | 0, 2 => exact a2
  | 0, 3 => exact a3
  | 1, 0 => exact b0
  | 1, 1 => exact b1
  | 1, 2 => exact b2
  | 1, 3 => exact b3

/-- The plane of batch `b`'s keys. -/
def planeK (b : Fin 2) : Fin 4 := ⟨b.val, by omega⟩
/-- The plane of batch `b`'s values. -/
def planeV (b : Fin 2) : Fin 4 := ⟨b.val + 2, by omega⟩

theorem ldKMy_eq (m : Mem F) (c : Dev nD) : ∀ b h, ldKMy m c b h = ldAt m c (planeK b) h :=
  forall_head (ld_eq m _ c 0 0 (k0_off6_eq c)) (ld_eq m _ c 0 1 (k0_off8_eq c)) (ld_eq m _ c 0 2 (k0_off10_eq c)) (ld_eq m _ c 0 3 (k0_off12_eq c)) (ld_eq m _ c 1 0 (k0_off14_eq c)) (ld_eq m _ c 1 1 (k0_off16_eq c)) (ld_eq m _ c 1 2 (k0_off18_eq c)) (ld_eq m _ c 1 3 (k0_off20_eq c))

theorem ldVMy_eq (m : Mem F) (c : Dev nD) : ∀ b h, ldVMy m c b h = ldAt m c (planeV b) h :=
  forall_head (ld_eq m _ c 2 0 (k0_off7_eq c)) (ld_eq m _ c 2 1 (k0_off9_eq c)) (ld_eq m _ c 2 2 (k0_off11_eq c)) (ld_eq m _ c 2 3 (k0_off13_eq c)) (ld_eq m _ c 3 0 (k0_off15_eq c)) (ld_eq m _ c 3 1 (k0_off17_eq c)) (ld_eq m _ c 3 2 (k0_off19_eq c)) (ld_eq m _ c 3 3 (k0_off21_eq c))

theorem ldKLf_eq (m : Mem F) (c : Dev nD) : ∀ b h, ldKLf m c b h = ldAt m (lft c) (planeK b) h :=
  forall_head (ld_eq m _ (lft c) 0 0 (k0_off23_eq c)) (ld_eq m _ (lft c) 0 1 (k0_off25_eq c)) (ld_eq m _ (lft c) 0 2 (k0_off27_eq c)) (ld_eq m _ (lft c) 0 3 (k0_off29_eq c)) (ld_eq m _ (lft c) 1 0 (k0_off31_eq c)) (ld_eq m _ (lft c) 1 1 (k0_off33_eq c)) (ld_eq m _ (lft c) 1 2 (k0_off35_eq c)) (ld_eq m _ (lft c) 1 3 (k0_off37_eq c))

theorem ldVLf_eq (m : Mem F) (c : Dev nD) : ∀ b h, ldVLf m c b h = ldAt m (lft c) (planeV b) h :=
  forall_head (ld_eq m _ (lft c) 2 0 (k0_off24_eq c)) (ld_eq m _ (lft c) 2 1 (k0_off26_eq c)) (ld_eq m _ (lft c) 2 2 (k0_off28_eq c)) (ld_eq m _ (lft c) 2 3 (k0_off30_eq c)) (ld_eq m _ (lft c) 3 0 (k0_off32_eq c)) (ld_eq m _ (lft c) 3 1 (k0_off34_eq c)) (ld_eq m _ (lft c) 3 2 (k0_off36_eq c)) (ld_eq m _ (lft c) 3 3 (k0_off38_eq c))

theorem ldKRt_eq (m : Mem F) (c : Dev nD) : ∀ b h, ldKRt m c b h = ldAt m (rgt c) (planeK b) h :=
  forall_head (ld_eq m _ (rgt c) 0 0 (k0_off40_eq c 0)) (ld_eq m _ (rgt c) 0 1 (k0_off42_eq c 0)) (ld_eq m _ (rgt c) 0 2 (k0_off44_eq c 0)) (ld_eq m _ (rgt c) 0 3 (k0_off46_eq c 0)) (ld_eq m _ (rgt c) 1 0 (k0_off48_eq c 0)) (ld_eq m _ (rgt c) 1 1 (k0_off50_eq c 0)) (ld_eq m _ (rgt c) 1 2 (k0_off52_eq c 0)) (ld_eq m _ (rgt c) 1 3 (k0_off54_eq c 0))

theorem ldVRt_eq (m : Mem F) (c : Dev nD) : ∀ b h, ldVRt m c b h = ldAt m (rgt c) (planeV b) h :=
  forall_head (ld_eq m _ (rgt c) 2 0 (k0_off41_eq c 0)) (ld_eq m _ (rgt c) 2 1 (k0_off43_eq c 0)) (ld_eq m _ (rgt c) 2 2 (k0_off45_eq c 0)) (ld_eq m _ (rgt c) 2 3 (k0_off47_eq c 0)) (ld_eq m _ (rgt c) 3 0 (k0_off49_eq c 0)) (ld_eq m _ (rgt c) 3 1 (k0_off51_eq c 0)) (ld_eq m _ (rgt c) 3 2 (k0_off53_eq c 0)) (ld_eq m _ (rgt c) 3 3 (k0_off55_eq c 0))

theorem ldKDg_eq (m : Mem F) (c : Dev nD) : ∀ b h, ldKDg m c b h = ldAt m (dia c) (planeK b) h :=
  forall_head (ld_eq m _ (dia c) 0 0 (k0_off40_eq c 1)) (ld_eq m _ (dia c) 0 1 (k0_off42_eq c 1)) (ld_eq m _ (dia c) 0 2 (k0_off44_eq c 1)) (ld_eq m _ (dia c) 0 3 (k0_off46_eq c 1)) (ld_eq m _ (dia c) 1 0 (k0_off48_eq c 1)) (ld_eq m _ (dia c) 1 1 (k0_off50_eq c 1)) (ld_eq m _ (dia c) 1 2 (k0_off52_eq c 1)) (ld_eq m _ (dia c) 1 3 (k0_off54_eq c 1))

theorem ldVDg_eq (m : Mem F) (c : Dev nD) : ∀ b h, ldVDg m c b h = ldAt m (dia c) (planeV b) h :=
  forall_head (ld_eq m _ (dia c) 2 0 (k0_off41_eq c 1)) (ld_eq m _ (dia c) 2 1 (k0_off43_eq c 1)) (ld_eq m _ (dia c) 2 2 (k0_off45_eq c 1)) (ld_eq m _ (dia c) 2 3 (k0_off47_eq c 1)) (ld_eq m _ (dia c) 3 0 (k0_off49_eq c 1)) (ld_eq m _ (dia c) 3 1 (k0_off51_eq c 1)) (ld_eq m _ (dia c) 3 2 (k0_off53_eq c 1)) (ld_eq m _ (dia c) 3 3 (k0_off55_eq c 1))

/-! ## The kernel's own values, step by step -/

/-- The three of each head after 1 block. -/
def tab1 (m : Mem F) (c : Dev nD) : Fin 2 → Fin 4 → Run F :=
  ![![⟨v226 m c, v235 m c, v239 m c⟩, ⟨v254 m c, v263 m c, v267 m c⟩, ⟨v282 m c, v291 m c, v295 m c⟩, ⟨v310 m c, v319 m c, v323 m c⟩], ![⟨v338 m c, v347 m c, v351 m c⟩, ⟨v366 m c, v375 m c, v379 m c⟩, ⟨v394 m c, v403 m c, v407 m c⟩, ⟨v422 m c, v431 m c, v435 m c⟩]]

/-- The three of each head after 2 blocks. -/
def tab2 (m : Mem F) (c : Dev nD) : Fin 2 → Fin 4 → Run F :=
  ![![⟨v466 m c, v475 m c, v479 m c⟩, ⟨v494 m c, v503 m c, v507 m c⟩, ⟨v522 m c, v531 m c, v535 m c⟩, ⟨v550 m c, v559 m c, v563 m c⟩], ![⟨v578 m c, v587 m c, v591 m c⟩, ⟨v606 m c, v615 m c, v619 m c⟩, ⟨v634 m c, v643 m c, v647 m c⟩, ⟨v662 m c, v671 m c, v675 m c⟩]]

/-- The three of each head after 3 blocks. -/
def tab3 (m : Mem F) (c : Dev nD) : Fin 2 → Fin 4 → Run F :=
  ![![⟨v706 m c, v715 m c, v719 m c⟩, ⟨v734 m c, v743 m c, v747 m c⟩, ⟨v762 m c, v771 m c, v775 m c⟩, ⟨v790 m c, v799 m c, v803 m c⟩], ![⟨v818 m c, v827 m c, v831 m c⟩, ⟨v846 m c, v855 m c, v859 m c⟩, ⟨v874 m c, v883 m c, v887 m c⟩, ⟨v902 m c, v911 m c, v915 m c⟩]]

theorem tab1_eq (m : Mem F) (c : Dev nD) : ∀ b h, tab1 m c b h = Run.step Run.init (qHead m c b h) (ldKMy m c b h) (ldVMy m c b h) :=
  forall_head rfl rfl rfl rfl rfl rfl rfl rfl

theorem tab2_eq (m : Mem F) (c : Dev nD) : ∀ b h, tab2 m c b h = Run.step (tab1 m c b h) (qHead m c b h) (ldKLf m c b h) (ldVLf m c b h) :=
  forall_head rfl rfl rfl rfl rfl rfl rfl rfl

theorem tab3_eq (m : Mem F) (c : Dev nD) : ∀ b h, tab3 m c b h = Run.step (tab2 m c b h) (qHead m c b h) (ldKRt m c b h) (ldVRt m c b h) :=
  forall_head rfl rfl rfl rfl rfl rfl rfl rfl

/-- The sums of each head after the last block. -/
def lastL (m : Mem F) (c : Dev nD) : Fin 2 → Fin 4 → FVec F S256x1 .f32 :=
  ![![v951 m c, v979 m c, v1007 m c, v1035 m c], ![v1063 m c, v1091 m c, v1119 m c, stepL (qHead m c 1 3) (ldKDg m c 1 3) (v902 m c) (v911 m c)]]

/-- The accumulators of each head after the last block. -/
def lastA (m : Mem F) (c : Dev nD) : Fin 2 → Fin 4 → FVec F S256x64 .f32 :=
  ![![v955 m c, v983 m c, v1011 m c, v1039 m c], ![v1067 m c, v1095 m c, v1123 m c, stepA (qHead m c 1 3) (ldKDg m c 1 3) (ldVDg m c 1 3) (v902 m c) (v915 m c)]]

theorem lastL_eq (m : Mem F) (c : Dev nD) : ∀ b h, lastL m c b h
    = (Run.step (tab3 m c b h) (qHead m c b h) (ldKDg m c b h) (ldVDg m c b h)).sm :=
  forall_head rfl rfl rfl rfl rfl rfl rfl rfl

theorem lastA_eq (m : Mem F) (c : Dev nD) : ∀ b h, lastA m c b h
    = (Run.step (tab3 m c b h) (qHead m c b h) (ldKDg m c b h) (ldVDg m c b h)).ac :=
  forall_head rfl rfl rfl rfl rfl rfl rfl rfl

/-- A head of batch `b` over all four blocks. -/
def headRun (m : Mem F) (c : Dev nD) (b : Fin 2) (h : Fin 4) : Run F :=
  (((Run.init.step (qHead m c b h) (ldAt m c (planeK b) h) (ldAt m c (planeV b) h)).step
    (qHead m c b h) (ldAt m (lft c) (planeK b) h) (ldAt m (lft c) (planeV b) h)).step
    (qHead m c b h) (ldAt m (rgt c) (planeK b) h) (ldAt m (rgt c) (planeV b) h)).step
    (qHead m c b h) (ldAt m (dia c) (planeK b) h) (ldAt m (dia c) (planeV b) h)

theorem lastL_run (m : Mem F) (c : Dev nD) (b : Fin 2) (h : Fin 4) : lastL m c b h = (headRun m c b h).sm := by
  rw [lastL_eq, tab3_eq, tab2_eq, tab1_eq, ldKMy_eq, ldVMy_eq, ldKLf_eq, ldVLf_eq, ldKRt_eq, ldVRt_eq, ldKDg_eq, ldVDg_eq]; rfl

theorem lastA_run (m : Mem F) (c : Dev nD) (b : Fin 2) (h : Fin 4) : lastA m c b h = (headRun m c b h).ac := by
  rw [lastA_eq, tab3_eq, tab2_eq, tab1_eq, ldKMy_eq, ldVMy_eq, ldKLf_eq, ldVLf_eq, ldKRt_eq, ldVRt_eq, ldKDg_eq, ldVDg_eq]; rfl

/-! ## The two planes -/

/-- The heads' accumulators over their sums, side by side. -/
def joined (a : Fin 4 → FVec F S256x64 .f32) (l : Fin 4 → FVec F S256x1 .f32) : FVec F S256x256 .f32 :=
  concatenate S256x256 1 [⟨S256x64, divf (a 0) (broadcastTo S256x64 (l 0) broadcasts_S256x1_S256x64)⟩, ⟨S256x64, divf (a 1) (broadcastTo S256x64 (l 1) broadcasts_S256x1_S256x64)⟩, ⟨S256x64, divf (a 2) (broadcastTo S256x64 (l 2) broadcasts_S256x1_S256x64)⟩, ⟨S256x64, divf (a 3) (broadcastTo S256x64 (l 3) broadcasts_S256x1_S256x64)⟩]
    concatenates_S256x64_S256x64_S256x64_S256x64_S256x256_d1

/-- The joined heads times `Wo`. -/
def projected (a : Fin 4 → FVec F S256x64 .f32) (l : Fin 4 → FVec F S256x1 .f32) (wo : Vec F S256x768 .f32) : FVec F S1x256x768 .f32 :=
  shapeCast S1x256x768 (matmul dot_S256x256_S256x768_S256x768_1_0_0_1_n_n none (joined a l)
    (shapeCast S256x768 wo shapeCasts_S256x768_S256x768) (constant S256x768 .f32 0x00000000#32)) shapeCasts_S256x768_S1x256x768

theorem oA_eq (m : Mem F) (c : Dev nD) : oA m c = projected (lastA m c 0) (lastL m c 0) (woW m c) := rfl

theorem oB_eq (m : Mem F) (c : Dev nD) : oB m c = projected (lastA m c 1) (lastL m c 1) (woW m c) := rfl

/-! ## The rotated projections -/

/-- A projection rotated by the tables. -/
def roped (t cs sn rot : FVec F S256x256 .f32) : FVec F S256x256 .f32 :=
  addf (mulf t cs) (mulf (matmul dot_S256x256_S256x256_S256x256_1_0_0_1_n_n none t rot (constant S256x256 .f32 0x00000000#32)) sn)

/-- A plane of `x` times a weight. -/
def times (x : Vec F S1x256x768 .f32) (w : Vec F S768x256 .f32) : FVec F S256x256 .f32 :=
  matmul dot_S256x768_S768x256_S256x256_1_0_0_1_n_n none (shapeCast S256x768 x shapeCasts_S1x256x768_S256x768)
    (shapeCast S768x256 w shapeCasts_S768x256_S768x256) (constant S256x256 .f32 0x00000000#32)

/-- A plane of device `c`'s block of `x`. -/
def xPlane (m : Mem F) (c : Dev nD) : Fin 2 → Vec F S1x256x768 .f32 := ![x0 m c, x1 m c]

/-- The queries of batch `b`. -/
def qFull (m : Mem F) (c : Dev nD) : Fin 2 → FVec F S256x256 .f32 := ![v199 m c, v208 m c]

theorem qFull_eq (m : Mem F) (c : Dev nD) (b : Fin 2) :
    qFull m c b = roped (times (xPlane m c b) (wqW m c)) (v72 m c) (v73 m c) (v126 m c) := by
  match b with
  | 0 => rfl
  | 1 => rfl

theorem kvBlk_key (m : Mem F) (c : Dev nD) (b : Fin 2) :
    kvBlk m c (planeK b) = shapeCast S1x256x256 (roped (times (xPlane m c b) (wkW m c)) (v72 m c) (v73 m c) (v126 m c)) shapeCasts_S256x256_S1x256x256 := by
  match b with
  | 0 => rfl
  | 1 => rfl

theorem kvBlk_val (m : Mem F) (c : Dev nD) (b : Fin 2) :
    kvBlk m c (planeV b) = shapeCast S1x256x256 (times (xPlane m c b) (wvW m c)) shapeCasts_S256x256_S1x256x256 := by
  match b with
  | 0 => rfl
  | 1 => rfl

/-- The result's staging buffer by batch. -/
theorem outAt_eq (m : Mem F) (c : Dev nD) (i : S2x256x768.Idx) :
    outAt m c i = projected (lastA m c (i 0)) (lastL m c (i 0)) (woW m c) (ix3 (0 : Fin 1) (i 1) (i 2)) := by
  have h : (i 0).val < 2 := (i 0).isLt
  show (if (i 0).val = 0 then oA m c (ix3 (0 : Fin 1) (i 1) (i 2)) else oB m c (ix3 (0 : Fin 1) (i 1) (i 2))) = _
  by_cases h0 : (i 0).val = 0
  · rw [if_pos h0, oA_eq, show i 0 = (0 : Fin 2) from Fin.ext h0]
  · rw [if_neg h0, oB_eq, show i 0 = (1 : Fin 2) from Fin.ext (by show (i 0).val = 1; omega)]

end Cert.RingAttn

end
-- ==== Proof.Spec.lean ====
/- The mathematics both programs compute, on plain functions of the batch, the position and the feature: the
   projections, the rotation of neighbouring features by the position's angle, the scaled scores of one head, and the
   attention output. Every input is an extended real; the scores are reals once the inputs of the scores are. -/
module

public import Idealize.ShloMosaic.Lib.ValueIdx
public import Idealize.ShloMosaic.PureOps.Ideal.Laws

@[expose] public section

noncomputable section

namespace Cert.RingAttn

open Idealize.ShloMosaic

/-! ## Angles -/

/-- The turning rate of the `p`-th pair of features of a head. -/
def freq (p : ℕ) : ℝ := Real.exp (-(Real.log 10000) * (2 * p / 64))

/-- The rate as the reciprocal of a power of ten thousand. -/
theorem freq_eq (p : ℕ) : 1 / ((10000 : ℝ) ^ ((2 * p / 64 : ℝ))) = freq p := by
  rw [freq, Real.rpow_def_of_pos (by norm_num), one_div, ← Real.exp_neg, neg_mul]

/-- The angle at position `j` of the pair that feature `f` of the 256 lies in. -/
def ang (j f : ℕ) : ℝ := j * freq (f % 64 / 2)

/-! ## Projection and rotation -/

/-- Feature `64h + d`: the `d`-th of head `h`. -/
def col (h : Fin 4) (d : Fin 64) : Fin 256 := ⟨64 * h.val + d.val, by omega⟩

/-- The other feature of a feature's pair. -/
def mate (f : Fin 256) : Fin 256 := if h : f.val % 2 = 0 then ⟨f.val + 1, by omega⟩ else ⟨f.val - 1, by omega⟩

theorem mate_val (f : Fin 256) : (mate f).val = if f.val % 2 = 0 then f.val + 1 else f.val - 1 := by
  unfold mate; split <;> rfl

/-- The quarter turn of every pair: `(a, b)` to `(-b, a)`. -/
def turn (t : Fin 256 → EReal) (f : Fin 256) : EReal := if f.val % 2 = 0 then -t (mate f) else t (mate f)

/-- The features `t` of position `j` with every pair turned by its angle. -/
def rope (t : Fin 256 → EReal) (j : ℕ) (f : Fin 256) : EReal :=
  t f * ((Real.cos (ang j f) : ℝ) : EReal) + turn t f * ((Real.sin (ang j f) : ℝ) : EReal)

/-- The sequence `x` times the weights `w`, at batch `b` and position `j`. -/
def proj (x : Fin 2 → Fin 1024 → Fin 768 → EReal) (w : Fin 768 → Fin 256 → EReal) (b : Fin 2) (j : Fin 1024)
    (f : Fin 256) : EReal :=
  ∑ e, x b j e * w e f

/-- The projection with its pairs turned by the position. -/
def turned (x : Fin 2 → Fin 1024 → Fin 768 → EReal) (w : Fin 768 → Fin 256 → EReal) (b : Fin 2) (j : Fin 1024)
    (f : Fin 256) : EReal :=
  rope (proj x w b j) j f

/-- The scale of the scores, one eighth, as the programs spell it. -/
def eighth : EReal := Ideal.ofBits .f32 0x3E000000#32

/-- The scaled score of query position `i` against key position `j` in head `h`. -/
def scoreOf (q k : Fin 2 → Fin 1024 → Fin 256 → EReal) (b : Fin 2) (h : Fin 4) (i j : Fin 1024) : EReal :=
  (∑ d : Fin 64, q b i (col h d) * k b j (col h d)) * eighth

/-! ## Real values -/

theorem eighth_real : eighth = ((1 / 8 : ℝ) : EReal) := by
  unfold eighth
  simp [Ideal.ofBits, Ideal.ieee, -EReal.coe_mul]
  norm_num

/-- A sum of products of reals is a real. -/
theorem sum_mul_real {ι : Type*} [Fintype ι] {a b : ι → EReal} (ha : ∀ i, ∃ r : ℝ, a i = r) (hb : ∀ i, ∃ r : ℝ, b i = r) :
    ∃ r : ℝ, ∑ i, a i * b i = r := by
  choose f hf using ha
  choose g hg using hb
  refine ⟨∑ i, f i * g i, ?_⟩
  have hs : ∀ s : Finset ι, ∑ i ∈ s, a i * b i = ((∑ i ∈ s, f i * g i : ℝ) : EReal) := by
    intro s
    induction s using Finset.cons_induction with
    | empty => simp
    | cons i s hi ih => rw [Finset.sum_cons, Finset.sum_cons, ih, hf, hg, EReal.coe_add, EReal.coe_mul]
  exact hs Finset.univ

theorem rope_real {t : Fin 256 → EReal} (ht : ∀ f, ∃ r : ℝ, t f = r) (j : ℕ) (f : Fin 256) : ∃ r : ℝ, rope t j f = r := by
  obtain ⟨a, ha⟩ := ht f
  obtain ⟨b, hb⟩ := ht (mate f)
  unfold rope turn
  rw [ha, hb]
  split
  · exact ⟨a * Real.cos (ang j f) + -b * Real.sin (ang j f), by push_cast; rfl⟩
  · exact ⟨a * Real.cos (ang j f) + b * Real.sin (ang j f), by push_cast; rfl⟩

theorem turned_real {x : Fin 2 → Fin 1024 → Fin 768 → EReal} {w : Fin 768 → Fin 256 → EReal}
    (hx : ∀ b j e, ∃ r : ℝ, x b j e = r) (hw : ∀ e f, ∃ r : ℝ, w e f = r) (b : Fin 2) (j : Fin 1024) (f : Fin 256) :
    ∃ r : ℝ, turned x w b j f = r :=
  rope_real (fun f => sum_mul_real (hx b j) fun e => hw e f) _ _

theorem scoreOf_real {q k : Fin 2 → Fin 1024 → Fin 256 → EReal} (hq : ∀ b i f, ∃ r : ℝ, q b i f = r)
    (hk : ∀ b i f, ∃ r : ℝ, k b i f = r) (b : Fin 2) (h : Fin 4) (i j : Fin 1024) : ∃ r : ℝ, scoreOf q k b h i j = r := by
  obtain ⟨r, hr⟩ := sum_mul_real (fun d => hq b i (col h d)) (fun d => hk b j (col h d))
  exact ⟨r * (1 / 8), by unfold scoreOf; rw [hr, eighth_real, EReal.coe_mul]⟩

/-! ## The output -/

/-- The attention output at batch `b`, position `i` and model feature `e`, from head averages `y`. -/
def outOf (y : Fin 4 → Fin 64 → EReal) (wo : Fin 256 → Fin 768 → EReal) (e : Fin 768) : EReal :=
  ∑ f : Fin 256, y ⟨f.val / 64, by omega⟩ ⟨f.val % 64, by omega⟩ * wo f e

end Cert.RingAttn
-- ==== Proof.RefRope.lean ====
/- The reference's angles, projections and rotations, read at an index. -/
module

public import proofs.«01_k».proof.Proof.Gen.ReferenceIdeal.Read
public import proofs.«01_k».proof.Proof.Spec

@[expose] public section

noncomputable section

namespace Cert.RingAttn

open Cert.ReferenceIdeal Cert.ReferenceIdeal.Gen Cert.ReferenceIdeal.Read
open Idealize.ShloMosaic Idealize.ShloMosaic.ValueIdx

/-- The sequence as a function of batch, position and feature. -/
abbrev seqOf (x : S2x1024x768.Idx → EReal) : Fin 2 → Fin 1024 → Fin 768 → EReal := fun b j e => x (ix3 b j e)

/-- Weights as a function of row and column. -/
abbrev matOf {m n : ℕ} (w : (⟨2, ![m, n]⟩ : Shape).Idx → EReal) : Fin m → Fin n → EReal := fun e f => w (ix2 e f)

/-! ## The angles -/

theorem ofBits_64 : Ideal.ofBits .f32 0x42800000#32 = ((64 : ℝ) : EReal) := by
  simp [Ideal.ofBits, Ideal.ieee, -EReal.coe_mul]; norm_num

theorem ofBits_10000 : Ideal.ofBits .f32 0x461C4000#32 = ((10000 : ℝ) : EReal) := by
  simp [Ideal.ofBits, Ideal.ieee, -EReal.coe_mul]; norm_num

theorem ofBits_1 : Ideal.ofBits .f32 0x3F800000#32 = ((1 : ℝ) : EReal) := by
  simp [Ideal.ofBits, Ideal.ieee, -EReal.coe_mul]; norm_num

/-- Division of reals off zero. -/
theorem div_real (a : ℝ) {b : ℝ} (hb : b ≠ 0) : Ideal.div (a : EReal) (b : EReal) = ((a / b : ℝ) : EReal) := by
  rw [Ideal.div, if_neg (by exact_mod_cast hb), ← EReal.coe_inv, ← EReal.coe_mul, div_eq_mul_inv]

theorem exponent_at : ∀ p : Fin 32, (IntOp.addi 0#32 (IntOp.muli 2#32 (BitVec.ofNat 32 p.val))).toInt = 2 * (p.val : ℤ) := by
  decide

/-- The reciprocal rates. -/
theorem ref_rate (p : Fin 32) : val_main_v11 (F := Ideal) (ix1 p) = ((freq p : ℝ) : EReal) := by
  have h5 : val_main_v5 (F := Ideal) (ix1 p) = ((2 * (p.val : ℝ) : ℝ) : EReal) := by
    rw [val_main_v5_apply]
    show (((val_main_v4 (F := Ideal) (ix1 p)).toInt : ℝ) : EReal) = _
    rw [val_main_v4_apply, val_main_v3_apply, val_main_c_0_apply, val_main_v2_apply, val_main_v1_apply, val_main_c_apply,
      val_main_v0_apply]
    show (((IntOp.addi 0#32 (IntOp.muli 2#32 (BitVec.ofNat 32 p.val))).toInt : ℝ) : EReal) = _
    rw [exponent_at]; push_cast; rfl
  rw [val_main_v11_apply, val_main_v10_apply, val_main_cst_2_apply, val_main_v9_apply, val_main_v8_apply,
    val_main_cst_1_apply, val_main_v7_apply, val_main_v6_apply, val_main_cst_apply, h5]
  show Ideal.div (Ideal.ofBits .f32 0x3F800000#32)
    (Ideal.pow (Ideal.ofBits .f32 0x461C4000#32) (Ideal.div ((2 * (p.val : ℝ) : ℝ) : EReal) (Ideal.ofBits .f32 0x42800000#32))) = _
  rw [ofBits_64, ofBits_10000, ofBits_1, div_real _ (by norm_num)]
  show Ideal.div _ ((Real.rpow 10000 (2 * (p.val : ℝ) / 64) : ℝ) : EReal) = _
  rw [div_real _ (by exact (Real.rpow_pos_of_pos (by norm_num) _).ne')]
  exact congrArg _ (freq_eq p)

theorem row_at (j : Fin 1024) : (BitVec.ofNat 32 j.val).toInt = (j.val : ℤ) := by
  rw [BitVec.toInt_eq_toNat_of_lt] <;> rw [BitVec.toNat_ofNat] <;> omega

/-- The angle of pair `p` at position `j`. -/
theorem ref_angle (j : Fin 1024) (p : Fin 32) :
    val_main_v18 (F := Ideal) (ix2 j p) = ((j.val * freq p : ℝ) : EReal) := by
  have h16 : val_main_v16 (F := Ideal) (ix2 j p) = ((j.val : ℝ) : EReal) := by
    rw [val_main_v16_apply, val_main_v15_apply, val_main_v13_apply, val_main_v12_apply]
    show (((BitVec.ofNat 32 j.val).toInt : ℝ) : EReal) = _
    rw [row_at]; push_cast; rfl
  have h17 : val_main_v17 (F := Ideal) (ix2 j p) = ((freq p : ℝ) : EReal) := by
    rw [val_main_v17_apply, val_main_v14_apply, ← ref_rate]
    exact congrArg _ (funext fun a => match a with | ⟨0, _⟩ => rfl)
  rw [val_main_v18_apply, h16, h17, EReal.coe_mul]; rfl

theorem ang_col (j : ℕ) (h : Fin 4) (d : Fin 64) : ang j (col h d) = j * freq (d.val / 2) := by
  unfold ang
  rw [show (col h d).val % 64 / 2 = d.val / 2 by show (64 * h.val + d.val) % 64 / 2 = _; omega]

theorem ref_cos (j : Fin 1024) (h : Fin 4) (d : Fin 64) :
    val_main_v21 (F := Ideal) (ix2 j d) = ((Real.cos (ang j (col h d)) : ℝ) : EReal) := by
  have e : idx_main_v20 (idx_main_v21 (ix2 j d)) = ix2 j ⟨d.val / 2, by omega⟩ := funext fun a => Fin.ext (match a with
    | ⟨0, _⟩ => by show (j.val * 64 + d.val) / 64 = j.val; omega
    | ⟨1, _⟩ => by show (j.val * 64 + d.val) / 2 % 32 = d.val / 2; omega)
  rw [val_main_v21_apply, val_main_v20_apply, e, val_main_v19_apply, ref_angle, ang_col]
  rfl

theorem ref_sin (j : Fin 1024) (h : Fin 4) (d : Fin 64) :
    val_main_v24 (F := Ideal) (ix2 j d) = ((Real.sin (ang j (col h d)) : ℝ) : EReal) := by
  have e : idx_main_v23 (idx_main_v24 (ix2 j d)) = ix2 j ⟨d.val / 2, by omega⟩ := funext fun a => Fin.ext (match a with
    | ⟨0, _⟩ => by show (j.val * 64 + d.val) / 64 = j.val; omega
    | ⟨1, _⟩ => by show (j.val * 64 + d.val) / 2 % 32 = d.val / 2; omega)
  rw [val_main_v24_apply, val_main_v23_apply, e, val_main_v22_apply, ref_angle, ang_col]
  rfl

/-! ## The projections -/

variable (x : S2x1024x768.Idx → EReal) (w : S768x256.Idx → EReal)

theorem ref_proj (b : Fin 2) (j : Fin 1024) (f : Fin 256) :
    val_main_v25 (F := Ideal) x w (ix3 b j f) = proj (seqOf x) (matOf w) b j f := by
  rw [val_main_v25_apply]
  refine Finset.sum_congr rfl fun e _ => congrArg₂ (· * ·) (congrArg x ?_) (congrArg w ?_)
  · exact funext fun a => match a with | ⟨0, _⟩ => rfl | ⟨1, _⟩ => rfl | ⟨2, _⟩ => rfl
  · exact funext fun a => match a with | ⟨0, _⟩ => rfl | ⟨1, _⟩ => rfl

theorem ref_heads (b : Fin 2) (j : Fin 1024) (h : Fin 4) (d : Fin 64) :
    val_main_v26 (F := Ideal) x w (ix4 b j h d) = proj (seqOf x) (matOf w) b j (col h d) := by
  rw [val_main_v26_apply, ← ref_proj]
  refine congrArg _ (funext fun a => Fin.ext (match a with
    | ⟨0, _⟩ => by show (((b.val * 1024 + j.val) * 4 + h.val) * 64 + d.val) / 262144 = b.val; omega
    | ⟨1, _⟩ => by show (((b.val * 1024 + j.val) * 4 + h.val) * 64 + d.val) / 256 % 1024 = j.val; omega
    | ⟨2, _⟩ => by show (((b.val * 1024 + j.val) * 4 + h.val) * 64 + d.val) % 256 = 64 * h.val + d.val; omega))

/-- The pairs: component `u` of pair `p` of a head is its feature `2p + u`. -/
theorem ref_pairs (b : Fin 2) (j : Fin 1024) (h : Fin 4) (p : Fin 32) (u : Fin 2) :
    val_main_v27 (F := Ideal) x w (ix5 b j h p u) = proj (seqOf x) (matOf w) b j (col h ⟨2 * p.val + u.val, by omega⟩) := by
  rw [val_main_v27_apply, ← ref_heads]
  refine congrArg _ (funext fun a => Fin.ext (match a with
    | ⟨0, _⟩ => by show ((((b.val * 1024 + j.val) * 4 + h.val) * 32 + p.val) * 2 + u.val) / 262144 = b.val; omega
    | ⟨1, _⟩ => by show ((((b.val * 1024 + j.val) * 4 + h.val) * 32 + p.val) * 2 + u.val) / 256 % 1024 = j.val; omega
    | ⟨2, _⟩ => by show ((((b.val * 1024 + j.val) * 4 + h.val) * 32 + p.val) * 2 + u.val) / 64 % 4 = h.val; omega
    | ⟨3, _⟩ => by show ((((b.val * 1024 + j.val) * 4 + h.val) * 32 + p.val) * 2 + u.val) % 64 = 2 * p.val + u.val; omega))

/-- The first component of a turned pair: minus the second. -/
theorem ref_first (b : Fin 2) (j : Fin 1024) (h : Fin 4) (p : Fin 32) :
    val_main_v33 (F := Ideal) x w (ix5 b j h p 0) = -proj (seqOf x) (matOf w) b j (col h ⟨2 * p.val + 1, by omega⟩) := by
  rw [val_main_v33_apply, val_main_v30_apply, val_main_v29_apply, val_main_v28_apply]
  show -(_ : EReal) = _
  rw [show (⟨2 * p.val + 1, by omega⟩ : Fin 64) = ⟨2 * p.val + (1 : Fin 2).val, by omega⟩ from rfl, ← ref_pairs]
  refine congrArg (fun i => -val_main_v27 (F := Ideal) x w i) (funext fun a => Fin.ext (match a with
    | ⟨0, _⟩ => by show (((b.val * 1024 + j.val) * 4 + h.val) * 32 + p.val) / 131072 = b.val; omega
    | ⟨1, _⟩ => by show (((b.val * 1024 + j.val) * 4 + h.val) * 32 + p.val) / 128 % 1024 = j.val; omega
    | ⟨2, _⟩ => by show (((b.val * 1024 + j.val) * 4 + h.val) * 32 + p.val) / 32 % 4 = h.val; omega
    | ⟨3, _⟩ => by show (((b.val * 1024 + j.val) * 4 + h.val) * 32 + p.val) / 1 % 32 = p.val; omega
    | ⟨4, _⟩ => rfl))

/-- The second component of a turned pair: the first. -/
theorem ref_second (b : Fin 2) (j : Fin 1024) (h : Fin 4) (p : Fin 32) :
    val_main_v34 (F := Ideal) x w (ix5 b j h p 0) = proj (seqOf x) (matOf w) b j (col h ⟨2 * p.val, by omega⟩) := by
  rw [val_main_v34_apply, val_main_v32_apply, val_main_v31_apply,
    show (⟨2 * p.val, by omega⟩ : Fin 64) = ⟨2 * p.val + (0 : Fin 2).val, by omega⟩ from rfl, ← ref_pairs]
  refine congrArg _ (funext fun a => Fin.ext (match a with
    | ⟨0, _⟩ => by show (((b.val * 1024 + j.val) * 4 + h.val) * 32 + p.val) / 131072 = b.val; omega
    | ⟨1, _⟩ => by show (((b.val * 1024 + j.val) * 4 + h.val) * 32 + p.val) / 128 % 1024 = j.val; omega
    | ⟨2, _⟩ => by show (((b.val * 1024 + j.val) * 4 + h.val) * 32 + p.val) / 32 % 4 = h.val; omega
    | ⟨3, _⟩ => by show (((b.val * 1024 + j.val) * 4 + h.val) * 32 + p.val) / 1 % 32 = p.val; omega
    | ⟨4, _⟩ => rfl))

/-- Every pair a quarter turn on. -/
theorem ref_turn (b : Fin 2) (j : Fin 1024) (h : Fin 4) (d : Fin 64) :
    val_main_v36 (F := Ideal) x w (ix4 b j h d) = turn (proj (seqOf x) (matOf w) b j) (col h d) := by
  have e : idx_main_v36 (ix4 b j h d) = ix5 b j h ⟨d.val / 2, by omega⟩ ⟨d.val % 2, by omega⟩ :=
    funext fun a => Fin.ext (match a with
      | ⟨0, _⟩ => by show (((b.val * 1024 + j.val) * 4 + h.val) * 64 + d.val) / 262144 = b.val; omega
      | ⟨1, _⟩ => by show (((b.val * 1024 + j.val) * 4 + h.val) * 64 + d.val) / 256 % 1024 = j.val; omega
      | ⟨2, _⟩ => by show (((b.val * 1024 + j.val) * 4 + h.val) * 64 + d.val) / 64 % 4 = h.val; omega
      | ⟨3, _⟩ => by show (((b.val * 1024 + j.val) * 4 + h.val) * 64 + d.val) / 2 % 32 = d.val / 2; omega
      | ⟨4, _⟩ => by show (((b.val * 1024 + j.val) * 4 + h.val) * 64 + d.val) % 2 = d.val % 2; omega)
  rw [val_main_v36_apply, e]
  unfold val_main_v35 turn
  have hm : (col h d).val = 64 * h.val + d.val := rfl
  by_cases hd : d.val % 2 = 0
  · rw [if_pos (by omega)]
    refine (concatenate_pair_apply_left (t := S2x1024x4x32x2) (s₁ := S2x1024x4x32x1) (s₂ := S2x1024x4x32x1) 4 _ _ _ _ rfl (ix5 b j h ⟨d.val / 2, by omega⟩ 0) fun a => ?_).trans ?_
    · match a with
      | ⟨0, _⟩ => rfl
      | ⟨1, _⟩ => rfl
      | ⟨2, _⟩ => rfl
      | ⟨3, _⟩ => rfl
      | ⟨4, _⟩ => exact hd.symm
    · rw [ref_first]
      refine congrArg (fun f => -proj (seqOf x) (matOf w) b j f) (Fin.ext ?_)
      rw [mate_val, if_pos (by omega)]
      show 64 * h.val + (2 * (d.val / 2) + 1) = _
      omega
  · rw [if_neg (by omega)]
    refine (concatenate_pair_apply_right (t := S2x1024x4x32x2) (s₁ := S2x1024x4x32x1) (s₂ := S2x1024x4x32x1) 4 _ _ _ _ rfl rfl (ix5 b j h ⟨d.val / 2, by omega⟩ 0) (fun a => ?_) ?_).trans ?_
    · match a with
      | ⟨0, _⟩ => exact fun _ => rfl
      | ⟨1, _⟩ => exact fun _ => rfl
      | ⟨2, _⟩ => exact fun _ => rfl
      | ⟨3, _⟩ => exact fun _ => rfl
      | ⟨4, _⟩ => exact fun hn => absurd rfl hn
    · show 0 + 1 = d.val % 2; omega
    · rw [ref_second]
      refine congrArg (proj (seqOf x) (matOf w) b j) (Fin.ext ?_)
      rw [mate_val, if_neg (by omega)]
      show 64 * h.val + 2 * (d.val / 2) = _
      omega

/-- The queries: the projection with its pairs turned. -/
theorem ref_turned (b : Fin 2) (j : Fin 1024) (h : Fin 4) (d : Fin 64) :
    val_main_v43 (F := Ideal) x w (ix4 b j h d) = turned (seqOf x) (matOf w) b j (col h d) := by
  rw [val_main_v43_apply, val_main_v39_apply, val_main_v42_apply, val_main_v38_apply, val_main_v37_apply,
    val_main_v41_apply, val_main_v40_apply, ref_heads, ref_turn]
  have e1 : idx_main_v37 (idx_main_v38 (ix4 b j h d)) = ix2 j d := funext fun a => match a with | ⟨0, _⟩ => rfl | ⟨1, _⟩ => rfl
  have e2 : idx_main_v40 (idx_main_v41 (ix4 b j h d)) = ix2 j d := funext fun a => match a with | ⟨0, _⟩ => rfl | ⟨1, _⟩ => rfl
  rw [e1, e2, ref_cos j h d, ref_sin j h d]
  rfl

/-- The keys are computed as the queries are. -/
theorem ref_keys : val_main_v62 (F := Ideal) x w = val_main_v43 (F := Ideal) x w := rfl

/-- The values are the projection, split into heads. -/
theorem ref_values : val_main_v64 (F := Ideal) x w = val_main_v26 (F := Ideal) x w := rfl

end Cert.RingAttn
-- ==== Proof.KernelTables.lean ====
/- The kernel's tables of angles and its quarter-turn matrix, read at an index over the extended reals. -/
module

public import proofs.«01_k».proof.Proof.Tables
public import proofs.«01_k».proof.Proof.RefRope

@[expose] public section

set_option maxRecDepth 16384

noncomputable section

namespace Cert.RingAttn

open Cert.KernelIdeal Cert.KernelIdeal.Gen
open Idealize.ShloMosaic hiding ix1 ix2 ix3 ix4 ix5
open Idealize.ShloMosaic.ValueIdx Idealize.ShloMosaic.TcCoe

/-! ## The integer chains -/

/-- The remainder with the divisor's sign, as the kernel spells it. -/
def modWord (n d : BitVec 32) : BitVec 32 :=
  Scalar.select (IntOp.andi (IntOp.xori (IntOp.cmpi .slt (IntOp.remsi .vector n d) 0#32) (IntOp.cmpi .slt d 0#32))
      (IntOp.cmpi .ne (IntOp.remsi .vector n d) 0#32))
    (IntOp.addi (IntOp.remsi .vector n d) d) (IntOp.remsi .vector n d)

/-- The quotient by two rounded down, as the kernel spells it. -/
def halfWord (n : BitVec 32) : BitVec 32 :=
  Scalar.select (IntOp.andi
      (IntOp.cmpi .ne (IntOp.subi ((IntOp.cmpi .sgt n 0#32).setWidth 32) ((IntOp.cmpi .slt n 0#32).setWidth 32))
        (Scalar.subi (Scalar.extui (Scalar.cmpi .sgt 2#32 0#32)) (Scalar.extui (Scalar.cmpi .slt 2#32 0#32))))
      (IntOp.cmpi .ne (IntOp.remsi .vector n 2#32) 0#32))
    (IntOp.subi (IntOp.divsi .vector n 2#32) 1#32) (IntOp.divsi .vector n 2#32)

theorem exponent_word : ∀ f : Fin 256, (IntOp.muli 2#32 (halfWord (modWord (BitVec.ofNat 32 f.val) 64#32))).toInt
    = ((2 * (f.val % 64 / 2) : ℕ) : ℤ) := by decide

theorem parity_word : ∀ k : Fin 256, modWord (BitVec.ofNat 32 k.val) 2#32 = if k.val % 2 = 0 then 0#32 else 1#32 := by decide

theorem device_word : ∀ c : Dev nD, Scalar.muli (Scalar.remsi (Scalar.divsi (Dev.word c) 1#32) 4#32) 256#32
    = BitVec.ofNat 32 (256 * c.val) := by decide

theorem iota_row (r f : Fin 256) :
    iota .tc S256x256 32 [0] iota_S256x256_d0_w32 (ix2 r f) = BitVec.ofNat 32 r.val := iota_single_apply _ _ _ _ _ _

theorem iota_col (r f : Fin 256) :
    iota .tc S256x256 32 [1] iota_S256x256_d1_w32 (ix2 r f) = BitVec.ofNat 32 f.val := iota_single_apply _ _ _ _ _ _

/-! ## The angles -/

/-- Position `r` of device `c`'s rows, in the sequence. -/
def pos (c : Dev nD) (r : Fin 256) : Fin 1024 := ⟨256 * c.val + r.val, by have : c.val < 4 := c.isLt; omega⟩

variable (m : Mem Ideal) (c : Dev nD)

theorem position_at (r f : Fin 256) : v19 m c (ix2 r f) = (((pos c r).val : ℝ) : EReal) := by
  show (((IntOp.addi (iota .tc S256x256 32 [0] iota_S256x256_d0_w32 (ix2 r f))
    (Scalar.muli (Scalar.remsi (Scalar.divsi (Dev.word c) 1#32) 4#32) 256#32)).toInt : ℝ) : EReal) = _
  rw [iota_row, device_word]
  show (((BitVec.ofNat 32 r.val + BitVec.ofNat 32 (256 * c.val)).toInt : ℝ) : EReal) = _
  rw [← BitVec.ofNat_add, show r.val + 256 * c.val = (pos c r).val from Nat.add_comm _ _, row_at]
  push_cast; rfl

theorem exponent_at_col (r f : Fin 256) :
    k0_pay6 (v19 m c) (v22 m c) (v24 m c) (v26 m c) (v28 m c) (v31 m c) (ix2 r f)
      = v19 m c (ix2 r f) * Ideal.exp ((Ideal.ofBits .f32 0x00000000#32 - Ideal.log (Ideal.ofBits .f32 0x461C4000#32))
        * Ideal.div (((IntOp.muli 2#32 (halfWord (modWord (iota .tc S256x256 32 [1] iota_S256x256_d1_w32 (ix2 r f)) 64#32))).toInt : ℝ) : EReal)
          (Ideal.ofBits .f32 0x42800000#32)) := rfl

theorem angle_at (r f : Fin 256) :
    k0_pay6 (v19 m c) (v22 m c) (v24 m c) (v26 m c) (v28 m c) (v31 m c) (ix2 r f) = ((ang (pos c r) f : ℝ) : EReal) := by
  rw [exponent_at_col, iota_col, exponent_word, position_at, ofBits_10000, ofBits_64, Ideal.ofBits_zero_f32,
    div_real _ (by norm_num)]
  have hl : Ideal.log ((10000 : ℝ) : EReal) = ((Real.log 10000 : ℝ) : EReal) := by
    show (if (10000 : ℝ) ≤ 0 then _ else _) = _
    rw [if_neg (by norm_num)]
  rw [hl, zero_sub, ← EReal.coe_neg, ← EReal.coe_mul]
  show _ * ((Real.exp _ : ℝ) : EReal) = _
  rw [← EReal.coe_mul, ang, freq]
  push_cast
  rfl

theorem cos_at (r f : Fin 256) : v72 m c (ix2 r f) = ((Real.cos (ang (pos c r) f) : ℝ) : EReal) := by
  show Ideal.cos (k0_pay6 (v19 m c) (v22 m c) (v24 m c) (v26 m c) (v28 m c) (v31 m c) (ix2 r f)) = _
  rw [angle_at]; rfl

theorem sin_at (r f : Fin 256) : v73 m c (ix2 r f) = ((Real.sin (ang (pos c r) f) : ℝ) : EReal) := by
  show Ideal.sin (k0_pay6 (v19 m c) (v22 m c) (v24 m c) (v26 m c) (v28 m c) (v31 m c) (ix2 r f)) = _
  rw [angle_at]; rfl

/-! ## The quarter-turn matrix -/

theorem ofBits_neg_1 : Ideal.ofBits .f32 0xBF800000#32 = ((-1 : ℝ) : EReal) := by
  simp [Ideal.ofBits, Ideal.ieee, -EReal.coe_mul]; norm_num

theorem turn_spelt (k f : Fin 256) : v126 m c (ix2 k f)
    = Scalar.select (IntOp.andi (IntOp.cmpi .eq (modWord (iota .tc S256x256 32 [0] iota_S256x256_d0_w32 (ix2 k f)) 2#32) 0#32)
          (IntOp.cmpi .eq (iota .tc S256x256 32 [1] iota_S256x256_d1_w32 (ix2 k f))
            (IntOp.addi (iota .tc S256x256 32 [0] iota_S256x256_d0_w32 (ix2 k f)) 1#32)))
        (Ideal.ofBits .f32 0x3F800000#32) (Ideal.ofBits .f32 0x00000000#32)
      + Scalar.select (IntOp.andi (IntOp.cmpi .eq (modWord (iota .tc S256x256 32 [0] iota_S256x256_d0_w32 (ix2 k f)) 2#32) 1#32)
          (IntOp.cmpi .eq (iota .tc S256x256 32 [1] iota_S256x256_d1_w32 (ix2 k f))
            (IntOp.subi (iota .tc S256x256 32 [0] iota_S256x256_d0_w32 (ix2 k f)) 1#32)))
        (Ideal.ofBits .f32 0xBF800000#32) (Ideal.ofBits .f32 0x00000000#32) := rfl

theorem next_word (k f : Fin 256) :
    IntOp.cmpi .eq (BitVec.ofNat 32 f.val) (IntOp.addi (BitVec.ofNat 32 k.val) 1#32) = if f.val = k.val + 1 then 1#1 else 0#1 := by
  have e : BitVec.ofNat 32 f.val = BitVec.ofNat 32 k.val + 1#32 ↔ f.val = k.val + 1 := by
    rw [← BitVec.toNat_inj, BitVec.toNat_add, BitVec.toNat_ofNat, BitVec.toNat_ofNat, BitVec.toNat_ofNat]
    have := f.isLt; have := k.isLt; omega
  show BitVec.ofBool (BitVec.ofNat 32 f.val == BitVec.ofNat 32 k.val + 1#32) = _
  by_cases h : f.val = k.val + 1
  · rw [if_pos h, beq_iff_eq.mpr (e.mpr h)]; rfl
  · rw [if_neg h, beq_eq_false_iff_ne.mpr (fun h' => h (e.mp h'))]; rfl

theorem prev_word (k f : Fin 256) :
    IntOp.cmpi .eq (BitVec.ofNat 32 f.val) (IntOp.subi (BitVec.ofNat 32 k.val) 1#32) = if f.val + 1 = k.val then 1#1 else 0#1 := by
  have e : BitVec.ofNat 32 f.val = BitVec.ofNat 32 k.val - 1#32 ↔ f.val + 1 = k.val := by
    rw [← BitVec.toNat_inj, BitVec.toNat_sub, BitVec.toNat_ofNat, BitVec.toNat_ofNat, BitVec.toNat_ofNat]
    have := f.isLt; have := k.isLt; omega
  show BitVec.ofBool (BitVec.ofNat 32 f.val == BitVec.ofNat 32 k.val - 1#32) = _
  by_cases h : f.val + 1 = k.val
  · rw [if_pos h, beq_iff_eq.mpr (e.mpr h)]; rfl
  · rw [if_neg h, beq_eq_false_iff_ne.mpr (fun h' => h (e.mp h'))]; rfl

/-- Column `f` of the matrix holds one entry, in the row of the pair's other feature: minus one for an even feature,
    one for an odd. -/
theorem turn_at (k f : Fin 256) : v126 m c (ix2 k f) = if k = mate f then (if f.val % 2 = 0 then -1 else 1) else 0 := by
  rw [turn_spelt, iota_row, iota_col, parity_word, next_word, prev_word, ofBits_1, ofBits_neg_1, Ideal.ofBits_zero_f32]
  have hm := mate_val f
  have hk := k.isLt
  have hf := f.isLt
  have hkm : k = mate f ↔ k.val = (mate f).val := Fin.ext_iff
  by_cases h : k = mate f
  · rw [if_pos h]
    have hv := hkm.mp h
    by_cases hp : f.val % 2 = 0
    · rw [if_pos hp] at hm ⊢
      rw [if_neg (by omega), if_neg (by omega), if_pos (by omega)]
      show (0 : EReal) + ((-1 : ℝ) : EReal) = -1
      rw [zero_add]; rfl
    · rw [if_neg hp] at hm ⊢
      rw [if_pos (by omega), if_pos (by omega), if_neg (by omega)]
      show ((1 : ℝ) : EReal) + 0 = 1
      rw [add_zero]; rfl
  · rw [if_neg h]
    have hv : k.val ≠ (mate f).val := fun e => h (hkm.mpr e)
    by_cases hp : k.val % 2 = 0
    · have : ¬ f.val = k.val + 1 := fun e => by rw [if_neg (by omega)] at hm; omega
      rw [if_pos hp, if_neg this]
      by_cases hq : f.val + 1 = k.val
      · rw [if_pos hq]
        show (0 : EReal) + 0 = 0
        rw [add_zero]
      · rw [if_neg hq]
        show (0 : EReal) + 0 = 0
        rw [add_zero]
    · have : ¬ f.val + 1 = k.val := fun e => by rw [if_pos (by omega)] at hm; omega
      rw [if_neg hp, if_neg this]
      by_cases hq : f.val = k.val + 1
      · rw [if_pos hq]
        show (0 : EReal) + 0 = 0
        rw [add_zero]
      · rw [if_neg hq]
        show (0 : EReal) + 0 = 0
        rw [add_zero]

end Cert.RingAttn
-- ==== Proof.Arrays.lean ====
/- The arrays at the ends of the run: what the kernel's loads of its arguments read, and the array it writes. -/
module

public import proofs.«01_k».proof.Proof.Run
public import Idealize.ShloMosaic.Lib.Pipeline.Value

@[expose] public section

noncomputable section

namespace Cert.RingAttn

open Cert.KernelIdeal Cert.KernelIdeal.Gen
open Idealize.ShloMosaic Idealize.ShloMosaic.TcCoe Idealize.ShloMosaic.Pipeline

variable {F : FTy → Type} [FloatOps F] (m : Mem F) (c : Dev nD)

/-! ## The arguments, as loaded -/

theorem x0_apply (i : S1x256x768.Idx) : x0 m c i = m ((c : Thread nD τ).loc main_arg0) (ix3 (0 : Fin 2) (i 1) (i 2)) := by
  refine congrArg (m ((c : Thread nD τ).loc main_arg0)) (funext fun a => Fin.ext ?_)
  refine (Window.rect_emb_val_of_index_zero win0_0 (0 : Fin 1) a (by revert a; decide) _).trans ?_
  match a with
  | ⟨0, _⟩ => show 0 + 1 * (i 0).val = 0; have : (i 0).val < 1 := (i 0).isLt; omega
  | ⟨1, _⟩ => show 0 + 1 * (i 1).val = (i 1).val; omega
  | ⟨2, _⟩ => show 0 + 1 * (i 2).val = (i 2).val; omega

theorem x1_apply (i : S1x256x768.Idx) : x1 m c i = m ((c : Thread nD τ).loc main_arg0) (ix3 (1 : Fin 2) (i 1) (i 2)) := by
  refine congrArg (m ((c : Thread nD τ).loc main_arg0)) (funext fun a => Fin.ext ?_)
  refine (Window.rect_emb_val_of_index_zero win0_0 (0 : Fin 1) a (by revert a; decide) _).trans ?_
  match a with
  | ⟨0, _⟩ => show 1 + 1 * (i 0).val = 1; have : (i 0).val < 1 := (i 0).isLt; omega
  | ⟨1, _⟩ => show 0 + 1 * (i 1).val = (i 1).val; omega
  | ⟨2, _⟩ => show 0 + 1 * (i 2).val = (i 2).val; omega

/-- A load of a whole two-axis array from its corner. -/
theorem corner_val {n k : ℕ} (i : (⟨2, ![n, k]⟩ : Shape).Idx) (a : Fin 2) :
    (![0, 0] : Fin 2 → ℕ) a + 1 * (i a).val = (i a).val := by
  match a with
  | ⟨0, _⟩ => show 0 + 1 * _ = _; omega
  | ⟨1, _⟩ => show 0 + 1 * _ = _; omega

theorem wqW_eq : wqW m c = m ((c : Thread nD τ).loc main_arg1) :=
  funext fun i => congrArg (m ((c : Thread nD τ).loc main_arg1)) (funext fun a => Fin.ext
    ((Window.rect_emb_val_of_index_zero win0_1 (0 : Fin 1) a (by revert a; decide) _).trans (corner_val (n := 768) (k := 256) i a)))

theorem wkW_eq : wkW m c = m ((c : Thread nD τ).loc main_arg2) :=
  funext fun i => congrArg (m ((c : Thread nD τ).loc main_arg2)) (funext fun a => Fin.ext
    ((Window.rect_emb_val_of_index_zero win0_2 (0 : Fin 1) a (by revert a; decide) _).trans (corner_val (n := 768) (k := 256) i a)))

theorem wvW_eq : wvW m c = m ((c : Thread nD τ).loc main_arg3) :=
  funext fun i => congrArg (m ((c : Thread nD τ).loc main_arg3)) (funext fun a => Fin.ext
    ((Window.rect_emb_val_of_index_zero win0_3 (0 : Fin 1) a (by revert a; decide) _).trans (corner_val (n := 768) (k := 256) i a)))

theorem woW_eq : woW m c = m ((c : Thread nD τ).loc main_arg4) :=
  funext fun i => congrArg (m ((c : Thread nD τ).loc main_arg4)) (funext fun a => Fin.ext
    ((Window.rect_emb_val_of_index_zero win0_4 (0 : Fin 1) a (by revert a; decide) _).trans (corner_val (n := 256) (k := 768) i a)))

/-! ## The result -/

/-- The one grid point's block of the result is the whole of it. -/
theorem out_emb (t : Fin cfg0.N) (i : S2x256x768.Idx) : (win0_5.blk t).view.emb i = i :=
  funext fun a => Fin.ext (Window.rect_emb_val_of_index_zero win0_5 t a (by
    obtain rfl := fin_N t
    revert a; decide) i)

/-- After the run the result holds what the device computed. -/
theorem finalA_5 : finalA m c (5 : Fin 6) = outAt m c := by
  refine (dats (F := F) m 0 c).arrAt_eq_of_cover (5 : Fin 6) (outAt m c) (fun t _ => ?_) fun i => ⟨t₀, by decide, ?_⟩
  · funext i
    exact (congrArg (outAt m c) (out_emb t i)).symm
  · have h := (win0_5.blk t₀).view.emb_mem_set i
    rw [out_emb] at h
    exact h

end Cert.RingAttn
-- ==== Proof.KernelRope.lean ====
/- The kernel's queries, keys and values, read at an index over the extended reals: the projections of the device's rows
   of the sequence, the queries and keys turned by their positions. -/
module

public import proofs.«01_k».proof.Proof.KernelTables
public import proofs.«01_k».proof.Proof.Arrays
public import Idealize.ShloMosaic.Lib.MatmulPlain
public import Idealize.ShloMosaic.Lib.ValueLayout

@[expose] public section

set_option maxRecDepth 16384

noncomputable section

namespace Cert.RingAttn

open Cert.KernelIdeal Cert.KernelIdeal.Gen
open Idealize.ShloMosaic hiding ix1 ix2 ix3 ix4 ix5
open Idealize.ShloMosaic.ValueIdx Idealize.ShloMosaic.TcCoe

/-! ## The arguments -/

/-- Every device holds its rows of one sequence, and the same weights. -/
structure Given (m : Mem Ideal) (X : Fin 2 → Fin 1024 → Fin 768 → EReal) (Wq Wk Wv : Fin 768 → Fin 256 → EReal)
    (Wo : Fin 256 → Fin 768 → EReal) : Prop where
  x : ∀ (c : Dev nD) (b : Fin 2) (r : Fin 256) (e : Fin 768), m ((c : Thread nD τ).loc main_arg0) (ix3 b r e) = X b (pos c r) e
  wq : ∀ (c : Dev nD) (e : Fin 768) (f : Fin 256), m ((c : Thread nD τ).loc main_arg1) (ix2 e f) = Wq e f
  wk : ∀ (c : Dev nD) (e : Fin 768) (f : Fin 256), m ((c : Thread nD τ).loc main_arg2) (ix2 e f) = Wk e f
  wv : ∀ (c : Dev nD) (e : Fin 768) (f : Fin 256), m ((c : Thread nD τ).loc main_arg3) (ix2 e f) = Wv e f
  wo : ∀ (c : Dev nD) (f : Fin 256) (e : Fin 768), m ((c : Thread nD τ).loc main_arg4) (ix2 f e) = Wo f e

/-- The two spellings of an index by three coordinates. -/
theorem ix3_eq {n0 n1 n2 : ℕ} (a : Fin n0) (b : Fin n1) (c : Fin n2) : Idealize.ShloMosaic.ix3 a b c = ix3 a b c :=
  funext fun d => match d with | ⟨0, _⟩ => rfl | ⟨1, _⟩ => rfl | ⟨2, _⟩ => rfl

variable {m : Mem Ideal} {X : Fin 2 → Fin 1024 → Fin 768 → EReal} {Wq Wk Wv : Fin 768 → Fin 256 → EReal}
  {Wo : Fin 256 → Fin 768 → EReal} (G : Given m X Wq Wk Wv Wo) (c : Dev nD)

/-! ## The projections -/

include G in
theorem xPlane_at (b : Fin 2) (r : Fin 256) (e : Fin 768) : xPlane m c b (ix3 (0 : Fin 1) r e) = X b (pos c r) e := by
  match b with
  | 0 => exact ((x0_apply m c _).trans (congrArg _ (ix3_eq _ _ _))).trans (G.x c 0 r e)
  | 1 => exact ((x1_apply m c _).trans (congrArg _ (ix3_eq _ _ _))).trans (G.x c 1 r e)

/-- A shape cast that changes nothing, of a two-axis array. -/
theorem cast_same {a b : ℕ} (w : (⟨2, ![a, b]⟩ : Shape).Idx → EReal) (h : (⟨2, ![a, b]⟩ : Shape).ShapeCasts ⟨2, ![a, b]⟩)
    (i : (⟨2, ![a, b]⟩ : Shape).Idx) : shapeCast ⟨2, ![a, b]⟩ w h i = w i := shapeCast_apply w h i i rfl

include G in
/-- A plane of the rows times weights. -/
theorem times_at {w : Vec Ideal S768x256 .f32} {W : Fin 768 → Fin 256 → EReal} (hw : ∀ e f, w (ix2 e f) = W e f) (b : Fin 2)
    (r f : Fin 256) : times (xPlane m c b) w (ix2 r f) = proj X W b (pos c r) f := by
  refine (Ideal.matmul_plain_apply _ _ _ _ r f).trans ?_
  show Ideal.ofBits .f32 0x00000000#32 + _ = _
  rw [Ideal.ofBits_zero_f32, zero_add]
  refine Finset.sum_congr rfl fun e _ => congrArg₂ (· * ·) ?_ ?_
  · exact (shapeCast_1ab_ab_apply (xPlane m c b) shapeCasts_S1x256x768_S256x768 r e).trans (xPlane_at G c b r e)
  · exact (cast_same w shapeCasts_S768x256_S768x256 _).trans (hw e f)

/-! ## The rotations -/

/-- A sum with one entry of the quarter-turn matrix left. -/
theorem turn_sum (T : Fin 256 → EReal) (f : Fin 256) : ∑ k, T k * v126 m c (ix2 k f) = turn T f := by
  rw [Finset.sum_eq_single (mate f)]
  · rw [turn_at, if_pos rfl, turn]
    split
    · rw [mul_neg, mul_one]
    · rw [mul_one]
  · intro k _ hk
    rw [turn_at, if_neg hk, mul_zero]
  · intro h
    exact absurd (Finset.mem_univ _) h

/-- A row of a projection, turned. -/
theorem roped_at {t : FVec Ideal S256x256 .f32} {T : Fin 256 → EReal} {r : Fin 256} (ht : ∀ f, t (ix2 r f) = T f) (f : Fin 256) :
    roped t (v72 m c) (v73 m c) (v126 m c) (ix2 r f) = rope T (pos c r) f := by
  show t (ix2 r f) * v72 m c (ix2 r f) + FloatOps.matmul _ _ t (v126 m c) _ (ix2 r f) * v73 m c (ix2 r f) = _
  have e : FloatOps.matmul (F := Ideal) dot_S256x256_S256x256_S256x256_1_0_0_1_n_n none t (v126 m c)
      (constant S256x256 .f32 0x00000000#32) (ix2 r f) = turn T f := by
    refine (Ideal.matmul_plain_apply _ _ _ _ r f).trans ?_
    show Ideal.ofBits .f32 0x00000000#32 + _ = _
    rw [Ideal.ofBits_zero_f32, zero_add, ← turn_sum (m := m) c]
    exact Finset.sum_congr rfl fun k _ => congrArg (· * v126 m c (ix2 k f)) (ht k)
  rw [cos_at, sin_at, ht]
  exact congrArg (fun z => T f * ((Real.cos (ang (pos c r) f) : ℝ) : EReal) + z * ((Real.sin (ang (pos c r) f) : ℝ) : EReal)) e

include G

/-- A plane of the rows, projected and turned. -/
theorem turned_at {w : Vec Ideal S768x256 .f32} {W : Fin 768 → Fin 256 → EReal} (hw : ∀ e f, w (ix2 e f) = W e f) (b : Fin 2)
    (r f : Fin 256) : roped (times (xPlane m c b) w) (v72 m c) (v73 m c) (v126 m c) (ix2 r f) = turned X W b (pos c r) f :=
  roped_at c (fun f => times_at G c hw b r f) f

/-! ## Head by head -/

/-- The head's queries. -/
theorem qHead_at (b : Fin 2) (h : Fin 4) (r : Fin 256) (d : Fin 64) :
    qHead m c b h (ix2 r d) = turned X Wq b (pos c r) (col h d) := by
  have e : qHead m c b h (ix2 r d) = qFull m c b (ix2 r (col h d)) := by
    have hs : ∀ (h : Fin 4) (o : ℕ) (x : FVec Ideal S256x256 .f32) (hx : S256x256.Slices ![0, o] S256x64), o = 64 * h.val →
        extractStridedSlice S256x64 ![0, o] x hx (ix2 r d) = x (ix2 r (col h d)) := fun h o x hx ho =>
      slice2_axis1_apply o x hx r d (col h d) (by rw [ho]; rfl)
    exact forall_head (P := fun b h => qHead m c b h (ix2 r d) = qFull m c b (ix2 r (col h d)))
      (hs 0 0 (v199 m c) slices_S256x256_o0_0_S256x64 rfl) (hs 1 64 (v199 m c) slices_S256x256_o0_64_S256x64 rfl)
      (hs 2 128 (v199 m c) slices_S256x256_o0_128_S256x64 rfl) (hs 3 192 (v199 m c) slices_S256x256_o0_192_S256x64 rfl)
      (hs 0 0 (v208 m c) slices_S256x256_o0_0_S256x64 rfl) (hs 1 64 (v208 m c) slices_S256x256_o0_64_S256x64 rfl)
      (hs 2 128 (v208 m c) slices_S256x256_o0_128_S256x64 rfl) (hs 3 192 (v208 m c) slices_S256x256_o0_192_S256x64 rfl) b h
  rw [e, qFull_eq]
  exact turned_at G c (fun e f => by rw [wqW_eq]; exact G.wq c e f) b r (col h d)

/-- A head's columns of a plane. -/
theorem flat_ldAt (p h : Fin 4) (r : Fin 256) (d : Fin 64) :
    flat (ldAt m c p h) (ix2 r d) = kvBlk m c p (ix3 (0 : Fin 1) r (col h d)) :=
  (shapeCast_1ab_ab_apply (ldAt m c p h) shapeCasts_S1x256x64_S256x64 r d).trans (congrArg (kvBlk m c p) (ix3_eq _ _ _))

/-- The head's keys. -/
theorem key_at (b : Fin 2) (h : Fin 4) (r : Fin 256) (d : Fin 64) :
    flat (ldAt m c (planeK b) h) (ix2 r d) = turned X Wk b (pos c r) (col h d) := by
  rw [flat_ldAt G, kvBlk_key]
  refine (shapeCast_ab_1ab_apply _ shapeCasts_S256x256_S1x256x256 0 r (col h d)).trans ?_
  exact turned_at G c (fun e f => by rw [wkW_eq]; exact G.wk c e f) b r (col h d)

/-- The head's values. -/
theorem val_at (b : Fin 2) (h : Fin 4) (r : Fin 256) (d : Fin 64) :
    flat (ldAt m c (planeV b) h) (ix2 r d) = proj X Wv b (pos c r) (col h d) := by
  rw [flat_ldAt G, kvBlk_val]
  refine (shapeCast_ab_1ab_apply _ shapeCasts_S256x256_S1x256x256 0 r (col h d)).trans ?_
  exact times_at G c (fun e f => by rw [wvW_eq]; exact G.wv c e f) b r (col h d)

end Cert.RingAttn
-- ==== Proof.Softmax.lean ====
module

public import Idealize.ShloMosaic.Lib.Pointwise
public import Idealize.ShloMosaic.PureOps.Ideal.Laws

/-!
# The softmax of a row, block by block

Extended-real arithmetic of one row of attention. The scores are real numbers; the values they weigh may be any extended
reals. A running maximum only ever shifts the exponents by a real number, so the sum and the accumulator after any blocks
are the shifted exponentials summed over those blocks, and their quotient does not depend on the shift.
-/

@[expose] public section

noncomputable section

namespace Cert.RingAttn

open Idealize.ShloMosaic
open scoped BigOperators

/-- A real factor that is not negative distributes over a finite sum of extended reals. -/
theorem coe_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hr) (EReal.coe_ne_top r) _ _

/-- The same with the factor on the right. -/
theorem sum_mul_coe {ι : Type} (s : Finset ι) (r : ℝ) (hr : 0 ≤ r) (f : ι → EReal) :
    (∑ i ∈ s, f i) * (r : EReal) = ∑ i ∈ s, f i * (r : EReal) := by
  rw [mul_comm, coe_mul_sum s r hr]
  exact Finset.sum_congr rfl fun i _ => mul_comm _ _

/-- A finite sum of reals, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Changing the shift multiplies every exponential by one factor. -/
theorem exp_shift (s a b : ℝ) : Real.exp (s - b) = Real.exp (s - a) * Real.exp (a - b) := by
  rw [← Real.exp_add]; congr 1; ring

/-- The quotient of the weighted sum by the sum of the exponentials is the sum weighed by the normalized exponentials,
    whatever the two shifts. -/
theorem softmax_shift {ι : Type} [Fintype ι] [Nonempty ι] (s : ι → ℝ) (v : ι → EReal) (a b : ℝ) :
    Ideal.div (∑ j, (Real.exp (s j - a) : EReal) * v j) (∑ j, (Real.exp (s j - a) : EReal))
      = ∑ j, v j * Ideal.div (Real.exp (s j - b) : EReal) (∑ j, (Real.exp (s j - b) : EReal)) := by
  have pos : ∀ t : ℝ, 0 < ∑ j, Real.exp (s j - t) := fun t =>
    Finset.sum_pos (fun j _ => Real.exp_pos _) Finset.univ_nonempty
  have hne : ∀ t : ℝ, (∑ j, (Real.exp (s j - t) : EReal)) ≠ 0 := fun t => by
    rw [← coe_sum]; exact_mod_cast (pos t).ne'
  unfold Ideal.div
  simp only [if_neg (hne a), if_neg (hne b)]
  rw [← coe_sum, ← coe_sum, ← EReal.coe_inv, ← EReal.coe_inv, sum_mul_coe _ _ (inv_nonneg.mpr (pos a).le)]
  refine Finset.sum_congr rfl fun j _ => ?_
  rw [mul_comm (Real.exp (s j - a) : EReal) (v j), mul_assoc, ← EReal.coe_mul, ← EReal.coe_mul]
  congr 2
  have e : ∑ i, Real.exp (s i - b) = (∑ i, Real.exp (s i - a)) * Real.exp (a - b) := by
    rw [Finset.sum_mul]; exact Finset.sum_congr rfl fun i _ => exp_shift _ _ _
  rw [e, exp_shift (s j) a b, mul_inv]
  have h1 := (Real.exp_pos (a - b)).ne'
  field_simp

/-! ## A running sum -/

/-- A running maximum, sum and accumulator that stand for the keys in `S`: the maximum is SOME real number, the others are
    the exponentials shifted by it. -/
structure Holds {ι : Type} (s : ι → ℝ) (v : ι → EReal) (S : Finset ι) (mx l a : EReal) : Prop where
  ex : ∃ μ : ℝ, mx = μ ∧ l = ∑ j ∈ S, (Real.exp (s j - μ) : EReal) ∧ a = ∑ j ∈ S, (Real.exp (s j - μ) : EReal) * v j

/-- Before any key. -/
theorem Holds.empty {ι : Type} (s : ι → ℝ) (v : ι → EReal) (μ : ℝ) : Holds s v ∅ μ 0 0 := ⟨⟨μ, rfl, by simp, by simp⟩⟩

/-- One block `T` of further keys: the sums so far are multiplied by the exponential of the old maximum less the new. -/
theorem Holds.step {ι : Type} [DecidableEq ι] {s : ι → ℝ} {v : ι → EReal} {S T : Finset ι} {mx l a : EReal} (H : Holds s v S mx l a)
    (hd : Disjoint S T) (μ' : ℝ) :
    Holds s v (S ∪ T) μ' (l * Ideal.exp (mx - μ') + ∑ j ∈ T, Ideal.exp ((s j : EReal) - μ'))
      (a * Ideal.exp (mx - μ') + ∑ j ∈ T, Ideal.exp ((s j : EReal) - μ') * v j) := by
  obtain ⟨μ, rfl, rfl, rfl⟩ := H.ex
  have hx : ∀ x : ℝ, Ideal.exp ((x : EReal) - (μ' : EReal)) = (Real.exp (x - μ') : EReal) := fun x => by
    rw [← EReal.coe_sub]; rfl
  have hp : 0 ≤ Real.exp (μ - μ') := (Real.exp_pos _).le
  refine ⟨⟨μ', rfl, ?_, ?_⟩⟩
  · rw [Finset.sum_union hd, hx, sum_mul_coe _ _ hp]
    refine congrArg₂ (· + ·) (Finset.sum_congr rfl fun j _ => ?_) (Finset.sum_congr rfl fun j _ => hx _)
    rw [← EReal.coe_mul, ← exp_shift]
  · rw [Finset.sum_union hd, hx, sum_mul_coe _ _ hp]
    refine congrArg₂ (· + ·) (Finset.sum_congr rfl fun j _ => ?_) (Finset.sum_congr rfl fun j _ => by rw [hx])
    rw [mul_right_comm, ← EReal.coe_mul, ← exp_shift]

/-- A maximum folded over finitely many reals from `⊥`, and a real beside it, is a real. -/
theorem max_fold_real {ι : Type} (S : Finset ι) (f : ι → ℝ) (μ : ℝ) :
    ∃ ν : ℝ, max (μ : EReal) (S.fold max ⊥ fun j => (f j : EReal)) = ν := by
  classical
  induction S using Finset.induction_on with
  | empty => exact ⟨μ, by simp⟩
  | insert a S ha ih =>
    obtain ⟨ν, h⟩ := ih
    refine ⟨max (f a) ν, ?_⟩
    rw [Finset.fold_insert ha, max_left_comm, h]; exact (EReal.coe_strictMono.monotone.map_max).symm

/-- The same with no real beside it, over at least one position. -/
theorem fold_real {ι : Type} [Fintype ι] [Nonempty ι] (f : ι → ℝ) :
    ∃ ν : ℝ, (Finset.univ : Finset ι).fold max ⊥ (fun j => (f j : EReal)) = ν := by
  classical
  obtain ⟨i⟩ := ‹Nonempty ι›
  obtain ⟨ν, h⟩ := max_fold_real (Finset.univ.erase i) f (f i)
  refine ⟨ν, ?_⟩
  rw [← h, ← Finset.insert_erase (Finset.mem_univ i), Finset.fold_insert (Finset.notMem_erase i _), Finset.erase_insert (Finset.notMem_erase i _)]

end Cert.RingAttn

end
-- ==== Proof.RefAttn.lean ====
/- The reference's attention, read at an index: every output element is the projection of the heads' weighted averages,
   once the scores are reals. -/
module

public import proofs.«01_k».proof.Proof.RefRope
public import proofs.«01_k».proof.Proof.Softmax
public import Idealize.ShloMosaic.Lib.Pointwise

@[expose] public section

noncomputable section

namespace Cert.RingAttn

open Cert.ReferenceIdeal Cert.ReferenceIdeal.Gen Cert.ReferenceIdeal.Read
open Idealize.ShloMosaic hiding ix1 ix2 ix3 ix4 ix5
open Idealize.ShloMosaic.ValueIdx

/-! ## Weighted averages -/

/-- The average of `v` with the weights `exp (s j)`. -/
def avg {ι : Type} [Fintype ι] (s : ι → ℝ) (v : ι → EReal) : EReal :=
  Ideal.div (∑ j, ((Real.exp (s j) : ℝ) : EReal) * v j) (∑ j, ((Real.exp (s j) : ℝ) : EReal))

/-- Weighing first and dividing each weight gives the average, whatever is taken off the exponents. -/
theorem avg_of_weights {ι : Type} [Fintype ι] [Nonempty ι] (s : ι → ℝ) (v : ι → EReal) (b : ℝ) :
    ∑ j, v j * Ideal.div ((Real.exp (s j - b) : ℝ) : EReal) (∑ j, ((Real.exp (s j - b) : ℝ) : EReal)) = avg s v := by
  rw [← softmax_shift s v 0 b]; simp only [sub_zero]; rfl

/-- Dividing last gives the average too. -/
theorem avg_of_sums {ι : Type} [Fintype ι] [Nonempty ι] (s : ι → ℝ) (v : ι → EReal) (a : ℝ) :
    Ideal.div (∑ j, ((Real.exp (s j - a) : ℝ) : EReal) * v j) (∑ j, ((Real.exp (s j - a) : ℝ) : EReal)) = avg s v := by
  rw [softmax_shift s v a a, avg_of_weights]

/-! ## The scores and their weights -/

variable (x : S2x1024x768.Idx → EReal) (wq wk wv : S768x256.Idx → EReal) (wo : S256x768.Idx → EReal)

/-- The turned projection of the queries or the keys, of the program's arrays. -/
abbrev turnedOf (w : S768x256.Idx → EReal) := turned (seqOf x) (matOf w)

theorem ref_score (b : Fin 2) (h : Fin 4) (i j : Fin 1024) :
    val_main_v67 (F := Ideal) x wq wk (ix4 b h i j) = scoreOf (turnedOf x wq) (turnedOf x wk) b h i j := by
  rw [val_main_v67_apply, val_main_v65_apply, val_main_v66_apply, val_main_cst_3_apply, ref_keys]
  refine congrArg₂ (· * ·) (Finset.sum_congr rfl fun d _ => ?_) rfl
  refine congrArg₂ (· * ·) ((congrArg _ ?_).trans (ref_turned x wq b i h d)) ((congrArg _ ?_).trans (ref_turned x wk b j h d)) <;>
  exact funext fun a => match a with | ⟨0, _⟩ => rfl | ⟨1, _⟩ => rfl | ⟨2, _⟩ => rfl | ⟨3, _⟩ => rfl

theorem ofBits_neg_inf : Ideal.ofBits .f32 0xFF800000#32 = ⊥ := by
  simp [Ideal.ofBits, Ideal.ieee]

/-- The greatest entry along the last axis. -/
theorem row_max (y : S2x4x1024x1024.Idx → EReal) (b : Fin 2) (h : Fin 4) (i : Fin 1024) :
    Host.reduce (α := Ideal .f32) FloatOps.maximumf y (constant (F := Ideal) S_ .f32 0xFF800000#32)
        reducesTo_S2x4x1024x1024_S2x4x1024_d3 h_S_ (ix3 b h i)
      = Finset.univ.fold max ⊥ fun j : Fin 1024 => y (ix4 b h i j) := by
  rw [Host.reduce_eq_fold, Shape.ReducesTo.fold_fiber_r4_a3]
  rw [← ofBits_neg_inf]
  refine congrArg (fun f => Finset.univ.fold max (Ideal.ofBits .f32 0xFF800000#32) f) (funext fun j => congrArg y ?_)
  exact funext fun a => match a with | ⟨0, _⟩ => rfl | ⟨1, _⟩ => rfl | ⟨2, _⟩ => rfl | ⟨3, _⟩ => rfl

variable {x wq wk} {S : Fin 2 → Fin 4 → Fin 1024 → Fin 1024 → ℝ}
  (hS : ∀ b h i j, scoreOf (turnedOf x wq) (turnedOf x wk) b h i j = S b h i j)
include hS

/-- The row's greatest score is a real. -/
theorem ref_max (b : Fin 2) (h : Fin 4) (i : Fin 1024) : ∃ μ : ℝ, val_main_v68 (F := Ideal) x wq wk (ix3 b h i) = μ := by
  have e : val_main_v68 (F := Ideal) x wq wk (ix3 b h i)
      = Finset.univ.fold max ⊥ fun j : Fin 1024 => ((S b h i j : ℝ) : EReal) := by
    unfold val_main_v68 val_main_cst_4
    rw [row_max]
    simp only [ref_score, hS]
  rw [e]
  exact fold_real _

/-- A row's weights, with a real taken off the scores and divided by their sum. -/
theorem ref_weight (b : Fin 2) (h : Fin 4) (i : Fin 1024) : ∃ μ : ℝ, ∀ j, val_main_v76 (F := Ideal) x wq wk (ix4 b h i j)
    = Ideal.div ((Real.exp (S b h i j - μ) : ℝ) : EReal) (∑ j, ((Real.exp (S b h i j - μ) : ℝ) : EReal)) := by
  obtain ⟨μ, hμ⟩ := ref_max hS b h i
  have h72 : ∀ j, val_main_v72 (F := Ideal) x wq wk (ix4 b h i j) = ((Real.exp (S b h i j - μ) : ℝ) : EReal) := fun j => by
    have e : idx_main_v69 (idx_main_v70 (ix4 b h i j)) = ix3 b h i :=
      funext fun a => match a with | ⟨0, _⟩ => rfl | ⟨1, _⟩ => rfl | ⟨2, _⟩ => rfl
    rw [val_main_v72_apply, val_main_v71_apply, val_main_v70_apply, val_main_v69_apply, e, hμ, ref_score, hS]
    show Ideal.exp (((S b h i j : ℝ) : EReal) - (μ : EReal)) = _
    rw [← EReal.coe_sub]; rfl
  refine ⟨μ, fun j => ?_⟩
  have e : idx_main_v74 (idx_main_v75 (ix4 b h i j)) = ix3 b h i :=
    funext fun a => match a with | ⟨0, _⟩ => rfl | ⟨1, _⟩ => rfl | ⟨2, _⟩ => rfl
  have e3 : ∀ k, idx_main_v73 (ix3 b h i) k = ix4 b h i k := fun k =>
    funext fun a => match a with | ⟨0, _⟩ => rfl | ⟨1, _⟩ => rfl | ⟨2, _⟩ => rfl | ⟨3, _⟩ => rfl
  rw [val_main_v76_apply, val_main_v75_apply, val_main_v74_apply, e, val_main_v73_apply, h72]
  simp only [e3, h72]
  show Ideal.div _ (Ideal.ofBits .f32 0x00000000#32 + _) = _
  rw [Ideal.ofBits_zero_f32, zero_add]

/-- The heads' averages. -/
theorem ref_avg (b : Fin 2) (h : Fin 4) (i : Fin 1024) (d : Fin 64) : val_main_v78 (F := Ideal) x wq wk wv (ix4 b i h d)
    = avg (S b h i) fun j => proj (seqOf x) (matOf wv) b j (col h d) := by
  obtain ⟨μ, hμ⟩ := ref_weight hS b h i
  rw [val_main_v78_apply, val_main_v77_apply, ← avg_of_weights _ _ μ, ref_values]
  refine Finset.sum_congr rfl fun j _ => congrArg₂ (· * ·) ?_ ?_
  · rw [← ref_heads]
    exact congrArg _ (funext fun a => match a with | ⟨0, _⟩ => rfl | ⟨1, _⟩ => rfl | ⟨2, _⟩ => rfl | ⟨3, _⟩ => rfl)
  · rw [← hμ]
    exact congrArg _ (funext fun a => match a with | ⟨0, _⟩ => rfl | ⟨1, _⟩ => rfl | ⟨2, _⟩ => rfl | ⟨3, _⟩ => rfl)

/-- **The reference's output.** -/
theorem ref_out (b : Fin 2) (i : Fin 1024) (e : Fin 768) : val_main_v80 (F := Ideal) x wq wk wv wo (ix3 b i e)
    = outOf (fun h d => avg (S b h i) fun j => proj (seqOf x) (matOf wv) b j (col h d)) (matOf wo) e := by
  rw [val_main_v80_apply]
  refine Finset.sum_congr rfl fun f _ => congrArg₂ (· * ·) ?_ ?_
  · rw [val_main_v79_apply]
    refine Eq.trans ?_ (ref_avg wv hS b ⟨f.val / 64, by omega⟩ i ⟨f.val % 64, by omega⟩)
    refine congrArg _ (funext fun a => Fin.ext (match a with
      | ⟨0, _⟩ => by show ((b.val * 1024 + i.val) * 256 + f.val) / 262144 = b.val; omega
      | ⟨1, _⟩ => by show ((b.val * 1024 + i.val) * 256 + f.val) / 256 % 1024 = i.val; omega
      | ⟨2, _⟩ => by show ((b.val * 1024 + i.val) * 256 + f.val) / 64 % 4 = f.val / 64; omega
      | ⟨3, _⟩ => by show ((b.val * 1024 + i.val) * 256 + f.val) % 64 = f.val % 64; omega))
  · exact congrArg wo (funext fun a => match a with | ⟨0, _⟩ => rfl | ⟨1, _⟩ => rfl)

end Cert.RingAttn
-- ==== Proof.KernelSteps.lean ====
/- One step of a head's running softmax, read at a row and a feature over the extended reals. -/
module

public import proofs.«01_k».proof.Proof.KernelRope
public import proofs.«01_k».proof.Proof.RefAttn
public import Idealize.ShloMosaic.Lib.ValueLayoutCasts

@[expose] public section

set_option maxRecDepth 16384

noncomputable section

namespace Cert.RingAttn

open Cert.KernelIdeal Cert.KernelIdeal.Gen
open Idealize.ShloMosaic hiding ix1 ix2 ix3 ix4 ix5
open Idealize.ShloMosaic.ValueIdx Idealize.ShloMosaic.TcCoe

/-! ## Reductions and broadcasts -/

/-- The greatest entry of a row, as a column. -/
theorem row_greatest (y : FVec Ideal S256x256 .f32) (r : Fin 256) :
    shapeCast S256x1 (multiReduction .maximumf [1] S256 y 0xFF800000#32 reduces_S256x256_S256 (.inl rfl) rfl) shapeCasts_S256_S256x1
        (ix2 r (0 : Fin 1))
      = Finset.univ.fold max ⊥ fun k : Fin 256 => y (ix2 r k) := by
  refine (shapeCast_a_a1_apply _ shapeCasts_S256_S256x1 r 0).trans ?_
  refine (Ideal.multiReduction_maximumf_single y _ reduces_S256x256_S256 _ _ (ix1 r)).trans ?_
  rw [← ofBits_neg_inf]
  refine congrArg (fun f => (Finset.univ : Finset (Fin 256)).fold max (Ideal.ofBits .f32 0xFF800000#32) f) (funext fun k => congrArg y ?_)
  exact funext fun a => match a with | ⟨0, _⟩ => rfl | ⟨1, _⟩ => rfl

/-- The sum of a row, as a column. -/
theorem row_sum (y : FVec Ideal S256x256 .f32) (r : Fin 256) :
    shapeCast S256x1 (multiReduction .add [1] S256 y 0x00000000#32 reduces_S256x256_S256 (.inl rfl) rfl) shapeCasts_S256_S256x1
        (ix2 r (0 : Fin 1))
      = ∑ k : Fin 256, y (ix2 r k) := by
  refine (shapeCast_a_a1_apply _ shapeCasts_S256_S256x1 r 0).trans ?_
  refine (Ideal.multiReduction_add_single y _ reduces_S256x256_S256 _ _ (ix1 r)).trans ?_
  refine Finset.sum_congr rfl fun k _ => congrArg y ?_
  exact funext fun a => match a with | ⟨0, _⟩ => rfl | ⟨1, _⟩ => rfl

/-- A column repeated along the rows. -/
theorem column_at {n : ℕ} (x : (⟨2, ![256, 1]⟩ : Shape).Idx → EReal) (hb : (⟨2, ![256, 1]⟩ : Shape).Broadcasts ⟨2, ![256, n]⟩)
    (r : Fin 256) (k : Fin n) : broadcastTo ⟨2, ![256, n]⟩ x hb (ix2 r k) = x (ix2 r (0 : Fin 1)) := by
  refine broadcastTo_apply x hb (ix2 r k) (ix2 r (0 : Fin 1)) fun a => ?_
  match a with
  | ⟨0, _⟩ => rfl
  | ⟨1, _⟩ => rfl

/-! ## One step -/

variable (q : FVec Ideal S256x64 .f32) (k v : Vec Ideal S1x256x64 .f32)

theorem scores_at (r r' : Fin 256) :
    scores q k (ix2 r r') = (∑ d : Fin 64, q (ix2 r d) * flat k (ix2 r' d)) * eighth := by
  refine congrArg (· * eighth) ?_
  refine (Ideal.matmul_transposedRhs_apply _ q (flat k) _ r r').trans ?_
  show Ideal.ofBits .f32 0x00000000#32 + _ = _
  rw [Ideal.ofBits_zero_f32, zero_add]

theorem stepM_at (mx : FVec Ideal S256x1 .f32) (r : Fin 256) : stepM q k mx (ix2 r (0 : Fin 1))
    = max (mx (ix2 r (0 : Fin 1))) (Finset.univ.fold max ⊥ fun j : Fin 256 => scores q k (ix2 r j)) :=
  congrArg (max (mx (ix2 r (0 : Fin 1)))) (row_greatest (scores q k) r)

theorem stepE_at (mx : FVec Ideal S256x1 .f32) (r j : Fin 256) : stepE q k mx (ix2 r j)
    = Ideal.exp (scores q k (ix2 r j) - stepM q k mx (ix2 r (0 : Fin 1))) :=
  congrArg (fun z => Ideal.exp (scores q k (ix2 r j) - z)) (column_at (stepM q k mx) broadcasts_S256x1_S256x256 r j)

theorem stepL_at (mx l : FVec Ideal S256x1 .f32) (r : Fin 256) : stepL q k mx l (ix2 r (0 : Fin 1))
    = l (ix2 r (0 : Fin 1)) * Ideal.exp (mx (ix2 r (0 : Fin 1)) - stepM q k mx (ix2 r (0 : Fin 1)))
      + ∑ j : Fin 256, stepE q k mx (ix2 r j) :=
  congrArg (l (ix2 r (0 : Fin 1)) * Ideal.exp (mx (ix2 r (0 : Fin 1)) - stepM q k mx (ix2 r (0 : Fin 1))) + ·)
    (row_sum (stepE q k mx) r)

theorem stepA_at (mx : FVec Ideal S256x1 .f32) (a : FVec Ideal S256x64 .f32) (r : Fin 256) (d : Fin 64) :
    stepA q k v mx a (ix2 r d)
      = a (ix2 r d) * Ideal.exp (mx (ix2 r (0 : Fin 1)) - stepM q k mx (ix2 r (0 : Fin 1)))
        + ∑ j : Fin 256, stepE q k mx (ix2 r j) * flat v (ix2 j d) := by
  refine congrArg₂ (· + ·) ?_ ?_
  · exact congrArg (a (ix2 r d) * ·) (column_at (stepC q k mx) broadcasts_S256x1_S256x64 r d)
  · refine (Ideal.matmul_plain_apply _ (stepE q k mx) (flat v) _ r d).trans ?_
    show Ideal.ofBits .f32 0x00000000#32 + _ = _
    rw [Ideal.ofBits_zero_f32, zero_add]

/-! ## The rows of a device -/

theorem pos_inj (c : Dev nD) : Function.Injective (pos c) := fun r r' h => Fin.ext (by
  have : 256 * c.val + r.val = 256 * c.val + r'.val := congrArg Fin.val h
  omega)

/-- The positions of device `c`'s rows. -/
def rowsOf (c : Dev nD) : Finset (Fin 1024) := Finset.univ.map ⟨pos c, pos_inj c⟩

theorem mem_rowsOf {c : Dev nD} {j : Fin 1024} : j ∈ rowsOf c ↔ j.val / 256 = c.val := by
  unfold rowsOf
  rw [Finset.mem_map]
  constructor
  · rintro ⟨r, -, rfl⟩
    show (256 * c.val + r.val) / 256 = c.val
    omega
  · intro h
    exact ⟨⟨j.val % 256, by omega⟩, Finset.mem_univ _, Fin.ext (by show 256 * c.val + j.val % 256 = j.val; omega)⟩

theorem rowsOf_disj {c o : Dev nD} (h : c ≠ o) : Disjoint (rowsOf c) (rowsOf o) :=
  Finset.disjoint_left.mpr fun _ hc ho => h (Fin.ext ((mem_rowsOf.mp hc).symm.trans (mem_rowsOf.mp ho)))

theorem rowsOf_univ (c : Dev nD) : ((rowsOf c ∪ rowsOf (lft c)) ∪ rowsOf (rgt c)) ∪ rowsOf (dia c) = Finset.univ := by
  refine Finset.eq_univ_iff_forall.mpr fun j => ?_
  rw [Finset.mem_union, Finset.mem_union, Finset.mem_union, mem_rowsOf, mem_rowsOf, mem_rowsOf, mem_rowsOf]
  show ((j.val / 256 = c.val ∨ j.val / 256 = (c.val + 3) % 4) ∨ j.val / 256 = (c.val + 1) % 4) ∨ j.val / 256 = (c.val + 2) % 4
  have := c.isLt
  have := j.isLt
  have : nD = 4 := rfl
  omega

/-- A sum over a device's positions is a sum over its rows. -/
theorem sum_rowsOf (o : Dev nD) (f : Fin 1024 → EReal) : ∑ j ∈ rowsOf o, f j = ∑ r : Fin 256, f (pos o r) :=
  Finset.sum_map _ _ _

/-! ## The running softmax -/

/-- At row `r` and feature `d` the three stand for the keys of `S`. -/
def At (st : Run Ideal) (s : Fin 1024 → ℝ) (w : Fin 1024 → EReal) (S : Finset (Fin 1024)) (r : Fin 256) (d : Fin 64) : Prop :=
  Holds s w S (st.mx (ix2 r (0 : Fin 1))) (st.sm (ix2 r (0 : Fin 1))) (st.ac (ix2 r d))

theorem ofBits_start : ∃ μ : ℝ, Ideal.ofBits .f32 0xF149F2CA#32 = (μ : EReal) := by
  refine ⟨-1000000015047466219876688855040, ?_⟩
  simp [Ideal.ofBits, Ideal.ieee, -EReal.coe_mul]
  norm_num

/-- Before the first block. -/
theorem At.init (s : Fin 1024 → ℝ) (w : Fin 1024 → EReal) (r : Fin 256) (d : Fin 64) : At Run.init s w ∅ r d := by
  obtain ⟨μ, hμ⟩ := ofBits_start
  show Holds s w ∅ (Ideal.ofBits .f32 0xF149F2CA#32) (Ideal.ofBits .f32 0x00000000#32) (Ideal.ofBits .f32 0x00000000#32)
  rw [hμ, Ideal.ofBits_zero_f32]
  exact Holds.empty s w μ

/-- One block: the keys and values of device `o`. -/
theorem At.step {q : FVec Ideal S256x64 .f32} {k v : Vec Ideal S1x256x64 .f32} {st : Run Ideal} {s : Fin 1024 → ℝ} {w : Fin 1024 → EReal}
    {S : Finset (Fin 1024)} {r : Fin 256} {d : Fin 64} {o : Dev nD} (H : At st s w S r d)
    (hs : ∀ j, scores q k (ix2 r j) = ((s (pos o j) : ℝ) : EReal)) (hv : ∀ j, flat v (ix2 j d) = w (pos o j))
    (hd : Disjoint S (rowsOf o)) : At (st.step q k v) s w (S ∪ rowsOf o) r d := by
  obtain ⟨μ, hμ, -, -⟩ := H.ex
  obtain ⟨ν, hν⟩ : ∃ ν : ℝ, stepM q k st.mx (ix2 r (0 : Fin 1)) = ν := by
    rw [stepM_at, hμ]
    simp only [hs]
    exact max_fold_real _ _ _
  have h := Holds.step H hd ν
  rw [sum_rowsOf, sum_rowsOf] at h
  show Holds s w _ (stepM q k st.mx (ix2 r (0 : Fin 1))) (stepL q k st.mx st.sm (ix2 r (0 : Fin 1))) (stepA q k v st.mx st.ac (ix2 r d))
  rw [stepL_at, stepA_at]
  simp only [stepE_at, hs, hv, hν]
  exact h

end Cert.RingAttn
-- ==== Proof.KernelOut.lean ====
/- What a device writes, read at an index over the extended reals: the heads' averages over all the keys, joined and
   multiplied by `Wo`. -/
module

public import proofs.«01_k».proof.Proof.KernelSteps

@[expose] public section

set_option maxRecDepth 16384

noncomputable section

namespace Cert.RingAttn

open Cert.KernelIdeal Cert.KernelIdeal.Gen
open Idealize.ShloMosaic hiding ix1 ix2 ix3 ix4 ix5
open Idealize.ShloMosaic.ValueIdx Idealize.ShloMosaic.TcCoe

/-! ## The heads side by side -/

/-- Column `64h + d` of the joined heads is the quotient of head `h` at `d`. -/
theorem joined_at (a : Fin 4 → FVec Ideal S256x64 .f32) (l : Fin 4 → FVec Ideal S256x1 .f32) (r : Fin 256) (h : Fin 4) (d : Fin 64) :
    joined a l (ix2 r (col h d)) = Ideal.div (a h (ix2 r d)) (l h (ix2 r (0 : Fin 1))) := by
  have piece : ∀ h : Fin 4, divf (a h) (broadcastTo S256x64 (l h) broadcasts_S256x1_S256x64) (ix2 r d)
      = Ideal.div (a h (ix2 r d)) (l h (ix2 r (0 : Fin 1))) := fun h =>
    congrArg (Ideal.div (a h (ix2 r d))) (column_at (l h) broadcasts_S256x1_S256x64 r d)
  have off : ∀ (y : Fin 256) (b : Fin 2), b ≠ (1 : Fin 2) → ((ix2 r d : S256x64.Idx) b).val = ((ix2 r y : S256x256.Idx) b).val :=
    fun y b hb => match b, hb with
      | ⟨0, _⟩, _ => rfl
      | ⟨1, _⟩, hb => absurd rfl hb
  refine Eq.trans ?_ (piece h)
  match h with
  | 0 => exact concatenate_apply_piece (t := S256x256) 1 _ _ _ 0 (by show 0 < 4; decide) S256x64 _ rfl rfl 0 rfl (ix2 r d) (off _) rfl
  | 1 => exact concatenate_apply_piece (t := S256x256) 1 _ _ _ 1 (by show 1 < 4; decide) S256x64 _ rfl rfl 64 rfl (ix2 r d) (off _) rfl
  | 2 => exact concatenate_apply_piece (t := S256x256) 1 _ _ _ 2 (by show 2 < 4; decide) S256x64 _ rfl rfl 128 rfl (ix2 r d) (off _) rfl
  | 3 => exact concatenate_apply_piece (t := S256x256) 1 _ _ _ 3 (by show 3 < 4; decide) S256x64 _ rfl rfl 192 rfl (ix2 r d) (off _) rfl

/-- The joined heads times `Wo`. -/
theorem projected_at (a : Fin 4 → FVec Ideal S256x64 .f32) (l : Fin 4 → FVec Ideal S256x1 .f32) (w : Vec Ideal S256x768 .f32)
    (r : Fin 256) (e : Fin 768) : projected a l w (ix3 (0 : Fin 1) r e)
      = outOf (fun h d => Ideal.div (a h (ix2 r d)) (l h (ix2 r (0 : Fin 1)))) (fun f e => w (ix2 f e)) e := by
  refine (shapeCast_ab_1ab_apply _ shapeCasts_S256x768_S1x256x768 0 r e).trans ?_
  refine (Ideal.matmul_plain_apply _ _ _ _ r e).trans ?_
  show Ideal.ofBits .f32 0x00000000#32 + _ = _
  rw [Ideal.ofBits_zero_f32, zero_add]
  refine Finset.sum_congr rfl fun f _ => congrArg₂ (· * ·) ?_ (cast_same w shapeCasts_S256x768_S256x768 _)
  refine Eq.trans (congrArg (fun y => joined a l (ix2 r y)) (Fin.ext ?_)) (joined_at a l r ⟨f.val / 64, by omega⟩ ⟨f.val % 64, by omega⟩)
  show f.val = 64 * (f.val / 64) + f.val % 64
  omega

/-! ## A head over all the keys -/

variable {m : Mem Ideal} {X : Fin 2 → Fin 1024 → Fin 768 → EReal} {Wq Wk Wv : Fin 768 → Fin 256 → EReal}
  {Wo : Fin 256 → Fin 768 → EReal} (G : Given m X Wq Wk Wv Wo) {S : Fin 2 → Fin 4 → Fin 1024 → Fin 1024 → ℝ}
  (hS : ∀ b h i j, scoreOf (turned X Wq) (turned X Wk) b h i j = S b h i j) (c : Dev nD)
include G hS

/-- The scores of a head's row against the keys of device `o`. -/
theorem head_scores (o : Dev nD) (b : Fin 2) (h : Fin 4) (r j : Fin 256) :
    scores (qHead m c b h) (ldAt m o (planeK b) h) (ix2 r j) = ((S b h (pos c r) (pos o j) : ℝ) : EReal) := by
  rw [scores_at, ← hS]
  exact congrArg (· * eighth) (Finset.sum_congr rfl fun d _ => congrArg₂ (· * ·) (qHead_at G c b h r d) (key_at G o b h j d))

/-- The quotient a head ends with. -/
theorem head_avg (b : Fin 2) (h : Fin 4) (r : Fin 256) (d : Fin 64) :
    Ideal.div ((headRun m c b h).ac (ix2 r d)) ((headRun m c b h).sm (ix2 r (0 : Fin 1)))
      = avg (S b h (pos c r)) fun j => proj X Wv b j (col h d) := by
  have st : ∀ {s : Run Ideal} {T : Finset (Fin 1024)} (o : Dev nD),
      At s (S b h (pos c r)) (fun j => proj X Wv b j (col h d)) T r d → Disjoint T (rowsOf o) →
      At (s.step (qHead m c b h) (ldAt m o (planeK b) h) (ldAt m o (planeV b) h)) (S b h (pos c r))
        (fun j => proj X Wv b j (col h d)) (T ∪ rowsOf o) r d := fun o H hd =>
    H.step (head_scores G hS c o b h r) (fun j => val_at G o b h j d) hd
  have h1 := st c (At.init _ _ r d) (Finset.disjoint_empty_left _)
  rw [Finset.empty_union] at h1
  have h2 := st (lft c) h1 (rowsOf_disj (c_ne_lft c))
  have h3 := st (rgt c) h2 (Finset.disjoint_union_left.mpr ⟨rowsOf_disj (c_ne_rgt c), rowsOf_disj (lft_ne_rgt c)⟩)
  have h4 := st (dia c) h3 (Finset.disjoint_union_left.mpr
    ⟨Finset.disjoint_union_left.mpr ⟨rowsOf_disj (c_ne_dia c), rowsOf_disj (lft_ne_dia c)⟩, rowsOf_disj (rgt_ne_dia c)⟩)
  rw [rowsOf_univ] at h4
  obtain ⟨μ, -, hl, ha⟩ := h4.ex
  exact (congrArg₂ Ideal.div ha hl).trans (avg_of_sums _ _ μ)

/-- **What the device writes.** -/
theorem out_at (b : Fin 2) (r : Fin 256) (e : Fin 768) : outAt m c (ix3 b r e)
    = outOf (fun h d => avg (S b h (pos c r)) fun j => proj X Wv b j (col h d)) Wo e := by
  rw [outAt_eq]
  refine (congrArg _ (ix3_eq (0 : Fin 1) r e)).trans ?_
  refine (projected_at _ _ _ r e).trans ?_
  refine Finset.sum_congr rfl fun f _ => congrArg₂ (· * ·) ?_ ?_
  · have := head_avg G hS c b ⟨f.val / 64, by omega⟩ r ⟨f.val % 64, by omega⟩
    rw [← lastL_run, ← lastA_run] at this
    exact this
  · rw [woW_eq]
    exact G.wo c f e

end Cert.RingAttn
-- ==== Proof.Finite.lean ====
/- The precondition, read back: where it holds, the device's block of `x` and the weights `Wq` and `Wk` are real numbers. -/
module

public import proofs.«01_k».proof.Proof.Gen.Pre_finite_inputs_KernelIdeal
public import Idealize.ShloMosaic.Lib.ReduceAll
public import Idealize.ShloMosaic.PureOps.Ideal.Laws

@[expose] public section

noncomputable section

namespace Cert.RingAttn

open Idealize.ShloMosaic Cert.Pre_finite_inputs_KernelIdeal

theorem ofBits_inf : Ideal.ofBits .f32 0x7F800000#32 = ⊤ := by
  simp [Ideal.ofBits, Ideal.ieee]

/-- An extended real whose absolute value is below infinity is a real. -/
theorem real_of_test (a : EReal) (h : Ideal.cmp .olt (max a (-a)) (Ideal.ofBits .f32 0x7F800000#32) = 1#1) : ∃ r : ℝ, a = r := by
  rw [ofBits_inf] at h
  have hlt : max a (-a) < ⊤ := by
    by_contra hn
    have : Ideal.cmp .olt (max a (-a)) ⊤ = 0#1 := by
      show BitVec.ofBool (decide (max a (-a) < ⊤)) = _
      rw [decide_eq_false hn]; rfl
    rw [this] at h
    exact absurd h (by decide)
  induction a with
  | bot => exact absurd (lt_of_le_of_lt (le_max_right _ _) hlt) (by simp)
  | top => exact absurd (lt_of_le_of_lt (le_max_left _ _) hlt) (by simp)
  | coe r => exact ⟨r, rfl⟩

/-- The one index of a scalar. -/
def ixS : S_.Idx := fun a => a.elim0

instance : Subsingleton S_.Idx := ⟨fun _ _ => funext fun a => a.elim0⟩

theorem finite_of_pre {x : FVec Ideal S2x256x768 .f32} {wq wk wv : FVec Ideal S768x256 .f32} {wo : FVec Ideal S256x768 .f32}
    (h : fn (F := Ideal) x wq wk wv wo = fun _ => 1#1) :
    (∀ i, ∃ r : ℝ, x i = (r : EReal)) ∧ (∀ i, ∃ r : ℝ, wq i = (r : EReal)) ∧ ∀ i, ∃ r : ℝ, wk i = (r : EReal) := by
  obtain ⟨h12, h3⟩ := IntOp.andi_eq_one.1 (congrFun h ixS)
  obtain ⟨h1, h2⟩ := IntOp.andi_eq_one.1 h12
  exact ⟨fun i => real_of_test _ (Host.reduce_andi_all _ _ _ _ ixS h1 i), fun i => real_of_test _ (Host.reduce_andi_all _ _ _ _ ixS h2 i),
    fun i => real_of_test _ (Host.reduce_andi_all _ _ _ _ ixS h3 i)⟩

end Cert.RingAttn
-- ==== Proof.Algebraic.lean ====
/- The kernel on four devices and the reference on one compute the same result, once the inputs of the scores are finite. -/
module

public import proofs.«01_k».proof.Defs
public import proofs.«01_k».proof.Proof.KernelOut
public import proofs.«01_k».proof.Proof.Finite
public import proofs.«01_k».proof.Proof.Gen.ReferenceIdeal.Run

@[expose] public section

set_option maxRecDepth 16384

noncomputable section

namespace Cert.RingAttn

open Cert.KernelIdeal Cert.KernelIdeal.Gen
open Idealize.ShloMosaic hiding ix1 ix2 ix3 ix4 ix5
open Idealize.ShloMosaic.ValueIdx Idealize.ShloMosaic.TcCoe Idealize.SL.Sem

/-- A device's block of the whole sequence is its rows. -/
theorem block_at (v : (⟨3, ![2, 1024, 768]⟩ : Shape).Idx → EReal) (hT : Layout.Tiles ⟨3, ![2, 256, 768]⟩ ⟨3, ![2, 1024, 768]⟩ 1 4)
    (c : Dev nD) (b : Fin 2) (r : Fin 256) (e : Fin 768) :
    Layout.block ⟨3, ![2, 256, 768]⟩ ⟨3, ![2, 1024, 768]⟩ 1 4 c v hT (ix3 b r e) = v (ix3 b (pos c r) e) := by
  refine congrArg v (funext fun a => Fin.ext ?_)
  match a with
  | ⟨0, _⟩ => rfl
  | ⟨1, _⟩ => show c.val * 256 + r.val = 256 * c.val + r.val; omega
  | ⟨2, _⟩ => rfl

/-- Every position is some device's row. -/
theorem pos_surj (j : Fin 1024) : ∃ (c : Dev nD) (r : Fin 256), pos c r = j := by
  obtain ⟨r, -, h⟩ := Finset.mem_map.mp (mem_rowsOf (c := (⟨j.val / 256, by show _ < 4; omega⟩ : Dev nD)).mpr rfl)
  exact ⟨_, r, h⟩

variable {m : Mem Ideal} {x : Cert.ReferenceIdeal.S2x1024x768.Idx → EReal} {wq wk wv : Cert.ReferenceIdeal.S768x256.Idx → EReal}
  {wo : Cert.ReferenceIdeal.S256x768.Idx → EReal}

/-- The reference's result on the whole arrays, cut into the devices' blocks, is what the devices write. -/
theorem out_block (G : Given m (seqOf x) (matOf wq) (matOf wk) (matOf wv) (matOf wo))
    (hx : ∀ i, ∃ r : ℝ, x i = (r : EReal)) (hq : ∀ i, ∃ r : ℝ, wq i = (r : EReal)) (hk : ∀ i, ∃ r : ℝ, wk i = (r : EReal))
    (hT : Layout.Tiles ⟨3, ![2, 256, 768]⟩ ⟨3, ![2, 1024, 768]⟩ 1 4) (c : Dev nD) :
    outAt m c = Layout.block ⟨3, ![2, 256, 768]⟩ ⟨3, ![2, 1024, 768]⟩ 1 4 c
      (Cert.ReferenceIdeal.Read.val_main_v80 (F := Ideal) x wq wk wv wo) hT := by
  have real : ∀ b h i j, ∃ r : ℝ, scoreOf (turnedOf x wq) (turnedOf x wk) b h i j = r :=
    scoreOf_real (turned_real (fun _ _ _ => hx _) fun _ _ => hq _) (turned_real (fun _ _ _ => hx _) fun _ _ => hk _)
  choose S hS using real
  funext i
  have hi : i = ix3 (i 0) (i 1) (i 2) := funext fun a => match a with | ⟨0, _⟩ => rfl | ⟨1, _⟩ => rfl | ⟨2, _⟩ => rfl
  rw [hi]
  exact ((out_at G hS c (i 0) (i 1) (i 2)).trans (ref_out wv wo hS (i 0) (pos c (i 1)) (i 2)).symm).trans
    (block_at _ hT c (i 0) (i 1) (i 2)).symm

/-- **The kernel computes the reference.** -/
theorem algebraic : Cert.algebraic_KernelIdeal_ReferenceIdeal_pre_finite_inputs_KernelIdeal (hKernelIdeal := Cert.KernelIdeal.Gen.facts)
    (hReferenceIdeal := Cert.ReferenceIdeal.Gen.facts) (hPre_finite_inputs_KernelIdeal := Cert.Pre_finite_inputs_KernelIdeal.Gen.facts) := by
  intro m g m' g' hp hm
  have G : Given m (seqOf (m' (((0 : Dev Cert.ReferenceIdeal.nD).tc : Thread Cert.ReferenceIdeal.nD Cert.ReferenceIdeal.τ).loc Cert.ReferenceIdeal.main_arg0)))
      (matOf (m' (((0 : Dev Cert.ReferenceIdeal.nD).tc : Thread Cert.ReferenceIdeal.nD Cert.ReferenceIdeal.τ).loc Cert.ReferenceIdeal.main_arg1)))
      (matOf (m' (((0 : Dev Cert.ReferenceIdeal.nD).tc : Thread Cert.ReferenceIdeal.nD Cert.ReferenceIdeal.τ).loc Cert.ReferenceIdeal.main_arg2)))
      (matOf (m' (((0 : Dev Cert.ReferenceIdeal.nD).tc : Thread Cert.ReferenceIdeal.nD Cert.ReferenceIdeal.τ).loc Cert.ReferenceIdeal.main_arg3)))
      (matOf (m' (((0 : Dev Cert.ReferenceIdeal.nD).tc : Thread Cert.ReferenceIdeal.nD Cert.ReferenceIdeal.τ).loc Cert.ReferenceIdeal.main_arg4))) :=
    { x := fun c b r e => (congrFun (hm c).1 (ix3 b r e)).trans (block_at _ _ c b r e)
      wq := fun c e f => congrFun (hm c).2.1 (ix2 e f)
      wk := fun c e f => congrFun (hm c).2.2.1 (ix2 e f)
      wv := fun c e f => congrFun (hm c).2.2.2.1 (ix2 e f)
      wo := fun c f e => congrFun (hm c).2.2.2.2 (ix2 f e) }
  have hx : ∀ i : Cert.ReferenceIdeal.S2x1024x768.Idx, ∃ r : ℝ,
      m' (((0 : Dev Cert.ReferenceIdeal.nD).tc : Thread Cert.ReferenceIdeal.nD Cert.ReferenceIdeal.τ).loc Cert.ReferenceIdeal.main_arg0) i = (r : EReal) := fun i => by
    obtain ⟨c, r, h⟩ := pos_surj (i 1)
    have hi : i = ix3 (i 0) (pos c r) (i 2) := by
      rw [h]; exact funext fun a => match a with | ⟨0, _⟩ => rfl | ⟨1, _⟩ => rfl | ⟨2, _⟩ => rfl
    rw [hi]
    obtain ⟨y, hy⟩ := (finite_of_pre (hp c)).1 (ix3 (i 0) r (i 2))
    exact ⟨y, (G.x c (i 0) r (i 2)).symm.trans hy⟩
  have hq := fun i => (congrArg (fun z => ∃ r : ℝ, z = (r : EReal)) (congrFun (hm 0).2.1 i)).mp ((finite_of_pre (hp 0)).2.1 i)
  have hk := fun i => (congrArg (fun z => ∃ r : ℝ, z = (r : EReal)) (congrFun (hm 0).2.2.1 i)).mp ((finite_of_pre (hp 0)).2.2 i)
  refine ⟨_, ?_, (θ_run Cert.ReferenceIdeal.defs _ _).mono
    (fun r h => ⟨(h 0).1.trans (Cert.ReferenceIdeal.Read.val_main_v80_eq m' 0), (h 0).2⟩) (Cert.ReferenceIdeal.Value.run (F := Ideal) m' g')⟩
  exact (θ_run defs _ _).mono (fun r h c => ⟨(h.1 c (5 : Fin 6)).trans ((finalA_5 m c).trans (out_block G hx hq hk (by decide) c)),
    (h.1 c (0 : Fin 6)).trans (finalA_0 m c), (h.1 c (1 : Fin 6)).trans (finalA_1 m c), (h.1 c (2 : Fin 6)).trans (finalA_2 m c),
    (h.1 c (3 : Fin 6)).trans (finalA_3 m c), (h.1 c (4 : Fin 6)).trans (finalA_4 m c)⟩) (run_main (F := Ideal) m g)

end Cert.RingAttn
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs_KernelIdeal
public import proofs.«01_k».proof.Proof.Gen.Pre_finite_inputs_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
    Cert.Pre_finite_inputs_KernelIdeal.Gen.facts, Cert.Pre_finite_inputs_ReferenceIdeal.Gen.facts, by
  exact ⟨Cert.RingAttn.frame_kernel, Cert.RingAttn.frame_kernelIdeal, fun m g _ => Cert.RingAttn.frame_kernelIdeal m g trivial,
    Cert.RingAttn.frame_reference, fun m g _ => Cert.RingAttn.frame_reference m g trivial, trivial, Cert.RingAttn.algebraic⟩⟩

end Cert.Proof

end
